-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "qk_scale2" .f32 0x3E0293EE#32 (((Real.log 2)⁻¹ * (11863283 / 1048576)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)) (v6 : (c : Dev Cert.Kernel2Ideal.nD) → Buf (Elt Ideal) ((c.tc : Thread Cert.Kernel2Ideal.nD Cert.Kernel2Ideal.τ).loc Cert.Kernel2Ideal.main_v16_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_v16_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v60) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_v63) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v132) = v0 c
          ∧ r.2.mem ((c.tc : Thread Cert.Reference3Ideal.nD Cert.Reference3Ideal.τ).loc Cert.Reference3Ideal.main_v134) = v1 c
          ∧ r.2.mem ((c.tc : Thread Cert.Reference3Ideal.nD Cert.Reference3Ideal.τ).loc Cert.Reference3Ideal.main_v122) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x4096x2048 : Shape := ⟨3, ![2, 4096, 2048]⟩
abbrev S2x4096x512 : Shape := ⟨3, ![2, 4096, 512]⟩
abbrev S1x16 : Shape := ⟨2, ![1, 16]⟩
abbrev S1x2048x2048 : Shape := ⟨3, ![1, 2048, 2048]⟩
abbrev S2x2048 : Shape := ⟨2, ![2, 2048]⟩
abbrev S_ : Shape := ⟨0, ![]⟩

class Facts : Prop where
  bcast_S_S2x4096x2048 : S_.BroadcastsInDim S2x4096x2048 (![] : Fin 0 → Fin S2x4096x2048.rank)
  bcast_S_S2x4096x512 : S_.BroadcastsInDim S2x4096x512 (![] : Fin 0 → Fin S2x4096x512.rank)
  bcast_S_S1x16 : S_.BroadcastsInDim S1x16 (![] : Fin 0 → Fin S1x16.rank)

variable [Facts]

def fn {F : FTy → Type} [FloatOps F] (main_arg0 : FVec F S2x4096x2048 .f32) (main_arg1 : FVec F S2x4096x2048 .f32) (main_arg2 : FVec F S2x4096x2048 .f32) (main_arg3 : FVec F S2x4096x512 .f32) (main_arg4 : FVec F S2x4096x512 .f32) (main_arg5 : FVec F S1x16 .f32) (main_arg6 : FVec F S1x2048x2048 .f32) (main_arg7 : FVec F S2x2048 .f32) : IVec S2x4096x2048 1 × IVec S2x4096x512 1 × IVec S1x16 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_v3 : FVec F S2x4096x512 .f32 := Host.absf main_arg3
  let main_cst_0 : FVec F S_ .f32 := constant S_ .f32 0x7F800000#32
  let main_v4 : FVec F S2x4096x512 .f32 := broadcastInDim S2x4096x512 ![] bcast_S_S2x4096x512 main_cst_0
  let main_v5 : IVec S2x4096x512 1 := cmpf .olt main_v3 main_v4
  let main_v6 : FVec F S1x16 .f32 := Host.absf main_arg5
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  (main_v2, main_v5, main_v8)
-- ==== Kernel.lean ====
abbrev S2x4096x2048 : Shape := ⟨3, ![2, 4096, 2048]⟩
abbrev S2x4096x512 : Shape := ⟨3, ![2, 4096, 512]⟩
abbrev S1x16 : Shape := ⟨2, ![1, 16]⟩
abbrev S1x2048x2048 : Shape := ⟨3, ![1, 2048, 2048]⟩
abbrev S2x2048 : Shape := ⟨2, ![2, 2048]⟩
abbrev S16 : Shape := ⟨1, ![16]⟩
abbrev S2048x2048 : Shape := ⟨2, ![2048, 2048]⟩
abbrev S1x2048 : Shape := ⟨2, ![1, 2048]⟩
abbrev S2048 : Shape := ⟨1, ![2048]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x256x2048 : Shape := ⟨3, ![1, 256, 2048]⟩
abbrev S1x4096x512 : Shape := ⟨3, ![1, 4096, 512]⟩
abbrev S2x4x1024x256 : Shape := ⟨4, ![2, 4, 1024, 256]⟩
abbrev S4x1024x128 : Shape := ⟨3, ![4, 1024, 128]⟩
abbrev S256x2048 : Shape := ⟨2, ![256, 2048]⟩
abbrev S1024x256 : Shape := ⟨2, ![1024, 256]⟩
abbrev S1x256x128 : Shape := ⟨3, ![1, 256, 128]⟩
abbrev S256x128 : Shape := ⟨2, ![256, 128]⟩
abbrev S1024x128 : Shape := ⟨2, ![1024, 128]⟩
abbrev S1x1x1024x256 : Shape := ⟨4, ![1, 1, 1024, 256]⟩
abbrev S1x1x1024x128 : Shape := ⟨4, ![1, 1, 1024, 128]⟩
abbrev S1 : Shape := ⟨1, ![1]⟩
abbrev S1x1024x128 : Shape := ⟨3, ![1, 1024, 128]⟩

abbrev nBuf : Space → Nat
  | .hbm => 54
  | .vmem => 17
  | .smem => 1
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x2048, .f32⟩
  | .hbm, ⟨3, _⟩ => ⟨S2x4096x512, .f32⟩
  | .hbm, ⟨4, _⟩ => ⟨S2x4096x512, .f32⟩
  | .hbm, ⟨5, _⟩ => ⟨S1x16, .f32⟩
  | .hbm, ⟨6, _⟩ => ⟨S1x2048x2048, .f32⟩
  | .hbm, ⟨7, _⟩ => ⟨S2x2048, .f32⟩
  | .hbm, ⟨8, _⟩ => ⟨S16, .f32⟩
  | .hbm, ⟨9, _⟩ => ⟨S2048x2048, .f32⟩
  | .hbm, ⟨10, _⟩ => ⟨S2048x2048, .bf16⟩
  | .hbm, ⟨11, _⟩ => ⟨S2x4096x512, .bf16⟩
  | .hbm, ⟨12, _⟩ => ⟨S2x4096x512, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S_, .i32⟩
  | .hbm, ⟨27, _⟩ => ⟨S256x1, .i32⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S_, .i32⟩
  | .hbm, ⟨33, _⟩ => ⟨S_, .i1⟩
  | .hbm, ⟨34, _⟩ => ⟨S256x1, .i1⟩
  | .hbm, ⟨35, _⟩ => ⟨S256x1, .i1⟩
  | .hbm, ⟨36, _⟩ => ⟨S256x1, .i1⟩
  | .hbm, ⟨37, _⟩ => ⟨S256x1, .i32⟩
  | .hbm, ⟨38, _⟩ => ⟨S256x1, .i32⟩
  | .hbm, ⟨39, _⟩ => ⟨S256x1, .i32⟩
  | .hbm, ⟨40, _⟩ => ⟨S256, .i32⟩
  | .hbm, ⟨41, _⟩ => ⟨S1x256, .i32⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S_, .i1⟩
  | .hbm, ⟨49, _⟩ => ⟨S256x256, .i1⟩
  | .hbm, ⟨50, _⟩ => ⟨S256x256, .i1⟩
  | .hbm, ⟨51, _⟩ => ⟨S256x256, .i1⟩
  | .hbm, ⟨52, _⟩ => ⟨S256x256, .bf16⟩
  | .hbm, ⟨53, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x4096x512, .bf16⟩
  | .local _ .vmem, ⟨7, _⟩ => ⟨S1x4096x512, .bf16⟩
  | .local _ .vmem, ⟨8, _⟩ => ⟨S2048x2048, .bf16⟩
  | .local _ .vmem, ⟨9, _⟩ => ⟨S1x2048, .f32⟩
  | .local _ .vmem, ⟨10, _⟩ => ⟨S256x256, .bf16⟩
  | .local _ .vmem, ⟨11, _⟩ => ⟨S1x256x2048, .f32⟩
  | .local _ .vmem, ⟨12, _⟩ => ⟨S1x256x2048, .f32⟩
  | .local _ .vmem, ⟨13, _⟩ => ⟨S2x4x1024x256, .f32⟩
  | .local _ .vmem, ⟨14, _⟩ => ⟨S4x1024x128, .f32⟩
  | .local _ .vmem, ⟨15, _⟩ => ⟨S4x1024x128, .f32⟩
  | .local _ .vmem, ⟨16, _⟩ => ⟨S256x2048, .f32⟩
  | .local _ .smem, ⟨0, _⟩ => ⟨S16, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_1 : Ref sig .tc := ⟨.hbm, 48, rfl⟩
abbrev main_call1_v0 : Ref sig .tc := ⟨.hbm, 49, rfl⟩
abbrev main_call1_v1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c2_i32 : BitVec 32 := 2#32
  let arg1 : BitVec 32 := BitVec.ofNat 32 (i 1).val
  let v13 : BitVec 32 := Scalar.muli c2_i32 arg1
  let c128_i32 : BitVec 32 := 128#32
  let v14 : BitVec 32 := Scalar.muli v13 c128_i32
  v14
def k0_off1 (i : grid0.Coords) : Fin 3 → Nat :=
  let c0_19 : Index := 0#32
  let c2_i32 : BitVec 32 := 2#32
  let arg1 : BitVec 32 := BitVec.ofNat 32 (i 1).val
  let v13 : BitVec 32 := Scalar.muli c2_i32 arg1
  let c128_i32 : BitVec 32 := 128#32
  let v14 : BitVec 32 := Scalar.muli v13 c128_i32
  let v15 : BitVec 32 := v14
  let v37 : Index := Scalar.indexCast v15
  let c0_20 : Index := 0#32
  ![0, v37.toNat, 0]
def k0_mult2 (i : grid0.Coords) : BitVec 32 :=
  let c2_i32_26 : BitVec 32 := 2#32
  let arg1 : BitVec 32 := BitVec.ofNat 32 (i 1).val
  let v44 : BitVec 32 := Scalar.muli c2_i32_26 arg1
  let c128_i32_27 : BitVec 32 := 128#32
  let v45 : BitVec 32 := Scalar.muli v44 c128_i32_27
  v45
def k0_off2 (i : grid0.Coords) : Fin 3 → Nat :=
  let c0_40 : Index := 0#32
  let c2_i32_26 : BitVec 32 := 2#32
  let arg1 : BitVec 32 := BitVec.ofNat 32 (i 1).val
  let v44 : BitVec 32 := Scalar.muli c2_i32_26 arg1
  let c128_i32_27 : BitVec 32 := 128#32
  let v45 : BitVec 32 := Scalar.muli v44 c128_i32_27
  let v46 : BitVec 32 := v45
  let v68 : Index := Scalar.indexCast v46
  let c128_41 : Index := 128#32
  ![0, v68.toNat, 128]
def k0_mult3 (i : grid0.Coords) : BitVec 32 :=
  let c2_i32_46 : BitVec 32 := 2#32
  let arg1 : BitVec 32 := BitVec.ofNat 32 (i 1).val
  let v75 : BitVec 32 := Scalar.muli c2_i32_46 arg1
  let c128_i32_47 : BitVec 32 := 128#32
  let v76 : BitVec 32 := Scalar.muli v75 c128_i32_47
  v76
def k0_off3 (i : grid0.Coords) : Fin 3 → Nat :=
  let c0_60 : Index := 0#32
  let c2_i32_46 : BitVec 32 := 2#32
  let arg1 : BitVec 32 := BitVec.ofNat 32 (i 1).val
  let v75 : BitVec 32 := Scalar.muli c2_i32_46 arg1
  let c128_i32_47 : BitVec 32 := 128#32
  let v76 : BitVec 32 := Scalar.muli v75 c128_i32_47
  let v77 : BitVec 32 := v76
  let v99 : Index := Scalar.indexCast v77
  let c256_61 : Index := 256#32
  ![0, v99.toNat, 256]
def k0_mult4 (i : grid0.Coords) : BitVec 32 :=
  let c2_i32_66 : BitVec 32 := 2#32
  let arg1 : BitVec 32 := BitVec.ofNat 32 (i 1).val
  let v106 : BitVec 32 := Scalar.muli c2_i32_66 arg1
  let c128_i32_67 : BitVec 32 := 128#32
  let v107 : BitVec 32 := Scalar.muli v106 c128_i32_67
  v107
def k0_off4 (i : grid0.Coords) : Fin 3 → Nat :=
  let c0_80 : Index := 0#32
  let c2_i32_66 : BitVec 32 := 2#32
  let arg1 : BitVec 32 := BitVec.ofNat 32 (i 1).val
  let v106 : BitVec 32 := Scalar.muli c2_i32_66 arg1
  let c128_i32_67 : BitVec 32 := 128#32
  let v107 : BitVec 32 := Scalar.muli v106 c128_i32_67
  let v108 : BitVec 32 := v107
  let v130 : Index := Scalar.indexCast v108
  let c384_81 : Index := 384#32
  ![0, v130.toNat, 384]
def k0_mult5 (i : grid0.Coords) : BitVec 32 :=
  let c2_i32_86 : BitVec 32 := 2#32
  let arg1 : BitVec 32 := BitVec.ofNat 32 (i 1).val
  let v137 : BitVec 32 := Scalar.muli c2_i32_86 arg1
  let c128_i32_89 : BitVec 32 := 128#32
  let v141 : BitVec 32 := Scalar.muli v137 c128_i32_89
  v141
def k0_mult6 (i : grid0.Coords) : BitVec 32 :=
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_146 : BitVec 32 := 1#32
  let v281 : BitVec 32 := Scalar.subi v140 c1_i32_146
  let c128_i32_147 : BitVec 32 := 128#32
  let v282 : BitVec 32 := Scalar.muli v281 c128_i32_147
  v282
def k0_off5 (i : grid0.Coords) : Fin 3 → Nat :=
  let c0_164 : Index := 0#32
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_146 : BitVec 32 := 1#32
  let v281 : BitVec 32 := Scalar.subi v140 c1_i32_146
  let c128_i32_147 : BitVec 32 := 128#32
  let v282 : BitVec 32 := Scalar.muli v281 c128_i32_147
  let v283 : BitVec 32 := v282
  let v305 : Index := Scalar.indexCast v283
  let c0_165 : Index := 0#32
  ![0, v305.toNat, 0]
def k0_mult7 (i : grid0.Coords) : BitVec 32 :=
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_224 : BitVec 32 := 1#32
  let v440 : BitVec 32 := Scalar.subi v140 c1_i32_224
  let c128_i32_225 : BitVec 32 := 128#32
  let v441 : BitVec 32 := Scalar.muli v440 c128_i32_225
  v441
def k0_off6 (i : grid0.Coords) : Fin 3 → Nat :=
  let c0_242 : Index := 0#32
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_224 : BitVec 32 := 1#32
  let v440 : BitVec 32 := Scalar.subi v140 c1_i32_224
  let c128_i32_225 : BitVec 32 := 128#32
  let v441 : BitVec 32 := Scalar.muli v440 c128_i32_225
  let v442 : BitVec 32 := v441
  let v464 : Index := Scalar.indexCast v442
  let c128_243 : Index := 128#32
  ![0, v464.toNat, 128]
def k0_mult8 (i : grid0.Coords) : BitVec 32 :=
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_302 : BitVec 32 := 1#32
  let v599 : BitVec 32 := Scalar.subi v140 c1_i32_302
  let c128_i32_303 : BitVec 32 := 128#32
  let v600 : BitVec 32 := Scalar.muli v599 c128_i32_303
  v600
def k0_off7 (i : grid0.Coords) : Fin 3 → Nat :=
  let c0_320 : Index := 0#32
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_302 : BitVec 32 := 1#32
  let v599 : BitVec 32 := Scalar.subi v140 c1_i32_302
  let c128_i32_303 : BitVec 32 := 128#32
  let v600 : BitVec 32 := Scalar.muli v599 c128_i32_303
  let v601 : BitVec 32 := v600
  let v623 : Index := Scalar.indexCast v601
  let c256_321 : Index := 256#32
  ![0, v623.toNat, 256]
def k0_mult9 (i : grid0.Coords) : BitVec 32 :=
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_364 : BitVec 32 := 1#32
  let v712 : BitVec 32 := Scalar.subi v140 c1_i32_364
  let c128_i32_365 : BitVec 32 := 128#32
  let v713 : BitVec 32 := Scalar.muli v712 c128_i32_365
  v713
def k0_off8 (i : grid0.Coords) : Fin 3 → Nat :=
  let c0_382 : Index := 0#32
  let c2_i32_87 : BitVec 32 := 2#32
  let arg1 : BitVec 32 := BitVec.ofNat 32 (i 1).val
  let v138 : BitVec 32 := Scalar.muli c2_i32_87 arg1
  let c1_i32 : BitVec 32 := 1#32
  let v139 : BitVec 32 := Scalar.subi v138 c1_i32
  let c1_i32_88 : BitVec 32 := 1#32
  let v140 : BitVec 32 := Scalar.maxsi v139 c1_i32_88
  let c1_i32_364 : BitVec 32 := 1#32
  let v712 : BitVec 32 := Scalar.subi v140 c1_i32_364
  let c128_i32_365 : BitVec 32 := 128#32
  let v713 : BitVec 32 := Scalar.muli v712 c128_i32_365
  let v714 : BitVec 32 := v713
  let v736 : Index := Scalar.indexCast v714
  let c384_383 : Index := 384#32
  ![0, v736.toNat, 384]
@[reducible] def k0_t1_loop (i : grid0.Coords) : Scf.Loop 32 :=
  let c0_i32_413 : BitVec 32 := 0#32
  let arg1 : BitVec 32 := BitVec.ofNat 32 (i 1).val
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_415 : BitVec 32 := 1#32
  ⟨c0_i32_413, v800, c1_i32_415⟩
def k0_mult10 (i : grid0.Coords) (k0_t1 : Fin (k0_t1_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  v929
def k0_mult11 (i : grid0.Coords) (k0_t1 : Fin (k0_t1_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_587 : BitVec 32 := 1#32
  let v1060 : BitVec 32 := Scalar.subi v928 c1_i32_587
  let c128_i32_588 : BitVec 32 := 128#32
  let v1061 : BitVec 32 := Scalar.muli v1060 c128_i32_588
  v1061
def k0_off9 (i : grid0.Coords) (k0_t1 : Fin (k0_t1_loop i).trips) : Fin 3 → Nat :=
  let c0_605 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_587 : BitVec 32 := 1#32
  let v1060 : BitVec 32 := Scalar.subi v928 c1_i32_587
  let c128_i32_588 : BitVec 32 := 128#32
  let v1061 : BitVec 32 := Scalar.muli v1060 c128_i32_588
  let v1062 : BitVec 32 := v1061
  let v1084 : Index := Scalar.indexCast v1062
  let c0_606 : Index := 0#32
  ![0, v1084.toNat, 0]
def k0_off10 (i : grid0.Coords) (k0_t1 : Fin (k0_t1_loop i).trips) : Fin 3 → Nat :=
  let c0_637 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1153 : Index := Scalar.indexCast v930
  let c0_638 : Index := 0#32
  ![0, v1153.toNat, 0]
def k0_mult12 (i : grid0.Coords) (k0_t1 : Fin (k0_t1_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_665 : BitVec 32 := 1#32
  let v1207 : BitVec 32 := Scalar.subi v928 c1_i32_665
  let c128_i32_666 : BitVec 32 := 128#32
  let v1208 : BitVec 32 := Scalar.muli v1207 c128_i32_666
  v1208
def k0_off11 (i : grid0.Coords) (k0_t1 : Fin (k0_t1_loop i).trips) : Fin 3 → Nat :=
  let c0_683 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_665 : BitVec 32 := 1#32
  let v1207 : BitVec 32 := Scalar.subi v928 c1_i32_665
  let c128_i32_666 : BitVec 32 := 128#32
  let v1208 : BitVec 32 := Scalar.muli v1207 c128_i32_666
  let v1209 : BitVec 32 := v1208
  let v1231 : Index := Scalar.indexCast v1209
  let c128_684 : Index := 128#32
  ![0, v1231.toNat, 128]
def k0_off12 (i : grid0.Coords) (k0_t1 : Fin (k0_t1_loop i).trips) : Fin 3 → Nat :=
  let c0_715 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1300 : Index := Scalar.indexCast v930
  let c128_716 : Index := 128#32
  ![0, v1300.toNat, 128]
def k0_mult13 (i : grid0.Coords) (k0_t1 : Fin (k0_t1_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_743 : BitVec 32 := 1#32
  let v1354 : BitVec 32 := Scalar.subi v928 c1_i32_743
  let c128_i32_744 : BitVec 32 := 128#32
  let v1355 : BitVec 32 := Scalar.muli v1354 c128_i32_744
  v1355
def k0_off13 (i : grid0.Coords) (k0_t1 : Fin (k0_t1_loop i).trips) : Fin 3 → Nat :=
  let c0_761 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_743 : BitVec 32 := 1#32
  let v1354 : BitVec 32 := Scalar.subi v928 c1_i32_743
  let c128_i32_744 : BitVec 32 := 128#32
  let v1355 : BitVec 32 := Scalar.muli v1354 c128_i32_744
  let v1356 : BitVec 32 := v1355
  let v1378 : Index := Scalar.indexCast v1356
  let c256_762 : Index := 256#32
  ![0, v1378.toNat, 256]
def k0_off14 (i : grid0.Coords) (k0_t1 : Fin (k0_t1_loop i).trips) : Fin 3 → Nat :=
  let c0_793 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1447 : Index := Scalar.indexCast v930
  let c256_794 : Index := 256#32
  ![0, v1447.toNat, 256]
def k0_mult14 (i : grid0.Coords) (k0_t1 : Fin (k0_t1_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_802 : BitVec 32 := 1#32
  let v1458 : BitVec 32 := Scalar.subi v928 c1_i32_802
  let c128_i32_803 : BitVec 32 := 128#32
  let v1459 : BitVec 32 := Scalar.muli v1458 c128_i32_803
  v1459
def k0_off15 (i : grid0.Coords) (k0_t1 : Fin (k0_t1_loop i).trips) : Fin 3 → Nat :=
  let c0_820 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_802 : BitVec 32 := 1#32
  let v1458 : BitVec 32 := Scalar.subi v928 c1_i32_802
  let c128_i32_803 : BitVec 32 := 128#32
  let v1459 : BitVec 32 := Scalar.muli v1458 c128_i32_803
  let v1460 : BitVec 32 := v1459
  let v1482 : Index := Scalar.indexCast v1460
  let c384_821 : Index := 384#32
  ![0, v1482.toNat, 384]
def k0_off16 (i : grid0.Coords) (k0_t1 : Fin (k0_t1_loop i).trips) : Fin 3 → Nat :=
  let c0_833 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c1_i32_415 : BitVec 32 := 1#32
  let arg16 : BitVec 32 := Scf.iv c0_i32_413 c1_i32_415 k0_t1
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1508 : Index := Scalar.indexCast v930
  let c384_834 : Index := 384#32
  ![0, v1508.toNat, 384]
def k0_mult15 (i : grid0.Coords) (k0_t1 : Fin (k0_t1_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  v1528
def k0_mult16 (i : grid0.Coords) (k0_t1 : Fin (k0_t1_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_908 : BitVec 32 := 1#32
  let v1659 : BitVec 32 := Scalar.subi v1527 c1_i32_908
  let c128_i32_909 : BitVec 32 := 128#32
  let v1660 : BitVec 32 := Scalar.muli v1659 c128_i32_909
  v1660
def k0_off17 (i : grid0.Coords) (k0_t1 : Fin (k0_t1_loop i).trips) : Fin 3 → Nat :=
  let c0_926 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_908 : BitVec 32 := 1#32
  let v1659 : BitVec 32 := Scalar.subi v1527 c1_i32_908
  let c128_i32_909 : BitVec 32 := 128#32
  let v1660 : BitVec 32 := Scalar.muli v1659 c128_i32_909
  let v1661 : BitVec 32 := v1660
  let v1683 : Index := Scalar.indexCast v1661
  let c0_927 : Index := 0#32
  ![0, v1683.toNat, 0]
def k0_off18 (i : grid0.Coords) (k0_t1 : Fin (k0_t1_loop i).trips) : Fin 3 → Nat :=
  let c0_958 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v1752 : Index := Scalar.indexCast v1529
  let c0_959 : Index := 0#32
  ![0, v1752.toNat, 0]
def k0_mult17 (i : grid0.Coords) (k0_t1 : Fin (k0_t1_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_986 : BitVec 32 := 1#32
  let v1806 : BitVec 32 := Scalar.subi v1527 c1_i32_986
  let c128_i32_987 : BitVec 32 := 128#32
  let v1807 : BitVec 32 := Scalar.muli v1806 c128_i32_987
  v1807
def k0_off19 (i : grid0.Coords) (k0_t1 : Fin (k0_t1_loop i).trips) : Fin 3 → Nat :=
  let c0_1004 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_986 : BitVec 32 := 1#32
  let v1806 : BitVec 32 := Scalar.subi v1527 c1_i32_986
  let c128_i32_987 : BitVec 32 := 128#32
  let v1807 : BitVec 32 := Scalar.muli v1806 c128_i32_987
  let v1808 : BitVec 32 := v1807
  let v1830 : Index := Scalar.indexCast v1808
  let c128_1005 : Index := 128#32
  ![0, v1830.toNat, 128]
def k0_off20 (i : grid0.Coords) (k0_t1 : Fin (k0_t1_loop i).trips) : Fin 3 → Nat :=
  let c0_1036 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v1899 : Index := Scalar.indexCast v1529
  let c128_1037 : Index := 128#32
  ![0, v1899.toNat, 128]
def k0_mult18 (i : grid0.Coords) (k0_t1 : Fin (k0_t1_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1064 : BitVec 32 := 1#32
  let v1953 : BitVec 32 := Scalar.subi v1527 c1_i32_1064
  let c128_i32_1065 : BitVec 32 := 128#32
  let v1954 : BitVec 32 := Scalar.muli v1953 c128_i32_1065
  v1954
def k0_off21 (i : grid0.Coords) (k0_t1 : Fin (k0_t1_loop i).trips) : Fin 3 → Nat :=
  let c0_1082 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1064 : BitVec 32 := 1#32
  let v1953 : BitVec 32 := Scalar.subi v1527 c1_i32_1064
  let c128_i32_1065 : BitVec 32 := 128#32
  let v1954 : BitVec 32 := Scalar.muli v1953 c128_i32_1065
  let v1955 : BitVec 32 := v1954
  let v1977 : Index := Scalar.indexCast v1955
  let c256_1083 : Index := 256#32
  ![0, v1977.toNat, 256]
def k0_off22 (i : grid0.Coords) (k0_t1 : Fin (k0_t1_loop i).trips) : Fin 3 → Nat :=
  let c0_1114 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v2046 : Index := Scalar.indexCast v1529
  let c256_1115 : Index := 256#32
  ![0, v2046.toNat, 256]
def k0_mult19 (i : grid0.Coords) (k0_t1 : Fin (k0_t1_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1123 : BitVec 32 := 1#32
  let v2057 : BitVec 32 := Scalar.subi v1527 c1_i32_1123
  let c128_i32_1124 : BitVec 32 := 128#32
  let v2058 : BitVec 32 := Scalar.muli v2057 c128_i32_1124
  v2058
def k0_off23 (i : grid0.Coords) (k0_t1 : Fin (k0_t1_loop i).trips) : Fin 3 → Nat :=
  let c0_1141 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1123 : BitVec 32 := 1#32
  let v2057 : BitVec 32 := Scalar.subi v1527 c1_i32_1123
  let c128_i32_1124 : BitVec 32 := 128#32
  let v2058 : BitVec 32 := Scalar.muli v2057 c128_i32_1124
  let v2059 : BitVec 32 := v2058
  let v2081 : Index := Scalar.indexCast v2059
  let c384_1142 : Index := 384#32
  ![0, v2081.toNat, 384]
def k0_off24 (i : grid0.Coords) (k0_t1 : Fin (k0_t1_loop i).trips) : Fin 3 → Nat :=
  let c0_1154 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c1_i32_415 : BitVec 32 := 1#32
  let arg16 : BitVec 32 := Scf.iv c0_i32_413 c1_i32_415 k0_t1
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v2107 : Index := Scalar.indexCast v1529
  let c384_1155 : Index := 384#32
  ![0, v2107.toNat, 384]
@[reducible] def k0_t2_loop (i : grid0.Coords) : Scf.Loop 32 :=
  let c0_i32_413 : BitVec 32 := 0#32
  let arg1 : BitVec 32 := BitVec.ofNat 32 (i 1).val
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let v797 : BitVec 32 := Scalar.addi c0_i32_413 v796
  let c1_i32_416 : BitVec 32 := 1#32
  ⟨v800, v797, c1_i32_416⟩
def k0_mult20 (i : grid0.Coords) (k0_t2 : Fin (k0_t2_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  v929
def k0_mult21 (i : grid0.Coords) (k0_t2 : Fin (k0_t2_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_587 : BitVec 32 := 1#32
  let v1060 : BitVec 32 := Scalar.subi v928 c1_i32_587
  let c128_i32_588 : BitVec 32 := 128#32
  let v1061 : BitVec 32 := Scalar.muli v1060 c128_i32_588
  v1061
def k0_off25 (i : grid0.Coords) (k0_t2 : Fin (k0_t2_loop i).trips) : Fin 3 → Nat :=
  let c0_605 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_587 : BitVec 32 := 1#32
  let v1060 : BitVec 32 := Scalar.subi v928 c1_i32_587
  let c128_i32_588 : BitVec 32 := 128#32
  let v1061 : BitVec 32 := Scalar.muli v1060 c128_i32_588
  let v1062 : BitVec 32 := v1061
  let v1084 : Index := Scalar.indexCast v1062
  let c0_606 : Index := 0#32
  ![0, v1084.toNat, 0]
def k0_off26 (i : grid0.Coords) (k0_t2 : Fin (k0_t2_loop i).trips) : Fin 3 → Nat :=
  let c0_637 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1153 : Index := Scalar.indexCast v930
  let c0_638 : Index := 0#32
  ![0, v1153.toNat, 0]
def k0_mult22 (i : grid0.Coords) (k0_t2 : Fin (k0_t2_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_665 : BitVec 32 := 1#32
  let v1207 : BitVec 32 := Scalar.subi v928 c1_i32_665
  let c128_i32_666 : BitVec 32 := 128#32
  let v1208 : BitVec 32 := Scalar.muli v1207 c128_i32_666
  v1208
def k0_off27 (i : grid0.Coords) (k0_t2 : Fin (k0_t2_loop i).trips) : Fin 3 → Nat :=
  let c0_683 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_665 : BitVec 32 := 1#32
  let v1207 : BitVec 32 := Scalar.subi v928 c1_i32_665
  let c128_i32_666 : BitVec 32 := 128#32
  let v1208 : BitVec 32 := Scalar.muli v1207 c128_i32_666
  let v1209 : BitVec 32 := v1208
  let v1231 : Index := Scalar.indexCast v1209
  let c128_684 : Index := 128#32
  ![0, v1231.toNat, 128]
def k0_off28 (i : grid0.Coords) (k0_t2 : Fin (k0_t2_loop i).trips) : Fin 3 → Nat :=
  let c0_715 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1300 : Index := Scalar.indexCast v930
  let c128_716 : Index := 128#32
  ![0, v1300.toNat, 128]
def k0_mult23 (i : grid0.Coords) (k0_t2 : Fin (k0_t2_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_743 : BitVec 32 := 1#32
  let v1354 : BitVec 32 := Scalar.subi v928 c1_i32_743
  let c128_i32_744 : BitVec 32 := 128#32
  let v1355 : BitVec 32 := Scalar.muli v1354 c128_i32_744
  v1355
def k0_off29 (i : grid0.Coords) (k0_t2 : Fin (k0_t2_loop i).trips) : Fin 3 → Nat :=
  let c0_761 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_743 : BitVec 32 := 1#32
  let v1354 : BitVec 32 := Scalar.subi v928 c1_i32_743
  let c128_i32_744 : BitVec 32 := 128#32
  let v1355 : BitVec 32 := Scalar.muli v1354 c128_i32_744
  let v1356 : BitVec 32 := v1355
  let v1378 : Index := Scalar.indexCast v1356
  let c256_762 : Index := 256#32
  ![0, v1378.toNat, 256]
def k0_off30 (i : grid0.Coords) (k0_t2 : Fin (k0_t2_loop i).trips) : Fin 3 → Nat :=
  let c0_793 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1447 : Index := Scalar.indexCast v930
  let c256_794 : Index := 256#32
  ![0, v1447.toNat, 256]
def k0_mult24 (i : grid0.Coords) (k0_t2 : Fin (k0_t2_loop i).trips) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_802 : BitVec 32 := 1#32
  let v1458 : BitVec 32 := Scalar.subi v928 c1_i32_802
  let c128_i32_803 : BitVec 32 := 128#32
  let v1459 : BitVec 32 := Scalar.muli v1458 c128_i32_803
  v1459
def k0_off31 (i : grid0.Coords) (k0_t2 : Fin (k0_t2_loop i).trips) : Fin 3 → Nat :=
  let c0_820 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_802 : BitVec 32 := 1#32
  let v1458 : BitVec 32 := Scalar.subi v928 c1_i32_802
  let c128_i32_803 : BitVec 32 := 128#32
  let v1459 : BitVec 32 := Scalar.muli v1458 c128_i32_803
  let v1460 : BitVec 32 := v1459
  let v1482 : Index := Scalar.indexCast v1460
  let c384_821 : Index := 384#32
  ![0, v1482.toNat, 384]
def k0_off32 (i : grid0.Coords) (k0_t2 : Fin (k0_t2_loop i).trips) : Fin 3 → Nat :=
  let c0_833 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c2_i32_522 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v921 : BitVec 32 := Scalar.muli c2_i32_522 arg16
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1508 : Index := Scalar.indexCast v930
  let c384_834 : Index := 384#32
  ![0, v1508.toNat, 384]
def k0_mult25 (i : grid0.Coords) (k0_t2 : Fin (k0_t2_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  v1528
def k0_mult26 (i : grid0.Coords) (k0_t2 : Fin (k0_t2_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_908 : BitVec 32 := 1#32
  let v1659 : BitVec 32 := Scalar.subi v1527 c1_i32_908
  let c128_i32_909 : BitVec 32 := 128#32
  let v1660 : BitVec 32 := Scalar.muli v1659 c128_i32_909
  v1660
def k0_off33 (i : grid0.Coords) (k0_t2 : Fin (k0_t2_loop i).trips) : Fin 3 → Nat :=
  let c0_926 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_908 : BitVec 32 := 1#32
  let v1659 : BitVec 32 := Scalar.subi v1527 c1_i32_908
  let c128_i32_909 : BitVec 32 := 128#32
  let v1660 : BitVec 32 := Scalar.muli v1659 c128_i32_909
  let v1661 : BitVec 32 := v1660
  let v1683 : Index := Scalar.indexCast v1661
  let c0_927 : Index := 0#32
  ![0, v1683.toNat, 0]
def k0_off34 (i : grid0.Coords) (k0_t2 : Fin (k0_t2_loop i).trips) : Fin 3 → Nat :=
  let c0_958 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v1752 : Index := Scalar.indexCast v1529
  let c0_959 : Index := 0#32
  ![0, v1752.toNat, 0]
def k0_mult27 (i : grid0.Coords) (k0_t2 : Fin (k0_t2_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_986 : BitVec 32 := 1#32
  let v1806 : BitVec 32 := Scalar.subi v1527 c1_i32_986
  let c128_i32_987 : BitVec 32 := 128#32
  let v1807 : BitVec 32 := Scalar.muli v1806 c128_i32_987
  v1807
def k0_off35 (i : grid0.Coords) (k0_t2 : Fin (k0_t2_loop i).trips) : Fin 3 → Nat :=
  let c0_1004 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_986 : BitVec 32 := 1#32
  let v1806 : BitVec 32 := Scalar.subi v1527 c1_i32_986
  let c128_i32_987 : BitVec 32 := 128#32
  let v1807 : BitVec 32 := Scalar.muli v1806 c128_i32_987
  let v1808 : BitVec 32 := v1807
  let v1830 : Index := Scalar.indexCast v1808
  let c128_1005 : Index := 128#32
  ![0, v1830.toNat, 128]
def k0_off36 (i : grid0.Coords) (k0_t2 : Fin (k0_t2_loop i).trips) : Fin 3 → Nat :=
  let c0_1036 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v1899 : Index := Scalar.indexCast v1529
  let c128_1037 : Index := 128#32
  ![0, v1899.toNat, 128]
def k0_mult28 (i : grid0.Coords) (k0_t2 : Fin (k0_t2_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1064 : BitVec 32 := 1#32
  let v1953 : BitVec 32 := Scalar.subi v1527 c1_i32_1064
  let c128_i32_1065 : BitVec 32 := 128#32
  let v1954 : BitVec 32 := Scalar.muli v1953 c128_i32_1065
  v1954
def k0_off37 (i : grid0.Coords) (k0_t2 : Fin (k0_t2_loop i).trips) : Fin 3 → Nat :=
  let c0_1082 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1064 : BitVec 32 := 1#32
  let v1953 : BitVec 32 := Scalar.subi v1527 c1_i32_1064
  let c128_i32_1065 : BitVec 32 := 128#32
  let v1954 : BitVec 32 := Scalar.muli v1953 c128_i32_1065
  let v1955 : BitVec 32 := v1954
  let v1977 : Index := Scalar.indexCast v1955
  let c256_1083 : Index := 256#32
  ![0, v1977.toNat, 256]
def k0_off38 (i : grid0.Coords) (k0_t2 : Fin (k0_t2_loop i).trips) : Fin 3 → Nat :=
  let c0_1114 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v2046 : Index := Scalar.indexCast v1529
  let c256_1115 : Index := 256#32
  ![0, v2046.toNat, 256]
def k0_mult29 (i : grid0.Coords) (k0_t2 : Fin (k0_t2_loop i).trips) : BitVec 32 :=
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1123 : BitVec 32 := 1#32
  let v2057 : BitVec 32 := Scalar.subi v1527 c1_i32_1123
  let c128_i32_1124 : BitVec 32 := 128#32
  let v2058 : BitVec 32 := Scalar.muli v2057 c128_i32_1124
  v2058
def k0_off39 (i : grid0.Coords) (k0_t2 : Fin (k0_t2_loop i).trips) : Fin 3 → Nat :=
  let c0_1141 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c2_i32_848 : BitVec 32 := 2#32
  let v1526 : BitVec 32 := Scalar.subi v1524 c2_i32_848
  let c1_i32_849 : BitVec 32 := 1#32
  let v1527 : BitVec 32 := Scalar.maxsi v1526 c1_i32_849
  let c1_i32_1123 : BitVec 32 := 1#32
  let v2057 : BitVec 32 := Scalar.subi v1527 c1_i32_1123
  let c128_i32_1124 : BitVec 32 := 128#32
  let v2058 : BitVec 32 := Scalar.muli v2057 c128_i32_1124
  let v2059 : BitVec 32 := v2058
  let v2081 : Index := Scalar.indexCast v2059
  let c384_1142 : Index := 384#32
  ![0, v2081.toNat, 384]
def k0_off40 (i : grid0.Coords) (k0_t2 : Fin (k0_t2_loop i).trips) : Fin 3 → Nat :=
  let c0_1154 : Index := 0#32
  let c2_i32_844 : BitVec 32 := 2#32
  let arg1 : BitVec 32 := BitVec.ofNat 32 (i 1).val
  let v1521 : BitVec 32 := Scalar.muli c2_i32_844 arg1
  let c1_i32_845 : BitVec 32 := 1#32
  let v1522 : BitVec 32 := Scalar.subi v1521 c1_i32_845
  let c2_i32_846 : BitVec 32 := 2#32
  let c2_i32_842 : BitVec 32 := 2#32
  let c0_i32_413 : BitVec 32 := 0#32
  let c0_i32 : BitVec 32 := 0#32
  let v780 : BitVec 1 := Scalar.cmpi .sgt arg1 c0_i32
  let v781 : BitVec 32 := Scalar.extui v780
  let c0_i32_407 : BitVec 32 := 0#32
  let v782 : BitVec 1 := Scalar.cmpi .slt arg1 c0_i32_407
  let v783 : BitVec 32 := Scalar.extui v782
  let v784 : BitVec 32 := Scalar.subi v781 v783
  let c2_i32_406 : BitVec 32 := 2#32
  let c0_i32_408 : BitVec 32 := 0#32
  let v785 : BitVec 1 := Scalar.cmpi .sgt c2_i32_406 c0_i32_408
  let v786 : BitVec 32 := Scalar.extui v785
  let c0_i32_409 : BitVec 32 := 0#32
  let v787 : BitVec 1 := Scalar.cmpi .slt c2_i32_406 c0_i32_409
  let v788 : BitVec 32 := Scalar.extui v787
  let v789 : BitVec 32 := Scalar.subi v786 v788
  let v790 : BitVec 1 := Scalar.cmpi .ne v784 v789
  let v791 : BitVec 32 := Scalar.remsi arg1 c2_i32_406
  let c0_i32_410 : BitVec 32 := 0#32
  let v792 : BitVec 1 := Scalar.cmpi .ne v791 c0_i32_410
  let v793 : BitVec 1 := Scalar.andi v790 v792
  let v779 : BitVec 32 := Scalar.divsi arg1 c2_i32_406
  let c1_i32_411 : BitVec 32 := 1#32
  let v794 : BitVec 32 := Scalar.subi v779 c1_i32_411
  let v795 : BitVec 32 := Scalar.select v793 v794 v779
  let v796 : BitVec 32 := Scalar.subi v795 c0_i32_413
  let c1_i32_414 : BitVec 32 := 1#32
  let v798 : BitVec 32 := Scalar.divsi v796 c1_i32_414
  let v799 : BitVec 32 := Scalar.muli v798 c1_i32_414
  let v800 : BitVec 32 := Scalar.addi c0_i32_413 v799
  let c1_i32_416 : BitVec 32 := 1#32
  let arg16 : BitVec 32 := Scf.iv v800 c1_i32_416 k0_t2
  let v1519 : BitVec 32 := Scalar.muli c2_i32_842 arg16
  let c1_i32_843 : BitVec 32 := 1#32
  let v1520 : BitVec 32 := Scalar.addi v1519 c1_i32_843
  let v1523 : BitVec 32 := Scalar.muli c2_i32_846 v1520
  let v1524 : BitVec 32 := Scalar.subi v1522 v1523
  let c1_i32_847 : BitVec 32 := 1#32
  let v1525 : BitVec 32 := Scalar.subi v1524 c1_i32_847
  let c128_i32_850 : BitVec 32 := 128#32
  let v1528 : BitVec 32 := Scalar.muli v1525 c128_i32_850
  let v1529 : BitVec 32 := v1528
  let v2107 : Index := Scalar.indexCast v1529
  let c384_1155 : Index := 384#32
  ![0, v2107.toNat, 384]
def k0_cond1 (i : grid0.Coords) : BitVec 1 :=
  let arg1 : BitVec 32 := BitVec.ofNat 32 (i 1).val
  let c2_i32_417 : BitVec 32 := 2#32
  let v801 : BitVec 32 := Scalar.remsi arg1 c2_i32_417
  let c1_i32_418 : BitVec 32 := 1#32
  let v802 : BitVec 1 := Scalar.cmpi .eq v801 c1_i32_418
  let v803 : BitVec 32 := Scalar.extui v802
  let c0_i32_419 : BitVec 32 := 0#32
  let v804 : BitVec 1 := Scalar.cmpi .ne v803 c0_i32_419
  v804

def k0_mult30 (i : grid0.Coords) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  v929
def k0_mult31 (i : grid0.Coords) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_587 : BitVec 32 := 1#32
  let v1060 : BitVec 32 := Scalar.subi v928 c1_i32_587
  let c128_i32_588 : BitVec 32 := 128#32
  let v1061 : BitVec 32 := Scalar.muli v1060 c128_i32_588
  v1061
def k0_off41 (i : grid0.Coords) : Fin 3 → Nat :=
  let c0_605 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_587 : BitVec 32 := 1#32
  let v1060 : BitVec 32 := Scalar.subi v928 c1_i32_587
  let c128_i32_588 : BitVec 32 := 128#32
  let v1061 : BitVec 32 := Scalar.muli v1060 c128_i32_588
  let v1062 : BitVec 32 := v1061
  let v1084 : Index := Scalar.indexCast v1062
  let c0_606 : Index := 0#32
  ![0, v1084.toNat, 0]
def k0_off42 (i : grid0.Coords) : Fin 3 → Nat :=
  let c0_637 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1153 : Index := Scalar.indexCast v930
  let c0_638 : Index := 0#32
  ![0, v1153.toNat, 0]
def k0_mult32 (i : grid0.Coords) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_665 : BitVec 32 := 1#32
  let v1207 : BitVec 32 := Scalar.subi v928 c1_i32_665
  let c128_i32_666 : BitVec 32 := 128#32
  let v1208 : BitVec 32 := Scalar.muli v1207 c128_i32_666
  v1208
def k0_off43 (i : grid0.Coords) : Fin 3 → Nat :=
  let c0_683 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_665 : BitVec 32 := 1#32
  let v1207 : BitVec 32 := Scalar.subi v928 c1_i32_665
  let c128_i32_666 : BitVec 32 := 128#32
  let v1208 : BitVec 32 := Scalar.muli v1207 c128_i32_666
  let v1209 : BitVec 32 := v1208
  let v1231 : Index := Scalar.indexCast v1209
  let c128_684 : Index := 128#32
  ![0, v1231.toNat, 128]
def k0_off44 (i : grid0.Coords) : Fin 3 → Nat :=
  let c0_715 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1300 : Index := Scalar.indexCast v930
  let c128_716 : Index := 128#32
  ![0, v1300.toNat, 128]
def k0_mult33 (i : grid0.Coords) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_743 : BitVec 32 := 1#32
  let v1354 : BitVec 32 := Scalar.subi v928 c1_i32_743
  let c128_i32_744 : BitVec 32 := 128#32
  let v1355 : BitVec 32 := Scalar.muli v1354 c128_i32_744
  v1355
def k0_off45 (i : grid0.Coords) : Fin 3 → Nat :=
  let c0_761 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_743 : BitVec 32 := 1#32
  let v1354 : BitVec 32 := Scalar.subi v928 c1_i32_743
  let c128_i32_744 : BitVec 32 := 128#32
  let v1355 : BitVec 32 := Scalar.muli v1354 c128_i32_744
  let v1356 : BitVec 32 := v1355
  let v1378 : Index := Scalar.indexCast v1356
  let c256_762 : Index := 256#32
  ![0, v1378.toNat, 256]
def k0_off46 (i : grid0.Coords) : Fin 3 → Nat :=
  let c0_793 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1447 : Index := Scalar.indexCast v930
  let c256_794 : Index := 256#32
  ![0, v1447.toNat, 256]
def k0_mult34 (i : grid0.Coords) : BitVec 32 :=
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_802 : BitVec 32 := 1#32
  let v1458 : BitVec 32 := Scalar.subi v928 c1_i32_802
  let c128_i32_803 : BitVec 32 := 128#32
  let v1459 : BitVec 32 := Scalar.muli v1458 c128_i32_803
  v1459
def k0_off47 (i : grid0.Coords) : Fin 3 → Nat :=
  let c0_820 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c2_i32_527 : BitVec 32 := 2#32
  let v927 : BitVec 32 := Scalar.subi v925 c2_i32_527
  let c1_i32_528 : BitVec 32 := 1#32
  let v928 : BitVec 32 := Scalar.maxsi v927 c1_i32_528
  let c1_i32_802 : BitVec 32 := 1#32
  let v1458 : BitVec 32 := Scalar.subi v928 c1_i32_802
  let c128_i32_803 : BitVec 32 := 128#32
  let v1459 : BitVec 32 := Scalar.muli v1458 c128_i32_803
  let v1460 : BitVec 32 := v1459
  let v1482 : Index := Scalar.indexCast v1460
  let c384_821 : Index := 384#32
  ![0, v1482.toNat, 384]
def k0_off48 (i : grid0.Coords) : Fin 3 → Nat :=
  let c0_833 : Index := 0#32
  let c2_i32_523 : BitVec 32 := 2#32
  let arg1 : BitVec 32 := BitVec.ofNat 32 (i 1).val
  let v922 : BitVec 32 := Scalar.muli c2_i32_523 arg1
  let c1_i32_524 : BitVec 32 := 1#32
  let v923 : BitVec 32 := Scalar.subi v922 c1_i32_524
  let c2_i32_525 : BitVec 32 := 2#32
  let c1_i32_522 : BitVec 32 := 1#32
  let v921 : BitVec 32 := Scalar.subi arg1 c1_i32_522
  let v924 : BitVec 32 := Scalar.muli c2_i32_525 v921
  let v925 : BitVec 32 := Scalar.subi v923 v924
  let c1_i32_526 : BitVec 32 := 1#32
  let v926 : BitVec 32 := Scalar.subi v925 c1_i32_526
  let c128_i32_529 : BitVec 32 := 128#32
  let v929 : BitVec 32 := Scalar.muli v926 c128_i32_529
  let v930 : BitVec 32 := v929
  let v1508 : Index := Scalar.indexCast v930
  let c384_834 : Index := 384#32
  ![0, v1508.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "qk_scale2" => some (((Real.log 2)⁻¹ * (11863283 / 1048576)⁻¹ : ℝ) : EReal)
  | _ => none
-- ==== ReferenceIdeal.lean ====
abbrev S2x4096x2048 : Shape := ⟨3, ![2, 4096, 2048]⟩
abbrev S2x4096x512 : Shape := ⟨3, ![2, 4096, 512]⟩
abbrev S1x16 : Shape := ⟨2, ![1, 16]⟩
abbrev S1x2048x2048 : Shape := ⟨3, ![1, 2048, 2048]⟩
abbrev S2x2048 : Shape := ⟨2, ![2, 2048]⟩
abbrev S4096 : Shape := ⟨1, ![4096]⟩
abbrev S2x4096x4x4x128 : Shape := ⟨5, ![2, 4096, 4, 4, 128]⟩
abbrev S2x4096x4x128 : Shape := ⟨4, ![2, 4096, 4, 128]⟩
abbrev S16 : Shape := ⟨1, ![16]⟩
abbrev S4x4 : Shape := ⟨2, ![4, 4]⟩
abbrev S2x4x4096x4096x4 : Shape := ⟨5, ![2, 4, 4096, 4096, 4]⟩
abbrev S2x4x4x4096x4096 : Shape := ⟨5, ![2, 4, 4, 4096, 4096]⟩
abbrev S_ : Shape := ⟨0, ![]⟩
abbrev S1x4x4x1x1 : Shape := ⟨5, ![1, 4, 4, 1, 1]⟩
abbrev S1x4096 : Shape := ⟨2, ![1, 4096]⟩
abbrev S4096x1 : Shape := ⟨2, ![4096, 1]⟩
abbrev S4096x4096 : Shape := ⟨2, ![4096, 4096]⟩
abbrev S2x4x128x4x4096 : Shape := ⟨5, ![2, 4, 128, 4, 4096]⟩
abbrev S2048x2048 : Shape := ⟨2, ![2048, 2048]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 110
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x4096x2048, .f32⟩
  | .hbm, ⟨3, _⟩ => ⟨S2x4096x512, .f32⟩
  | .hbm, ⟨4, _⟩ => ⟨S2x4096x512, .f32⟩
  | .hbm, ⟨5, _⟩ => ⟨S1x16, .f32⟩
  | .hbm, ⟨6, _⟩ => ⟨S1x2048x2048, .f32⟩
  | .hbm, ⟨7, _⟩ => ⟨S2x2048, .f32⟩
  | .hbm, ⟨8, _⟩ => ⟨S4096, .i32⟩
  | .hbm, ⟨9, _⟩ => ⟨S2x4096x4x4x128, .f32⟩
  | .hbm, ⟨10, _⟩ => ⟨S2x4096x4x128, .f32⟩
  | .hbm, ⟨11, _⟩ => ⟨S2x4096x4x128, .f32⟩
  | .hbm, ⟨12, _⟩ => ⟨S16, .f32⟩
  | .hbm, ⟨13, _⟩ => ⟨S4x4, .f32⟩
  | .hbm, ⟨14, _⟩ => ⟨S2x4x4096x4096x4, .f32⟩
  | .hbm, ⟨15, _⟩ => ⟨S2x4x4x4096x4096, .f32⟩
  | .hbm, ⟨16, _⟩ => ⟨S_, .f32⟩
  | .hbm, ⟨17, _⟩ => ⟨S2x4x4x4096x4096, .f32⟩
  | .hbm, ⟨18, _⟩ => ⟨S2x4x4x4096x4096, .f32⟩
  | .hbm, ⟨19, _⟩ => ⟨S1x4x4x1x1, .f32⟩
  | .hbm, ⟨20, _⟩ => ⟨S2x4x4x4096x4096, .f32⟩
  | .hbm, ⟨21, _⟩ => ⟨S2x4x4x4096x4096, .f32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S2x4x4x4096x4096, .f32⟩
  | .hbm, ⟨28, _⟩ => ⟨S2x4x4x4096x4096, .f32⟩
  | .hbm, ⟨29, _⟩ => ⟨S_, .f32⟩
  | .hbm, ⟨30, _⟩ => ⟨S2x4x4x4096x4096, .f32⟩
  | .hbm, ⟨31, _⟩ => ⟨S2x4x4x4096x4096, .f32⟩
  | .hbm, ⟨32, _⟩ => ⟨S2x4x4x4096x4096, .f32⟩
  | .hbm, ⟨33, _⟩ => ⟨S2x4x4x4096x4096, .f32⟩
  | .hbm, ⟨34, _⟩ => ⟨S2x4x4x4096x4096, .i1⟩
  | .hbm, ⟨35, _⟩ => ⟨S2x4x4x4096x4096, .f32⟩
  | .hbm, ⟨36, _⟩ => ⟨S2x4x4x4096x4096, .f32⟩
  | .hbm, ⟨37, _⟩ => ⟨S2x4x4x4096x4096, .f32⟩
  | .hbm, ⟨38, _⟩ => ⟨S2x4x4x4096x4096, .f32⟩
  | .hbm, ⟨39, _⟩ => ⟨S2x4x4x4096x4096, .f32⟩
  | .hbm, ⟨40, _⟩ => ⟨S2x4x4x4096x4096, .f32⟩
  | .hbm, ⟨41, _⟩ => ⟨S2x4x4x4096x4096, .f32⟩
  | .hbm, ⟨42, _⟩ => ⟨S2x4x4x4096x4096, .f32⟩
  | .hbm, ⟨43, _⟩ => ⟨S2x4x4x4096x4096, .f32⟩
  | .hbm, ⟨44, _⟩ => ⟨S_, .f32⟩
  | .hbm, ⟨45, _⟩ => ⟨S_, .f32⟩
  | .hbm, ⟨46, _⟩ => ⟨S2x4x4x4096x4096, .i1⟩
  | .hbm, ⟨47, _⟩ => ⟨S2x4x4x4096x4096, .f32⟩
  | .hbm, ⟨48, _⟩ => ⟨S2x4x4x4096x4096, .f32⟩
  | .hbm, ⟨49, _⟩ => ⟨S_, .f32⟩
  | .hbm, ⟨50, _⟩ => ⟨S_, .f32⟩
  | .hbm, ⟨51, _⟩ => ⟨S2x4x4x4096x4096, .f32⟩
  | .hbm, ⟨52, _⟩ => ⟨S2x4x4x4096x4096, .f32⟩
  | .hbm, ⟨53, _⟩ => ⟨S2x4x4x4096x4096, .f32⟩
  | .hbm, ⟨54, _⟩ => ⟨S_, .f32⟩
  | .hbm, ⟨55, _⟩ => ⟨S2x4x4x4096x4096, .f32⟩
  | .hbm, ⟨56, _⟩ => ⟨S2x4x4x4096x4096, .f32⟩
  | .hbm, ⟨57, _⟩ => ⟨S2x4x4x4096x4096, .f32⟩
  | .hbm, ⟨58, _⟩ => ⟨S2x4x4x4096x4096, .f32⟩
  | .hbm, ⟨59, _⟩ => ⟨S2x4x4x4096x4096, .i1⟩
  | .hbm, ⟨60, _⟩ => ⟨S2x4x4x4096x4096, .f32⟩
  | .hbm, ⟨61, _⟩ => ⟨S2x4x4x4096x4096, .f32⟩
  | .hbm, ⟨62, _⟩ => ⟨S2x4x4x4096x4096, .f32⟩
  | .hbm, ⟨63, _⟩ => ⟨S2x4x4x4096x4096, .f32⟩
  | .hbm, ⟨64, _⟩ => ⟨S2x4x4x4096x4096, .f32⟩
  | .hbm, ⟨65, _⟩ => ⟨S2x4x4x4096x4096, .f32⟩
  | .hbm, ⟨66, _⟩ => ⟨S2x4x4x4096x4096, .f32⟩
  | .hbm, ⟨67, _⟩ => ⟨S2x4x4x4096x4096, .f32⟩
  | .hbm, ⟨68, _⟩ => ⟨S2x4x4x4096x4096, .f32⟩
  | .hbm, ⟨69, _⟩ => ⟨S2x4x4x4096x4096, .f32⟩
  | .hbm, ⟨70, _⟩ => ⟨S2x4x4x4096x4096, .f32⟩
  | .hbm, ⟨71, _⟩ => ⟨S_, .f32⟩
  | .hbm, ⟨72, _⟩ => ⟨S_, .f32⟩
  | .hbm, ⟨73, _⟩ => ⟨S2x4x4x4096x4096, .i1⟩
  | .hbm, ⟨74, _⟩ => ⟨S2x4x4x4096x4096, .f32⟩
  | .hbm, ⟨75, _⟩ => ⟨S2x4x4x4096x4096, .f32⟩
  | .hbm, ⟨76, _⟩ => ⟨S2x4x128x4x4096, .f32⟩
  | .hbm, ⟨77, _⟩ => ⟨S2x4096x4x4x128, .f32⟩
  | .hbm, ⟨78, _⟩ => ⟨S2x4096x2048, .f32⟩
  | .hbm, ⟨79, _⟩ => ⟨S2x4096x2048, .f32⟩
  | .hbm, ⟨80, _⟩ => ⟨S2x4096x2048, .f32⟩
  | .hbm, ⟨81, _⟩ => ⟨S_, .f32⟩
  | .hbm, ⟨82, _⟩ => ⟨S2x4096x2048, .f32⟩
  | .hbm, ⟨83, _⟩ => ⟨S2x4096x2048, .f32⟩
  | .hbm, ⟨84, _⟩ => ⟨S_, .f32⟩
  | .hbm, ⟨85, _⟩ => ⟨S2x4096x2048, .f32⟩
  | .hbm, ⟨86, _⟩ => ⟨S2x4096x2048, .f32⟩
  | .hbm, ⟨87, _⟩ => ⟨S2x4096x2048, .f32⟩
  | .hbm, ⟨88, _⟩ => ⟨S2x4096x2048, .f32⟩
  | .hbm, ⟨89, _⟩ => ⟨S2048x2048, .f32⟩
  | .hbm, ⟨90, _⟩ => ⟨S2x4096x2048, .f32⟩
  | .hbm, ⟨91, _⟩ => ⟨S1x2048, .f32⟩
  | .hbm, ⟨92, _⟩ => ⟨S2048, .f32⟩
  | .hbm, ⟨93, _⟩ => ⟨S2x4096x2048, .f32⟩
  | .hbm, ⟨94, _⟩ => ⟨S_, .f32⟩
  | .hbm, ⟨95, _⟩ => ⟨S2x4096, .f32⟩
  | .hbm, ⟨96, _⟩ => ⟨S2x4096x1, .f32⟩
  | .hbm, ⟨97, _⟩ => ⟨S_, .f32⟩
  | .hbm, ⟨98, _⟩ => ⟨S2x4096x1, .f32⟩
  | .hbm, ⟨99, _⟩ => ⟨S2x4096x1, .f32⟩
  | .hbm, ⟨100, _⟩ => ⟨S_, .f32⟩
  | .hbm, ⟨101, _⟩ => ⟨S2x4096x1, .f32⟩
  | .hbm, ⟨102, _⟩ => ⟨S2x4096x1, .f32⟩
  | .hbm, ⟨103, _⟩ => ⟨S2x4096x1, .f32⟩
  | .hbm, ⟨104, _⟩ => ⟨S2x4096x2048, .f32⟩
  | .hbm, ⟨105, _⟩ => ⟨S2x4096x2048, .f32⟩
  | .hbm, ⟨106, _⟩ => ⟨S1x1x2048, .f32⟩
  | .hbm, ⟨107, _⟩ => ⟨S2x4096x2048, .f32⟩
  | .hbm, ⟨108, _⟩ => ⟨S2x4096x2048, .f32⟩
  | .hbm, ⟨109, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v19 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v20 : Ref sig .tc := ⟨.hbm, 48, rfl⟩
abbrev main_call2_cst : Ref sig .tc := ⟨.hbm, 49, rfl⟩
abbrev main_call2_v0 : Ref sig .tc := ⟨.hbm, 50, rfl⟩
abbrev main_v21 : Ref sig .tc := ⟨.hbm, 51, rfl⟩
abbrev main_v22 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_call5_v0 : Ref sig .tc := ⟨.hbm, 79, rfl⟩
abbrev main_call5_v1 : Ref sig .tc := ⟨.hbm, 80, rfl⟩
abbrev main_call5_cst : Ref sig .tc := ⟨.hbm, 81, rfl⟩
abbrev main_call5_v2 : Ref sig .tc := ⟨.hbm, 82, rfl⟩
abbrev main_call5_v3 : Ref sig .tc := ⟨.hbm, 83, rfl⟩
abbrev main_call5_cst_0 : Ref sig .tc := ⟨.hbm, 84, rfl⟩
abbrev main_call5_v4 : Ref sig .tc := ⟨.hbm, 85, rfl⟩
abbrev main_call5_v5 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_cst_2 : Ref sig .tc := ⟨.hbm, 94, rfl⟩
abbrev main_v37 : Ref sig .tc := ⟨.hbm, 95, rfl⟩
abbrev main_v38 : Ref sig .tc := ⟨.hbm, 96, rfl⟩
abbrev main_cst_3 : Ref sig .tc := ⟨.hbm, 97, rfl⟩
abbrev main_v39 : Ref sig .tc := ⟨.hbm, 98, rfl⟩
abbrev main_v40 : Ref sig .tc := ⟨.hbm, 99, rfl⟩
abbrev main_cst_4 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩

abbrev nD : Nat := 1
abbrev τ : Topo := Topo.v7x

variable {F : FTy → Type} [FloatOps F]
-- ==== Kernel2.lean ====
abbrev S2x4096x2560 : Shape := ⟨3, ![2, 4096, 2560]⟩
abbrev S2x4096x2048 : Shape := ⟨3, ![2, 4096, 2048]⟩
abbrev S1x2560x2048 : Shape := ⟨3, ![1, 2560, 2048]⟩
abbrev S2x2048 : Shape := ⟨2, ![2, 2048]⟩
abbrev S2048 : Shape := ⟨1, ![2048]⟩
abbrev S2048x512 : Shape := ⟨2, ![2048, 512]⟩
abbrev S1x2048x4096 : Shape := ⟨3, ![1, 2048, 4096]⟩
abbrev S2560x2048 : Shape := ⟨2, ![2560, 2048]⟩
abbrev S2048x1024 : Shape := ⟨2, ![2048, 1024]⟩
abbrev S2048x4096 : Shape := ⟨2, ![2048, 4096]⟩
abbrev S1x2048 : Shape := ⟨2, ![1, 2048]⟩
abbrev S8192x2560 : Shape := ⟨2, ![8192, 2560]⟩
abbrev S8192x2048 : Shape := ⟨2, ![8192, 2048]⟩
abbrev S8192x4x128 : Shape := ⟨3, ![8192, 4, 128]⟩
abbrev S8192x512 : Shape := ⟨2, ![8192, 512]⟩
abbrev S256x2560 : Shape := ⟨2, ![256, 2560]⟩
abbrev S256x2048 : Shape := ⟨2, ![256, 2048]⟩
abbrev S256x4x128 : Shape := ⟨3, ![256, 4, 128]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S256x1x128 : Shape := ⟨3, ![256, 1, 128]⟩

abbrev nBuf : Space → Nat
  | .hbm => 32
  | .vmem => 25
  | .smem => 0
  | _ => 0

abbrev bufTy : (tb : Table) → Fin (tcTables nBuf tb) → BufTy
  | .hbm, ⟨0, _⟩ => ⟨S2x4096x2560, .f32⟩
  | .hbm, ⟨1, _⟩ => ⟨S2x4096x2048, .f32⟩
  | .hbm, ⟨2, _⟩ => ⟨S1x2560x2048, .f32⟩
  | .hbm, ⟨3, _⟩ => ⟨S2x2048, .f32⟩
  | .hbm, ⟨4, _⟩ => ⟨S2048, .f32⟩
  | .hbm, ⟨5, _⟩ => ⟨S2048x512, .f32⟩
  | .hbm, ⟨6, _⟩ => ⟨S2048x512, .f32⟩
  | .hbm, ⟨7, _⟩ => ⟨S2x2048, .f32⟩
  | .hbm, ⟨8, _⟩ => ⟨S1x2048x4096, .f32⟩
  | .hbm, ⟨9, _⟩ => ⟨S2560x2048, .f32⟩
  | .hbm, ⟨10, _⟩ => ⟨S2560x2048, .bf16⟩
  | .hbm, ⟨11, _⟩ => ⟨S2048x1024, .f32⟩
  | .hbm, ⟨12, _⟩ => ⟨S2048x1024, .bf16⟩
  | .hbm, ⟨13, _⟩ => ⟨S2048x4096, .f32⟩
  | .hbm, ⟨14, _⟩ => ⟨S2048x4096, .bf16⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2x4096x2560, .bf16⟩
  | .hbm, ⟨23, _⟩ => ⟨S8192x2560, .bf16⟩
  | .hbm, ⟨24, _⟩ => ⟨S8192x2048, .f32⟩
  | .hbm, ⟨25, _⟩ => ⟨S8192x2048, .f32⟩
  | .hbm, ⟨26, _⟩ => ⟨S8192x4x128, .f32⟩
  | .hbm, ⟨27, _⟩ => ⟨S8192x4x128, .f32⟩
  | .hbm, ⟨28, _⟩ => ⟨S8192x512, .bf16⟩
  | .hbm, ⟨29, _⟩ => ⟨S8192x512, .bf16⟩
  | .hbm, ⟨30, _⟩ => ⟨S8192x2048, .bf16⟩
  | .hbm, ⟨31, _⟩ => ⟨S8192x2048, .f32⟩
  | .local _ .vmem, ⟨0, _⟩ => ⟨S256x2560, .bf16⟩
  | .local _ .vmem, ⟨1, _⟩ => ⟨S256x2560, .bf16⟩
  | .local _ .vmem, ⟨2, _⟩ => ⟨S256x2048, .f32⟩
  | .local _ .vmem, ⟨3, _⟩ => ⟨S256x2048, .f32⟩
  | .local _ .vmem, ⟨4, _⟩ => ⟨S2560x2048, .bf16⟩
  | .local _ .vmem, ⟨5, _⟩ => ⟨S1x2048, .f32⟩
  | .local _ .vmem, ⟨6, _⟩ => ⟨S1x2048, .f32⟩
  | .local _ .vmem, ⟨7, _⟩ => ⟨S2048x1024, .bf16⟩
  | .local _ .vmem, ⟨8, _⟩ => ⟨S1x2048, .f32⟩
  | .local _ .vmem, ⟨9, _⟩ => ⟨S2048x4096, .bf16⟩
  | .local _ .vmem, ⟨10, _⟩ => ⟨S256x2048, .f32⟩
  | .local _ .vmem, ⟨11, _⟩ => ⟨S256x2048, .f32⟩
  | .local _ .vmem, ⟨12, _⟩ => ⟨S256x4x128, .f32⟩
  | .local _ .vmem, ⟨13, _⟩ => ⟨S256x4x128, .f32⟩
  | .local _ .vmem, ⟨14, _⟩ => ⟨S256x4x128, .f32⟩
  | .local _ .vmem, ⟨15, _⟩ => ⟨S256x4x128, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | _, _ => ⟨S2x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S2x4096x2560 : Shape := ⟨3, ![2, 4096, 2560]⟩
abbrev S2x4096x2048 : Shape := ⟨3, ![2, 4096, 2048]⟩
abbrev S1x2560x2048 : Shape := ⟨3, ![1, 2560, 2048]⟩
abbrev S2x2048 : Shape := ⟨2, ![2, 2048]⟩
abbrev S2048 : Shape := ⟨1, ![2048]⟩
abbrev S2048x512 : Shape := ⟨2, ![2048, 512]⟩
abbrev S1x2048x4096 : Shape := ⟨3, ![1, 2048, 4096]⟩
abbrev S2560x2048 : Shape := ⟨2, ![2560, 2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x512 : Shape := ⟨3, ![2, 4096, 512]⟩
abbrev S2048x4096 : Shape := ⟨2, ![2048, 4096]⟩
abbrev S2x4096x4096 : Shape := ⟨3, ![2, 4096, 4096]⟩
abbrev S8192x2048 : Shape := ⟨2, ![8192, 2048]⟩
abbrev S8192x4x128 : Shape := ⟨3, ![8192, 4, 128]⟩
abbrev S8192x512 : Shape := ⟨2, ![8192, 512]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x2560, .f32⟩
  | .hbm, ⟨1, _⟩ => ⟨S2x4096x2048, .f32⟩
  | .hbm, ⟨2, _⟩ => ⟨S1x2560x2048, .f32⟩
  | .hbm, ⟨3, _⟩ => ⟨S2x2048, .f32⟩
  | .hbm, ⟨4, _⟩ => ⟨S2048, .f32⟩
  | .hbm, ⟨5, _⟩ => ⟨S2048x512, .f32⟩
  | .hbm, ⟨6, _⟩ => ⟨S2048x512, .f32⟩
  | .hbm, ⟨7, _⟩ => ⟨S2x2048, .f32⟩
  | .hbm, ⟨8, _⟩ => ⟨S1x2048x4096, .f32⟩
  | .hbm, ⟨9, _⟩ => ⟨S2560x2048, .f32⟩
  | .hbm, ⟨10, _⟩ => ⟨S2x4096x2048, .f32⟩
  | .hbm, ⟨11, _⟩ => ⟨S1x2048, .f32⟩
  | .hbm, ⟨12, _⟩ => ⟨S2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S_, .f32⟩
  | .hbm, ⟨32, _⟩ => ⟨S2x4096, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x1, .f32⟩
  | .hbm, ⟨41, _⟩ => ⟨S2x4096x2048, .f32⟩
  | .hbm, ⟨42, _⟩ => ⟨S2x4096x2048, .f32⟩
  | .hbm, ⟨43, _⟩ => ⟨S1x1x2048, .f32⟩
  | .hbm, ⟨44, _⟩ => ⟨S2x4096x2048, .f32⟩
  | .hbm, ⟨45, _⟩ => ⟨S2x4096x2048, .f32⟩
  | .hbm, ⟨46, _⟩ => ⟨S2x4096x512, .f32⟩
  | .hbm, ⟨47, _⟩ => ⟨S2x4096x512, .f32⟩
  | .hbm, ⟨48, _⟩ => ⟨S1x2048, .f32⟩
  | .hbm, ⟨49, _⟩ => ⟨S2048, .f32⟩
  | .hbm, ⟨50, _⟩ => ⟨S2x4096x2048, .f32⟩
  | .hbm, ⟨51, _⟩ => ⟨S_, .f32⟩
  | .hbm, ⟨52, _⟩ => ⟨S2x4096, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S_, .f32⟩
  | .hbm, ⟨58, _⟩ => ⟨S2x4096x1, .f32⟩
  | .hbm, ⟨59, _⟩ => ⟨S2x4096x1, .f32⟩
  | .hbm, ⟨60, _⟩ => ⟨S2x4096x1, .f32⟩
  | .hbm, ⟨61, _⟩ => ⟨S2x4096x2048, .f32⟩
  | .hbm, ⟨62, _⟩ => ⟨S2x4096x2048, .f32⟩
  | .hbm, ⟨63, _⟩ => ⟨S1x1x2048, .f32⟩
  | .hbm, ⟨64, _⟩ => ⟨S2x4096x2048, .f32⟩
  | .hbm, ⟨65, _⟩ => ⟨S2x4096x2048, .f32⟩
  | .hbm, ⟨66, _⟩ => ⟨S2048x4096, .f32⟩
  | .hbm, ⟨67, _⟩ => ⟨S2x4096x4096, .f32⟩
  | .hbm, ⟨68, _⟩ => ⟨S2x4096x2048, .f32⟩
  | .hbm, ⟨69, _⟩ => ⟨S2x4096x2048, .f32⟩
  | .hbm, ⟨70, _⟩ => ⟨S_, .f32⟩
  | .hbm, ⟨71, _⟩ => ⟨S2x4096x2048, .f32⟩
  | .hbm, ⟨72, _⟩ => ⟨S2x4096x2048, .f32⟩
  | .hbm, ⟨73, _⟩ => ⟨S8192x2048, .f32⟩
  | .hbm, ⟨74, _⟩ => ⟨S8192x4x128, .f32⟩
  | .hbm, ⟨75, _⟩ => ⟨S8192x4x128, .f32⟩
  | .hbm, ⟨76, _⟩ => ⟨S8192x512, .f32⟩
  | .hbm, ⟨77, _⟩ => ⟨S8192x512, .bf16⟩
  | .hbm, ⟨78, _⟩ => ⟨S8192x512, .f32⟩
  | .hbm, ⟨79, _⟩ => ⟨S8192x512, .bf16⟩
  | .hbm, ⟨80, _⟩ => ⟨S8192x2048, .f32⟩
  | .hbm, ⟨81, _⟩ => ⟨S8192x2048, .bf16⟩
  | .hbm, ⟨82, _⟩ => ⟨S8192x2048, .f32⟩
  | _, _ => ⟨S2x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel3.lean ====
abbrev S32x4x2048 : Shape := ⟨3, ![32, 4, 2048]⟩
abbrev S32x1x3x2560 : Shape := ⟨4, ![32, 1, 3, 2560]⟩
abbrev S32x1x2560 : Shape := ⟨3, ![32, 1, 2560]⟩
abbrev S2x2048 : Shape := ⟨2, ![2, 2048]⟩
abbrev S1x2048x5120 : Shape := ⟨3, ![1, 2048, 5120]⟩
abbrev S1x4x2560 : Shape := ⟨3, ![1, 4, 2560]⟩
abbrev S1x2560 : Shape := ⟨2, ![1, 2560]⟩
abbrev S1x10x256x256 : Shape := ⟨4, ![1, 10, 256, 256]⟩
abbrev S2048x5120 : Shape := ⟨2, ![2048, 5120]⟩
abbrev S10x256x256 : Shape := ⟨3, ![10, 256, 256]⟩
abbrev S1x2048 : Shape := ⟨2, ![1, 2048]⟩
abbrev S2048 : Shape := ⟨1, ![2048]⟩
abbrev S4x2560 : Shape := ⟨2, ![4, 2560]⟩
abbrev S2560 : Shape := ⟨1, ![2560]⟩
abbrev S4x32x2048 : Shape := ⟨3, ![4, 32, 2048]⟩
abbrev S128x2048 : Shape := ⟨2, ![128, 2048]⟩
abbrev S32x3x2560 : Shape := ⟨3, ![32, 3, 2560]⟩
abbrev S3x32x2560 : Shape := ⟨3, ![3, 32, 2560]⟩
abbrev S96x2560 : Shape := ⟨2, ![96, 2560]⟩
abbrev S32x2560 : Shape := ⟨2, ![32, 2560]⟩
abbrev S128x2560 : Shape := ⟨2, ![128, 2560]⟩
abbrev S2048x256 : Shape := ⟨2, ![2048, 256]⟩
abbrev S4x256 : Shape := ⟨2, ![4, 256]⟩
abbrev S1x256 : Shape := ⟨2, ![1, 256]⟩
abbrev S1x256x256 : Shape := ⟨3, ![1, 256, 256]⟩
abbrev S96x256 : Shape := ⟨2, ![96, 256]⟩
abbrev S32x256 : Shape := ⟨2, ![32, 256]⟩
abbrev S128x256 : Shape := ⟨2, ![128, 256]⟩
abbrev S128 : Shape := ⟨1, ![128]⟩
abbrev S128x1 : Shape := ⟨2, ![128, 1]⟩
abbrev S224x256 : Shape := ⟨2, ![224, 256]⟩
abbrev S256x256 : Shape := ⟨2, ![256, 256]⟩

abbrev nBuf : Space → Nat
  | .hbm => 39
  | .vmem => 31
  | .smem => 0
  | _ => 0

abbrev bufTy : (tb : Table) → Fin (tcTables nBuf tb) → BufTy
  | .hbm, ⟨0, _⟩ => ⟨S32x4x2048, .f32⟩
  | .hbm, ⟨1, _⟩ => ⟨S32x1x3x2560, .f32⟩
  | .hbm, ⟨2, _⟩ => ⟨S32x1x2560, .f32⟩
  | .hbm, ⟨3, _⟩ => ⟨S2x2048, .f32⟩
  | .hbm, ⟨4, _⟩ => ⟨S1x2048x5120, .f32⟩
  | .hbm, ⟨5, _⟩ => ⟨S1x4x2560, .f32⟩
  | .hbm, ⟨6, _⟩ => ⟨S1x2560, .f32⟩
  | .hbm, ⟨7, _⟩ => ⟨S1x10x256x256, .f32⟩
  | .hbm, ⟨8, _⟩ => ⟨S1x2560, .f32⟩
  | .hbm, ⟨9, _⟩ => ⟨S1x10x256x256, .f32⟩
  | .hbm, ⟨10, _⟩ => ⟨S1x2560, .f32⟩
  | .hbm, ⟨11, _⟩ => ⟨S1x2560, .f32⟩
  | .hbm, ⟨12, _⟩ => ⟨S2048x5120, .f32⟩
  | .hbm, ⟨13, _⟩ => ⟨S2048x5120, .bf16⟩
  | .hbm, ⟨14, _⟩ => ⟨S10x256x256, .f32⟩
  | .hbm, ⟨15, _⟩ => ⟨S10x256x256, .bf16⟩
  | .hbm, ⟨16, _⟩ => ⟨S10x256x256, .f32⟩
  | .hbm, ⟨17, _⟩ => ⟨S10x256x256, .bf16⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S4x2560, .f32⟩
  | .hbm, ⟨22, _⟩ => ⟨S2560, .f32⟩
  | .hbm, ⟨23, _⟩ => ⟨S1x2560, .f32⟩
  | .hbm, ⟨24, _⟩ => ⟨S2560, .f32⟩
  | .hbm, ⟨25, _⟩ => ⟨S1x2560, .f32⟩
  | .hbm, ⟨26, _⟩ => ⟨S2560, .f32⟩
  | .hbm, ⟨27, _⟩ => ⟨S1x2560, .f32⟩
  | .hbm, ⟨28, _⟩ => ⟨S2560, .f32⟩
  | .hbm, ⟨29, _⟩ => ⟨S1x2560, .f32⟩
  | .hbm, ⟨30, _⟩ => ⟨S4x32x2048, .f32⟩
  | .hbm, ⟨31, _⟩ => ⟨S128x2048, .f32⟩
  | .hbm, ⟨32, _⟩ => ⟨S32x3x2560, .f32⟩
  | .hbm, ⟨33, _⟩ => ⟨S3x32x2560, .f32⟩
  | .hbm, ⟨34, _⟩ => ⟨S96x2560, .f32⟩
  | .hbm, ⟨35, _⟩ => ⟨S32x2560, .f32⟩
  | .hbm, ⟨36, _⟩ => ⟨S128x2560, .bf16⟩
  | .hbm, ⟨37, _⟩ => ⟨S96x2560, .f32⟩
  | .hbm, ⟨38, _⟩ => ⟨S32x2560, .f32⟩
  | .local _ .vmem, ⟨0, _⟩ => ⟨S128x2048, .f32⟩
  | .local _ .vmem, ⟨1, _⟩ => ⟨S1x2048, .f32⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S4x256, .f32⟩
  | .local _ .vmem, ⟨7, _⟩ => ⟨S4x256, .f32⟩
  | .local _ .vmem, ⟨8, _⟩ => ⟨S1x256, .f32⟩
  | .local _ .vmem, ⟨9, _⟩ => ⟨S1x256, .f32⟩
  | .local _ .vmem, ⟨10, _⟩ => ⟨S1x256x256, .bf16⟩
  | .local _ .vmem, ⟨11, _⟩ => ⟨S1x256x256, .bf16⟩
  | .local _ .vmem, ⟨12, _⟩ => ⟨S1x256, .f32⟩
  | .local _ .vmem, ⟨13, _⟩ => ⟨S1x256, .f32⟩
  | .local _ .vmem, ⟨14, _⟩ => ⟨S1x256x256, .bf16⟩
  | .local _ .vmem, ⟨15, _⟩ => ⟨S1x256x256, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S96x256, .f32⟩
  | .local _ .vmem, ⟨21, _⟩ => ⟨S96x256, .f32⟩
  | .local _ .vmem, ⟨22, _⟩ => ⟨S32x256, .f32⟩
  | .local _ .vmem, ⟨23, _⟩ => ⟨S32x256, .f32⟩
  | .local _ .vmem, ⟨24, _⟩ => ⟨S128x256, .bf16⟩
  | .local _ .vmem, ⟨25, _⟩ => ⟨S128x256, .bf16⟩
  | .local _ .vmem, ⟨26, _⟩ => ⟨S96x256, .f32⟩
  | .local _ .vmem, ⟨27, _⟩ => ⟨S96x256, .f32⟩
  | .local _ .vmem, ⟨28, _⟩ => ⟨S32x256, .f32⟩
  | .local _ .vmem, ⟨29, _⟩ => ⟨S32x256, .f32⟩
  | .local _ .vmem, ⟨30, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S96x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S96x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32x4x2048 : Shape := ⟨3, ![32, 4, 2048]⟩
abbrev S32x1x3x2560 : Shape := ⟨4, ![32, 1, 3, 2560]⟩
abbrev S32x1x2560 : Shape := ⟨3, ![32, 1, 2560]⟩
abbrev S2x2048 : Shape := ⟨2, ![2, 2048]⟩
abbrev S1x2048x5120 : Shape := ⟨3, ![1, 2048, 5120]⟩
abbrev S1x4x2560 : Shape := ⟨3, ![1, 4, 2560]⟩
abbrev S1x2560 : Shape := ⟨2, ![1, 2560]⟩
abbrev S1x10x256x256 : Shape := ⟨4, ![1, 10, 256, 256]⟩
abbrev S1x2048 : Shape := ⟨2, ![1, 2048]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x5120 : Shape := ⟨2, ![2048, 5120]⟩
abbrev S32x4x5120 : Shape := ⟨3, ![32, 4, 5120]⟩
abbrev S32x4x2560 : Shape := ⟨3, ![32, 4, 2560]⟩
abbrev S32x3x2560 : Shape := ⟨3, ![32, 3, 2560]⟩
abbrev S32x7x2560 : Shape := ⟨3, ![32, 7, 2560]⟩
abbrev S2560 : Shape := ⟨1, ![2560]⟩
abbrev S1x1x2560 : Shape := ⟨3, ![1, 1, 2560]⟩
abbrev S32x4x10x256 : Shape := ⟨4, ![32, 4, 10, 256]⟩
abbrev S10x256x256 : Shape := ⟨3, ![10, 256, 256]⟩
abbrev S10x256x32x4 : Shape := ⟨4, ![10, 256, 32, 4]⟩
abbrev S32x2560 : Shape := ⟨2, ![32, 2560]⟩
abbrev S4x32x2560 : Shape := ⟨3, ![4, 32, 2560]⟩
abbrev S128x2560 : Shape := ⟨2, ![128, 2560]⟩
abbrev S3x32x2560 : Shape := ⟨3, ![3, 32, 2560]⟩
abbrev S96x2560 : Shape := ⟨2, ![96, 2560]⟩

abbrev nBuf : Space → Nat
  | .hbm => 177
  | .vmem => 0
  | .smem => 0
  | _ => 0

abbrev hbmTy0_0 (i : Nat) : BufTy := match i % 128 with
  | 0 => ⟨S32x4x2048, .f32⟩
  | 1 => ⟨S32x1x3x2560, .f32⟩
  | 2 => ⟨S32x1x2560, .f32⟩
  | 3 => ⟨S2x2048, .f32⟩
  | 4 => ⟨S1x2048x5120, .f32⟩
  | 5 => ⟨S1x4x2560, .f32⟩
  | 6 => ⟨S1x2560, .f32⟩
  | 7 => ⟨S1x10x256x256, .f32⟩
  | 8 => ⟨S1x2560, .f32⟩
  | 9 => ⟨S1x10x256x256, .f32⟩
  | 10 => ⟨S1x2560, .f32⟩
  | 11 => ⟨S1x2560, .f32⟩
  | 12 => ⟨S1x2048, .f32⟩
  | 13 => ⟨S2048, .f32⟩
  | 14 => ⟨S32x4x2048, .f32⟩
  | 15 => ⟨S_, .f32⟩
  | 16 => ⟨S32x4, .f32⟩
  | 17 => ⟨S32x4x1, .f32⟩
  | 18 => ⟨S_, .f32⟩
  | 19 => ⟨S32x4x1, .f32⟩
  | 20 => ⟨S32x4x1, .f32⟩
  | 21 => ⟨S_, .f32⟩
  | 22 => ⟨S32x4x1, .f32⟩
  | 23 => ⟨S32x4x1, .f32⟩
  | 24 => ⟨S32x4x1, .f32⟩
  | 25 => ⟨S32x4x2048, .f32⟩
  | 26 => ⟨S32x4x2048, .f32⟩
  | 27 => ⟨S1x1x2048, .f32⟩
  | 28 => ⟨S32x4x2048, .f32⟩
  | 29 => ⟨S32x4x2048, .f32⟩
  | 30 => ⟨S2048x5120, .f32⟩
  | 31 => ⟨S32x4x5120, .f32⟩
  | 32 => ⟨S32x4x2560, .f32⟩
  | 33 => ⟨S32x4x2560, .f32⟩
  | 34 => ⟨S32x3x2560, .f32⟩
  | 35 => ⟨S32x7x2560, .f32⟩
  | 36 => ⟨S2560, .f32⟩
  | 37 => ⟨S32x4x2560, .f32⟩
  | 38 => ⟨S1x1x2560, .f32⟩
  | 39 => ⟨S2560, .f32⟩
  | 40 => ⟨S1x1x2560, .f32⟩
  | 41 => ⟨S32x4x2560, .f32⟩
  | 42 => ⟨S32x4x2560, .f32⟩
  | 43 => ⟨S1x1x2560, .f32⟩
  | 44 => ⟨S32x4x2560, .f32⟩
  | 45 => ⟨S32x4x2560, .f32⟩
  | 46 => ⟨S32x4x2560, .f32⟩
  | 47 => ⟨S1x1x2560, .f32⟩
  | 48 => ⟨S2560, .f32⟩
  | 49 => ⟨S1x1x2560, .f32⟩
  | 50 => ⟨S32x4x2560, .f32⟩
  | 51 => ⟨S32x4x2560, .f32⟩
  | 52 => ⟨S32x4x2560, .f32⟩
  | 53 => ⟨S32x4x2560, .f32⟩
  | 54 => ⟨S1x1x2560, .f32⟩
  | 55 => ⟨S2560, .f32⟩
  | 56 => ⟨S1x1x2560, .f32⟩
  | 57 => ⟨S32x4x2560, .f32⟩
  | 58 => ⟨S32x4x2560, .f32⟩
  | 59 => ⟨S32x4x2560, .f32⟩
  | 60 => ⟨S32x4x2560, .f32⟩
  | 61 => ⟨S1x1x2560, .f32⟩
  | 62 => ⟨S2560, .f32⟩
  | 63 => ⟨S1x1x2560, .f32⟩
  | 64 => ⟨S32x4x2560, .f32⟩
  | 65 => ⟨S32x4x2560, .f32⟩
  | 66 => ⟨S32x4x2560, .f32⟩
  | 67 => ⟨S32x3x2560, .f32⟩
  | 68 => ⟨S32x4x10x256, .f32⟩
  | 69 => ⟨S10x256x256, .f32⟩
  | 70 => ⟨S10x256x32x4, .f32⟩
  | 71 => ⟨S32x4x10x256, .f32⟩
  | 72 => ⟨S32x4x2560, .f32⟩
  | 73 => ⟨S2560, .f32⟩
  | 74 => ⟨S1x1x2560, .f32⟩
  | 75 => ⟨S32x4x2560, .f32⟩
  | 76 => ⟨S32x4x2560, .f32⟩
  | 77 => ⟨S32x4x2560, .f32⟩
  | 78 => ⟨S32x4x2560, .f32⟩
  | 79 => ⟨S_, .f32⟩
  | 80 => ⟨S32x4x2560, .f32⟩
  | 81 => ⟨S32x4x2560, .f32⟩
  | 82 => ⟨S_, .f32⟩
  | 83 => ⟨S32x4x2560, .f32⟩
  | 84 => ⟨S32x4x2560, .f32⟩
  | 85 => ⟨S10x256x256, .f32⟩
  | 86 => ⟨S10x256x32x4, .f32⟩
  | 87 => ⟨S32x4x10x256, .f32⟩
  | 88 => ⟨S32x4x2560, .f32⟩
  | 89 => ⟨S2560, .f32⟩
  | 90 => ⟨S1x1x2560, .f32⟩
  | 91 => ⟨S32x4x2560, .f32⟩
  | 92 => ⟨S32x4x2560, .f32⟩
  | 93 => ⟨S32x4x2560, .f32⟩
  | 94 => ⟨S32x4x2560, .f32⟩
  | 95 => ⟨S_, .f32⟩
  | 96 => ⟨S32x4x2560, .f32⟩
  | 97 => ⟨S32x4x2560, .f32⟩
  | 98 => ⟨S_, .f32⟩
  | 99 => ⟨S32x4x2560, .f32⟩
  | 100 => ⟨S32x4x2560, .f32⟩
  | 101 => ⟨S_, .f32⟩
  | 102 => ⟨S32x4x2560, .f32⟩
  | 103 => ⟨S32x4x2560, .f32⟩
  | 104 => ⟨S2560, .f32⟩
  | 105 => ⟨S2560, .f32⟩
  | 106 => ⟨S_, .f32⟩
  | 107 => ⟨S2560, .f32⟩
  | 108 => ⟨S2560, .f32⟩
  | 109 => ⟨S2560, .f32⟩
  | 110 => ⟨S2560, .f32⟩
  | 111 => ⟨S2560, .i1⟩
  | 112 => ⟨S2560, .f32⟩
  | 113 => ⟨S2560, .f32⟩
  | 114 => ⟨S2560, .f32⟩
  | 115 => ⟨S2560, .f32⟩
  | 116 => ⟨S2560, .f32⟩
  | 117 => ⟨S2560, .f32⟩
  | 118 => ⟨S2560, .f32⟩
  | 119 => ⟨S2560, .f32⟩
  | 120 => ⟨S1x1x2560, .f32⟩
  | 121 => ⟨S32x4x2560, .f32⟩
  | 122 => ⟨S32x4x2560, .f32⟩
  | 123 => ⟨S32x4x2560, .f32⟩
  | 124 => ⟨S_, .f32⟩
  | 125 => ⟨S32x4x2560, .f32⟩
  | 126 => ⟨S32x4x2560, .f32⟩
  | 127 => ⟨S32x4x2560, .f32⟩
  | _ => ⟨S32x4x2048, .f32⟩

abbrev hbmTy0_1 (i : Nat) : BufTy := match i % 128 with
  | 0 => ⟨S32x4x2560, .f32⟩
  | 1 => ⟨S32x4x2560, .f32⟩
  | 2 => ⟨S32x4x2560, .f32⟩
  | 3 => ⟨S32x4x2560, .f32⟩
  | 4 => ⟨S32x2560, .f32⟩
  | 5 => ⟨S32x1x2560, .f32⟩
  | 6 => ⟨S32x2560, .f32⟩
  | 7 => ⟨S32x2560, .f32⟩
  | 8 => ⟨S32x1x2560, .f32⟩
  | 9 => ⟨S32x2560, .f32⟩
  | 10 => ⟨S32x2560, .f32⟩
  | 11 => ⟨S32x1x2560, .f32⟩
  | 12 => ⟨S32x2560, .f32⟩
  | 13 => ⟨S32x2560, .f32⟩
  | 14 => ⟨S32x1x2560, .f32⟩
  | 15 => ⟨S32x2560, .f32⟩
  | 16 => ⟨S32x2560, .f32⟩
  | 17 => ⟨S32x1x2560, .f32⟩
  | 18 => ⟨S32x2560, .f32⟩
  | 19 => ⟨S32x2560, .f32⟩
  | 20 => ⟨S32x1x2560, .f32⟩
  | 21 => ⟨S32x2560, .f32⟩
  | 22 => ⟨S32x2560, .f32⟩
  | 23 => ⟨S32x1x2560, .f32⟩
  | 24 => ⟨S32x2560, .f32⟩
  | 25 => ⟨S32x2560, .f32⟩
  | 26 => ⟨S32x1x2560, .f32⟩
  | 27 => ⟨S32x2560, .f32⟩
  | 28 => ⟨S32x2560, .f32⟩
  | 29 => ⟨S32x1x2560, .f32⟩
  | 30 => ⟨S32x1x2560, .f32⟩
  | 31 => ⟨S32x1x2560, .f32⟩
  | 32 => ⟨S32x1x2560, .f32⟩
  | 33 => ⟨S32x4x2560, .f32⟩
  | 34 => ⟨S32x4x2560, .f32⟩
  | 35 => ⟨S32x4x2560, .f32⟩
  | 36 => ⟨S_, .f32⟩
  | 37 => ⟨S32x4x2560, .f32⟩
  | 38 => ⟨S32x4x2560, .f32⟩
  | 39 => ⟨S_, .f32⟩
  | 40 => ⟨S32x4x2560, .f32⟩
  | 41 => ⟨S32x4x2560, .f32⟩
  | 42 => ⟨S32x4x2560, .f32⟩
  | 43 => ⟨S32x4x2560, .f32⟩
  | 44 => ⟨S4x32x2560, .f32⟩
  | 45 => ⟨S128x2560, .f32⟩
  | 46 => ⟨S128x2560, .bf16⟩
  | 47 => ⟨S3x32x2560, .f32⟩
  | 48 => ⟨S96x2560, .f32⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_2 : Ref sig .tc := ⟨.hbm, 79, rfl⟩
abbrev main_v64 : Ref sig .tc := ⟨.hbm, 80, rfl⟩
abbrev main_v65 : Ref sig .tc := ⟨.hbm, 81, rfl⟩
abbrev main_cst_3 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_4 : Ref sig .tc := ⟨.hbm, 95, rfl⟩
abbrev main_v78 : Ref sig .tc := ⟨.hbm, 96, rfl⟩
abbrev main_v79 : Ref sig .tc := ⟨.hbm, 97, rfl⟩
abbrev main_cst_5 : Ref sig .tc := ⟨.hbm, 98, rfl⟩
abbrev main_v80 : Ref sig .tc := ⟨.hbm, 99, rfl⟩
abbrev main_v81 : Ref sig .tc := ⟨.hbm, 100, rfl⟩
abbrev main_cst_6 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_7 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_call1_v0 : Ref sig .tc := ⟨.hbm, 162, rfl⟩
abbrev main_call1_v1 : Ref sig .tc := ⟨.hbm, 163, rfl⟩
abbrev main_call1_cst : Ref sig .tc := ⟨.hbm, 164, rfl⟩
abbrev main_call1_v2 : Ref sig .tc := ⟨.hbm, 165, rfl⟩
abbrev main_call1_v3 : Ref sig .tc := ⟨.hbm, 166, rfl⟩
abbrev main_call1_cst_0 : Ref sig .tc := ⟨.hbm, 167, rfl⟩
abbrev main_call1_v4 : Ref sig .tc := ⟨.hbm, 168, rfl⟩
abbrev main_call1_v5 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩

abbrev nD : Nat := 1
abbrev τ : Topo := Topo.v7x

variable {F : FTy → Type} [FloatOps F]
-- ==== Proof.Frames.lean ====
/-
  The frames of the three programs and the two named constants. The kernel's two frames are the generated runs; the
  reference has no semaphores, so its generated run gives its frame.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.AttnClaims

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both named constants are the real numbers the certificate's table gives them. -/
theorem preserves : Cert.preserves_Kernel_KernelIdeal :=
  ⟨IdealRules.named_const.statement Cert.KernelIdeal.κ "qk_scale2" .f32 0x3E0293EE#32 _ rfl,
    IdealRules.named_const.statement Cert.KernelIdeal.κ "log2e" .f32 0x3FB8AA3B#32 _ rfl⟩

end Cert.AttnClaims

end
-- ==== Proof.Stick.lean ====
/-
  Stick-breaking weights over the reals: what both programs compute for one query row.

  For scores `z` and a query position `t`, key `j < t` keeps `1 - σ(z j)` of the stick, so key `s` weighs
  `σ(z s) · ∏_{s<j<t} (1 - σ(z j)) = exp (z s - Σ_{s ≤ j < t} softplus (z j))`. The kernel works in base two
  (scores and softplus divided by `log 2`); the reference in base `e` with `log_sigmoid`.
-/
module

public import Idealize.ShloMosaic.PureOps.Ideal
public import Mathlib.Analysis.SpecialFunctions.Log.Basic
public import Mathlib.Analysis.SpecialFunctions.Pow.Real

@[expose] public section

noncomputable section

namespace Cert.Stick

open Idealize.ShloMosaic

/-- `log (1 + eˣ)`. -/
def softplus (x : ℝ) : ℝ := Real.log (1 + Real.exp x)

/-- `1 / log 2`, the factor from base `e` to base two. -/
def L2 : ℝ := (Real.log 2)⁻¹

/-- The softplus of key `j`'s score where the query at `t` sees the key, zero elsewhere. -/
def drop (z : ℕ → ℝ) (t j : ℕ) : ℝ := if j < t then softplus (z j) else 0

/-- What is dropped from key `a` up to (not including) key `b`. -/
def dropped (z : ℕ → ℝ) (t a b : ℕ) : ℝ := ∑ j ∈ Finset.Ico a b, drop z t j

/-- Key `s`'s weight for the query at `t`, among `n` keys. -/
def weight (z : ℕ → ℝ) (t n s : ℕ) : ℝ := if s < t then Real.exp (z s - dropped z t s n) else 0

theorem log2_ne : Real.log 2 ≠ 0 := (Real.log_pos (by norm_num)).ne'

theorem L2_pos : 0 < L2 := inv_pos.mpr (Real.log_pos (by norm_num))

/-- `2 ^ (x / log 2) = eˣ`. -/
theorem two_rpow (x : ℝ) : Real.rpow 2 (x * L2) = Real.exp x := by
  show (2 : ℝ) ^ (x * L2) = _
  rw [Real.rpow_def_of_pos (by norm_num), L2, mul_comm x, ← mul_assoc, mul_inv_cancel₀ log2_ne, one_mul]

/-- The stable form of softplus: `max x 0 + log (1 + e^{-|x|})`. -/
theorem softplus_stable (x : ℝ) : max x 0 + Real.log (1 + Real.exp (-max x (-x))) = softplus x := by
  unfold softplus
  rcases le_total 0 x with h | h
  · rw [max_eq_left h, max_eq_left (by linarith), show (1 : ℝ) + Real.exp x = Real.exp x * (1 + Real.exp (-x)) by
      rw [mul_add, mul_one, ← Real.exp_add, add_neg_cancel, Real.exp_zero, add_comm],
      Real.log_mul (Real.exp_pos x).ne' (by positivity), Real.log_exp]
  · rw [max_eq_right h, max_eq_right (by linarith), neg_neg, zero_add]

theorem softplus_neg (x : ℝ) : softplus (-x) = softplus x - x := by
  unfold softplus
  rw [show (1 : ℝ) + Real.exp x = Real.exp x * (1 + Real.exp (-x)) by
      rw [mul_add, mul_one, ← Real.exp_add, add_neg_cancel, Real.exp_zero, add_comm],
      Real.log_mul (Real.exp_pos x).ne' (by positivity), Real.log_exp]
  ring

theorem coe_max (a b : ℝ) : max (a : EReal) (b : EReal) = ((max a b : ℝ) : EReal) :=
  (EReal.coe_strictMono.monotone.map_max).symm

/-- The kernel's base-two softplus of a score in base two. -/
theorem softplus2 (x : ℝ) :
    max ((x * L2 : ℝ) : EReal) 0
      + Ideal.log (1 + Ideal.exp2 (0 - max ((x * L2 : ℝ) : EReal) (-((x * L2 : ℝ) : EReal)))) * ((L2 : ℝ) : EReal)
      = ((softplus x * L2 : ℝ) : EReal) := by
  have hm : max (x * L2) 0 = max x 0 * L2 := by rw [max_mul_of_nonneg _ _ L2_pos.le, zero_mul]
  have ha : max (x * L2) (-(x * L2)) = max x (-x) * L2 := by rw [max_mul_of_nonneg _ _ L2_pos.le, neg_mul]
  have h0 : (0 : EReal) = ((0 : ℝ) : EReal) := rfl
  have h1 : (1 : EReal) = ((1 : ℝ) : EReal) := rfl
  rw [← EReal.coe_neg, h0, coe_max, coe_max, ← EReal.coe_sub, ha, hm, zero_sub, ← neg_mul, Ideal.exp2_coe,
    two_rpow, h1, ← EReal.coe_add, Ideal.log_coe, if_neg (not_le.mpr (by positivity)), ← EReal.coe_mul, ← EReal.coe_add,
    ← add_mul, softplus_stable]

/-- The host's softplus: `max x 0 + log1p (e^{-|x|})`. -/
theorem softplus_host (x : ℝ) :
    max (x : EReal) 0 + Ideal.log1p (Ideal.exp (-max ((x : EReal) - 0) (-((x : EReal) - 0))))
      = ((softplus x : ℝ) : EReal) := by
  have h0 : (0 : EReal) = ((0 : ℝ) : EReal) := rfl
  have h1 : (1 : EReal) = ((1 : ℝ) : EReal) := rfl
  rw [Ideal.log1p, h0, ← EReal.coe_sub, sub_zero, ← EReal.coe_neg, coe_max, coe_max, ← EReal.coe_neg,
    Ideal.exp_coe, h1, ← EReal.coe_add, Ideal.log_coe, if_neg (not_le.mpr (by positivity)), ← EReal.coe_add, softplus_stable]

/-- The kernel's weight: `2^(z₂ - (sums + run))`. -/
theorem weight2 (x S T : ℝ) :
    Ideal.exp2 (((x * L2 : ℝ) : EReal) - (((S * L2 : ℝ) : EReal) + ((T * L2 : ℝ) : EReal)))
      = ((Real.exp (x - (S + T)) : ℝ) : EReal) := by
  rw [← EReal.coe_add, ← EReal.coe_sub, Ideal.exp2_coe, ← add_mul, ← sub_mul, two_rpow]

theorem dropped_split (z : ℕ → ℝ) (t : ℕ) {a b c : ℕ} (h : a ≤ b) (h' : b ≤ c) :
    dropped z t a c = dropped z t a b + dropped z t b c :=
  (Finset.sum_Ico_consecutive _ h h').symm

theorem dropped_self (z : ℕ → ℝ) (t a : ℕ) : dropped z t a a = 0 := by simp [dropped]

/-- Summing over a tile of `m` keys from key `a`, from the key at offset `s` on. -/
theorem sum_tile (z : ℕ → ℝ) (t a m s : ℕ) (hs : s ≤ m) :
    ∑ j : Fin m, (if s ≤ j.val then drop z t (a + j.val) else 0) = dropped z t (a + s) (a + m) := by
  rw [Fin.sum_univ_eq_sum_range (fun j => if s ≤ j then drop z t (a + j) else 0) m, dropped,
    Finset.range_eq_Ico, ← Finset.sum_Ico_consecutive _ (Nat.zero_le s) hs,
    Finset.sum_eq_zero (s := Finset.Ico 0 s), zero_add, Finset.sum_Ico_eq_sum_range, Finset.sum_Ico_eq_sum_range]
  · rw [show a + m - (a + s) = m - s by omega]
    exact Finset.sum_congr rfl fun k _ => by rw [if_pos (by omega), add_assoc]
  · intro j hj
    rw [if_neg (by have := (Finset.mem_Ico.mp hj).2; omega)]

end Cert.Stick

end
-- ==== Proof.Tile.lean ====
module

public import proofs.«01_k».proof.Proof.Gen.KernelIdeal.Loops

/-! # The step of the attention loop, as the kernel computes it

One step takes a pair of key tiles (256 keys) for the 256 queries of a grid point.  This module names what a
step computes for one key-value head — the scores it prefetches, the accumulator and the running sum it leaves —
and the lists of pieces a step leaves in the three scratch buffers. -/

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F] [Named F]

/-- The four logit biases of one key-value head's group. -/
abbrev Bias (F : FTy → Type) := Fin 4 → Elt F .f32

/-- One half (128 keys) of the scores of one key-value head. -/
abbrev Half (F : FTy → Type) := Vec F S1x1x1024x128 .f32

/-- A row of the accumulator or of the running sum. -/
abbrev Row (F : FTy → Type) := Vec F S1x1024x128 .f32

/-- The biased scores of one half. -/
def zHalf (w : Half F) (b : Bias F) : FVec F S1024x128 .f32 := k0_pay2 w (b 0) (b 1) (b 2) (b 3)

/-- The softplus suffix sums (first 128 lanes) and totals (last 128 lanes) of one half. -/
def sums (w : Half F) (b : Bias F) (tri : Vec F S256x256 .bf16) : FVec F S1024x256 .f32 :=
  k0_pay6 (k0_pay3 w (b 0) (b 1) (b 2) (b 3)) (k0_pay4 w (b 0) (b 1) (b 2) (b 3)) k0_pay5 tri

/-- The accumulator row after an unmasked step. -/
def accRow (w1 w0 : Half F) (b : Bias F) (tri : Vec F S256x256 .bf16) (R A : Row F) (v : Vec F S1x256x128 .bf16) : Row F :=
  k0_pay25 (k0_pay24 (zHalf w1 b) (sums w1 b tri) (zHalf w0 b) (sums w0 b tri) R A v)

/-- The running sum after an unmasked step. -/
def runRow (w1 w0 : Half F) (b : Bias F) (tri : Vec F S256x256 .bf16) (R : Row F) : Row F :=
  k0_pay26 (k0_pay23 (sums w1 b tri) (sums w0 b tri) R)

/-- The scaled scores of one key-value head against a pair of key tiles. -/
def scoreTile (q0 q1 q2 q3 : Vec F S1x256x128 .f32) (k : Vec F S1x256x128 .bf16) : Vec F S1x1x1024x256 .f32 :=
  k0_pay17 (k0_pay14 q0) (k0_pay15 q1) (k0_pay16 q2) q3 k

/-- The sums of the newer half of the diagonal pair: keys not before the query contribute zero. -/
def mSums1 (w : Half F) (b : Bias F) (tri : Vec F S256x256 .bf16) : FVec F S1024x256 .f32 :=
  k0_pay336 k0_pay316 (k0_pay335 w (b 0) (b 1) (b 2) (b 3)) tri

/-- The sums of the older half of the diagonal pair. -/
def mSums0 (w : Half F) (b : Bias F) (tri : Vec F S256x256 .bf16) : FVec F S1024x256 .f32 :=
  k0_pay343 k0_pay316 (k0_pay338 w (b 0)) (k0_pay339 w (b 1)) (k0_pay340 w (b 2)) (k0_pay341 w) (b 3) tri

/-- The accumulator row after the diagonal step. -/
def mAccRow (w1 w0 : Half F) (b : Bias F) (tri : Vec F S256x256 .bf16) (R A : Row F) (v : Vec F S1x256x128 .bf16) : Row F :=
  k0_pay360 k0_pay316 (mSums1 w1 b tri) (zHalf w0 b) (mSums0 w0 b tri) (k0_pay357 R)
    (k0_pay358 k0_pay316 (zHalf w1 b) (mSums1 w1 b tri) R) A v

/-- The running sum after the diagonal step. -/
def mRunRow (w1 w0 : Half F) (b : Bias F) (tri : Vec F S256x256 .bf16) (R : Row F) : Row F :=
  k0_pay361 (mSums1 w1 b tri) (mSums0 w0 b tri) (k0_pay357 R)

/-! ## What is read from the staged blocks -/

theorem inb_q (h : Fin 16) : ∀ d, (![0, 0, 128 * h.val] : Fin 3 → ℕ) d + S1x256x128.size d ≤ S1x256x2048.size d := by
  have := h.isLt
  intro d; fin_cases d <;> simp <;> omega

/-- Head `h`'s columns of a block of 256 queries. -/
def qTile (m : Memref sig .tc .vmem S1x256x2048 .f32) (X : BufTy.Contents (Elt F) m.view.ty) (h : Fin 16) :
    Vec F S1x256x128 .f32 :=
  View.readAt (Elt F) m.view (Rect.unit (s := S1x256x2048) ![0, 0, 128 * h.val] S1x256x128.size (inb_q h)).toLoadRect X

/-- A pair of key tiles of one head, at the offsets `o`. -/
def kvTile (m : Memref sig .tc .vmem S1x4096x512 .bf16) (X : BufTy.Contents (Elt F) m.view.ty) (o : Fin 3 → ℕ)
    (h : ∀ d, o d + S1x256x128.size d ≤ S1x4096x512.size d) : Vec F S1x256x128 .bf16 :=
  View.readAt (Elt F) m.view (Rect.unit (s := S1x4096x512) o S1x256x128.size h).toLoadRect X

theorem inb_b (h : Fin 16) : ∀ d, (![h.val] : Fin 1 → ℕ) d + S1.size d ≤ S16.size d := by
  have := h.isLt
  intro d; fin_cases d; simp <;> omega

/-- The biases of key-value head `kvh`'s group. -/
def biasAt (m : Memref sig .tc .smem S16 .f32) (X : BufTy.Contents (Elt F) m.view.ty) (kvh : Fin 4) : Bias F := fun g =>
  View.readAt (Elt F) m.view (Rect.unit (s := S16) ![4 * kvh.val + g.val] S1.size (inb_b ⟨4 * kvh.val + g.val, by omega⟩)).toLoadRect X
    (Shape.Idx.first (s := S1) (by decide))

/-- The triangle of ones. -/
def triAt (m : Memref sig .tc .vmem S256x256 .bf16) (X : BufTy.Contents (Elt F) m.view.ty) : Vec F S256x256 .bf16 :=
  View.readAt (Elt F) m.view (Rect.unit (s := S256x256) ![0, 0] S256x256.size inb_S256x256_S256x256_0_0).toLoadRect X

/-- The scores of key-value head `kvh` against the keys at `o`. -/
def scoreAt (m3 : Memref sig .tc .vmem S1x256x2048 .f32) (X3 : BufTy.Contents (Elt F) m3.view.ty)
    (m6 : Memref sig .tc .vmem S1x4096x512 .bf16) (X6 : BufTy.Contents (Elt F) m6.view.ty) (kvh : Fin 4) (o : Fin 3 → ℕ)
    (h : ∀ d, o d + S1x256x128.size d ≤ S1x4096x512.size d) : Vec F S1x1x1024x256 .f32 :=
  scoreTile (qTile m3 X3 ⟨4 * kvh.val, by omega⟩) (qTile m3 X3 ⟨4 * kvh.val + 1, by omega⟩)
    (qTile m3 X3 ⟨4 * kvh.val + 2, by omega⟩) (qTile m3 X3 ⟨4 * kvh.val + 3, by omega⟩) (kvTile m6 X6 o h)

/-! ## Pieces of the scratch buffers -/

theorem inb_z (s : Fin 2) (h : Fin 4) :
    ∀ d, (![s.val, h.val, 0, 0] : Fin 4 → ℕ) d + S1x1x1024x256.size d ≤ S2x4x1024x256.size d := by
  have := h.isLt; have := s.isLt
  intro d; fin_cases d <;> simp <;> omega

theorem inb_half (s : Fin 2) (h : Fin 4) (t : Fin 2) :
    ∀ d, (![s.val, h.val, 0, 128 * t.val] : Fin 4 → ℕ) d + S1x1x1024x128.size d ≤ S2x4x1024x256.size d := by
  have := h.isLt; have := s.isLt; have := t.isLt
  intro d; fin_cases d <;> simp <;> omega

theorem inb_row (h : Fin 4) : ∀ d, (![h.val, 0, 0] : Fin 3 → ℕ) d + S1x1024x128.size d ≤ S4x1024x128.size d := by
  have := h.isLt
  intro d; fin_cases d <;> simp <;> omega

/-- Pieces of the scores scratch. -/
abbrev ZL (F : FTy → Type) := List (View.Piece (Elt F) S2x4x1024x256 .f32)

/-- Pieces of the accumulator or running-sum scratch. -/
abbrev RL (F : FTy → Type) := List (View.Piece (Elt F) S4x1024x128 .f32)

/-- The scores of head `h` written to slot `s`. -/
def zPiece (s : Fin 2) (h : Fin 4) (p : Vec F S1x1x1024x256 .f32) : View.Piece (Elt F) S2x4x1024x256 .f32 :=
  ⟨Rect.unit (s := S2x4x1024x256) ![s.val, h.val, 0, 0] S1x1x1024x256.size (inb_z s h), p⟩

/-- The row of head `h`. -/
def rowPiece (h : Fin 4) (p : Row F) : View.Piece (Elt F) S4x1024x128 .f32 :=
  ⟨Rect.unit (s := S4x1024x128) ![h.val, 0, 0] S1x1024x128.size (inb_row h), p⟩

/-- The scores of heads `0 … n-1` written to slot `s` over `L`. -/
def zPut (s : Fin 2) (P : Fin 4 → Vec F S1x1x1024x256 .f32) (L : ZL F) : ℕ → ZL F
  | 0 => L
  | n + 1 => if h : n < 4 then zPiece s ⟨n, h⟩ (P ⟨n, h⟩) :: zPut s P L n else zPut s P L n

/-- The half `t` of slot `s`, head `h`, read from the scratch's contents. -/
def halfAt (m : Memref sig .tc .vmem S2x4x1024x256 .f32) (f : BufTy.Contents (Elt F) m.view.ty) (s : Fin 2) (h : Fin 4)
    (t : Fin 2) : Half F :=
  View.readAt (Elt F) m.view (Rect.unit (s := S2x4x1024x256) ![s.val, h.val, 0, 128 * t.val] S1x1x1024x128.size (inb_half s h t)).toLoadRect f

/-- The same half read from the pieces written so far. -/
def halfOf (m : Memref sig .tc .vmem S2x4x1024x256 .f32) (L : ZL F) (s : Fin 2) (h : Fin 4) (t : Fin 2) : Half F :=
  m.view.readCov L (Rect.unit (s := S2x4x1024x256) ![s.val, h.val, 0, 128 * t.val] S1x1x1024x128.size (inb_half s h t)).toLoadRect

/-- The row of head `h`, read from a scratch's contents. -/
def rowAt (m : Memref sig .tc .vmem S4x1024x128 .f32) (f : BufTy.Contents (Elt F) m.view.ty) (h : Fin 4) : Row F :=
  View.readAt (Elt F) m.view (Rect.unit (s := S4x1024x128) ![h.val, 0, 0] S1x1024x128.size (inb_row h)).toLoadRect f

/-- The row of head `h`, read from the pieces written so far. -/
def rowOf (m : Memref sig .tc .vmem S4x1024x128 .f32) (L : RL F) (h : Fin 4) : Row F :=
  m.view.readCov L (Rect.unit (s := S4x1024x128) ![h.val, 0, 0] S1x1024x128.size (inb_row h)).toLoadRect

/-- Four rows, the last first. -/
def rows (P : Fin 4 → Row F) (L : RL F) : RL F :=
  rowPiece 3 (P 3) :: rowPiece 2 (P 2) :: rowPiece 1 (P 1) :: rowPiece 0 (P 0) :: L

/-- The four scores of a slot, the last first. -/
def slots (s : Fin 2) (P : Fin 4 → Vec F S1x1x1024x256 .f32) (L : ZL F) : ZL F :=
  zPiece s 3 (P 3) :: zPiece s 2 (P 2) :: zPiece s 1 (P 1) :: zPiece s 0 (P 0) :: L

/-- Four rows, each computed from what the list holds for its head. -/
def chain (m : Memref sig .tc .vmem S4x1024x128 .f32) (f : Fin 4 → Row F → Row F) (L : RL F) : ℕ → RL F
  | 0 => L
  | n + 1 => if h : n < 4 then rowPiece ⟨n, h⟩ (f ⟨n, h⟩ (rowOf m (chain m f L n) ⟨n, h⟩)) :: chain m f L n else chain m f L n

/-- How many prefetched heads are in the other slot when half `t` of head `h` is read. -/
def ahead (h : Fin 4) (t : Fin 2) : ℕ := if t = 0 then h.val else h.val - 1

end Cert.KernelIdeal.Tile

end
-- ==== Proof.Consts.lean ====
module

public import proofs.«01_k».proof.Proof.Stick
public import proofs.«01_k».proof.Proof.Tile
public import Idealize.ShloMosaic.Lib.ValueLayout
public import Idealize.ShloMosaic.Lib.MatmulPlain
public import Idealize.ShloMosaic.Lib.Pointwise

/-! # The constants of both programs, as extended reals -/

@[expose] public section

set_option maxRecDepth 16384

noncomputable section

namespace Cert.KernelIdeal.Tile

open Cert.KernelIdeal Cert.KernelIdeal.Gen Idealize.ShloMosaic Idealize.ShloMosaic.TcCoe Cert.Stick

/-- The reference's divisor: the f32 word nearest the square root of 128. -/
def rootWord : ℝ := 11863283 / 1048576

/-- The kernel's scale of the queries: `1 / (rootWord · log 2)`. -/
def scaleBase2 : ℝ := L2 * rootWord⁻¹

theorem log2e_val : (Named.named κ "log2e" 0x3FB8AA3B#32 : Ideal .f32) = ((L2 : ℝ) : EReal) :=
  (IdealRules.named_const.ideal_named_scalar _ _ _ _ rfl).trans rfl

theorem scale_val : (Named.named κ "qk_scale2" 0x3E0293EE#32 : Ideal .f32) = ((scaleBase2 : ℝ) : EReal) := by
  refine (IdealRules.named_const.ideal_named_scalar _ _ _ _ rfl).trans ?_
  simp [scaleBase2, rootWord, L2]

theorem bits_zero : Ideal.ofBits .f32 0x00000000#32 = 0 := by simp [Ideal.ofBits, Ideal.ieee]
theorem bits_one : Ideal.ofBits .f32 0x3F800000#32 = 1 := by
  simp [Ideal.ofBits, Ideal.ieee, -EReal.coe_mul, ← EReal.coe_mul]; norm_num
theorem bits_root : Ideal.ofBits .f32 0x413504F3#32 = ((rootWord : ℝ) : EReal) := by
  simp [Ideal.ofBits, Ideal.ieee, rootWord, -EReal.coe_mul]; norm_num

end Cert.KernelIdeal.Tile

end
-- ==== Proof.TileIdeal.lean ====
module

public import proofs.«01_k».proof.Proof.Consts

/-! # What a step computes, element by element, over the extended reals -/

@[expose] public section

set_option maxRecDepth 16384

noncomputable section

namespace Cert.KernelIdeal.Tile

open Cert.KernelIdeal Cert.KernelIdeal.Gen Idealize.ShloMosaic Idealize.ShloMosaic.TcCoe Cert.Stick

/-- The group of a row: rows `256 g …` belong to the group's query head `g`. -/
def grp (r : Fin 1024) : Fin 4 := ⟨r.val / 256, by omega⟩

theorem zHalf_apply (w : Half Ideal) (b : Bias Ideal) (r : Fin 1024) (c : Fin 128) :
    zHalf w b (ix2 r c) = w (ix4 0 0 r c) + b (grp r) * ((L2 : ℝ) : EReal) := by
  rw [← log2e_val]
  unfold zHalf k0_pay2
  pointwise
  have hr := r.isLt
  split
  · rw [show grp r = 0 from Fin.ext (by simp [grp]; omega)]
  · split
    · rw [show grp r = 1 from Fin.ext (by simp [grp]; omega),
        show (⟨256 + (r.val - 256), by omega⟩ : Fin 1024) = r from Fin.ext (by show 256 + (r.val - 256) = r.val; omega)]
    · split
      · rw [show grp r = 2 from Fin.ext (by simp [grp]; omega),
          show (⟨512 + (r.val - 256 - 256), by omega⟩ : Fin 1024) = r from Fin.ext (by show 512 + (r.val - 256 - 256) = r.val; omega)]
      · rw [show grp r = 3 from Fin.ext (by simp [grp]; omega),
          show (⟨768 + (r.val - 256 - 256 - 256), by omega⟩ : Fin 1024) = r from Fin.ext (by show 768 + (r.val - 256 - 256 - 256) = r.val; omega)]

/-- The triangle of ones, twice stacked, beside a block of ones. -/
def IsTri (tri : Vec Ideal S256x256 .bf16) : Prop :=
  ∀ j s : Fin 256, tri (ix2 j s) = if s.val < 128 then (if s.val ≤ j.val % 128 then 1 else 0) else 1

theorem coe_sum {ι : Type} (u : Finset ι) (f : ι → ℝ) : ((∑ x ∈ u, f x : ℝ) : EReal) = ∑ x ∈ u, ((f x : ℝ) : EReal) :=
  map_sum (⟨⟨Real.toEReal, rfl⟩, EReal.coe_add⟩ : ℝ →+ EReal) f u

/-- The key from which column `s` of the sums begins. -/
def fromKey (s : Fin 256) : ℕ := if s.val < 128 then s.val else 0

/-- Softplus values times the triangle: the suffix sums, and the total. -/
theorem tri_sum (z : ℕ → ℝ) (t a : ℕ) (sp : Fin 128 → EReal) (hsp : ∀ x, sp x = ((drop z t (a + x.val) * L2 : ℝ) : EReal))
    (tri : Vec Ideal S256x256 .bf16) (htri : IsTri tri) (s : Fin 256) :
    ∑ x : Fin 128, sp x * tri (ix2 ⟨x.val, by omega⟩ s) + ∑ x : Fin 128, (sp x - sp x) * tri (ix2 ⟨128 + x.val, by omega⟩ s)
      = ((dropped z t (a + fromKey s) (a + 128) * L2 : ℝ) : EReal) := by
  have h0 : ∑ x : Fin 128, (sp x - sp x) * tri (ix2 ⟨128 + x.val, by omega⟩ s) = 0 :=
    Finset.sum_eq_zero fun x _ => by rw [hsp, ← EReal.coe_sub, sub_self, EReal.coe_zero, zero_mul]
  have hs : fromKey s ≤ 128 := by unfold fromKey; split_ifs <;> omega
  rw [h0, add_zero, ← sum_tile z t a 128 (fromKey s) hs, Finset.sum_mul, coe_sum]
  refine Finset.sum_congr rfl fun x _ => ?_
  have hx := x.isLt
  rw [hsp, htri]
  unfold fromKey
  simp only [Nat.mod_eq_of_lt hx]
  split_ifs <;> first | (simp; done) | (exfalso; omega)

/-- Softplus in base two, as the kernel computes it. -/
def sp2 (x : EReal) : EReal := max x 0 + Ideal.log (1 + Ideal.exp2 (0 - max x (-x))) * ((L2 : ℝ) : EReal)

theorem sums_apply (w : Half Ideal) (b : Bias Ideal) (tri : Vec Ideal S256x256 .bf16) (r : Fin 1024) (s : Fin 256) :
    sums w b tri (ix2 r s) = ∑ x : Fin 128, sp2 (zHalf w b (ix2 r x)) * tri (ix2 ⟨x.val, by omega⟩ s)
      + ∑ x : Fin 128, (sp2 (zHalf w b (ix2 r x)) - sp2 (zHalf w b (ix2 r x))) * tri (ix2 ⟨128 + x.val, by omega⟩ s) := by
  unfold sums k0_pay6 k0_pay3 k0_pay4 k0_pay5 sp2 zHalf
  rw [← log2e_val]
  generalize hz : k0_pay2 w (b 0) (b 1) (b 2) (b 3) = z
  pointwise
  rfl

theorem sums_val (z : ℕ → ℝ) (t a : ℕ) (w : Half Ideal) (b : Bias Ideal) (tri : Vec Ideal S256x256 .bf16) (htri : IsTri tri)
    (r : Fin 1024) (hw : ∀ c : Fin 128, zHalf w b (ix2 r c) = ((z (a + c.val) * L2 : ℝ) : EReal)) (ht : a + 128 ≤ t) (s : Fin 256) :
    sums w b tri (ix2 r s) = ((dropped z t (a + fromKey s) (a + 128) * L2 : ℝ) : EReal) := by
  rw [sums_apply]
  refine tri_sum z t a _ (fun x => ?_) tri htri s
  rw [hw, sp2, softplus2, drop, if_pos (by omega)]

theorem rem_word : ∀ r : Fin 1024, IntOp.remsi ArithUnit.vector (BitVec.ofNat 32 r.val) 256#32 = BitVec.ofNat 32 (r.val % 256) := by
  decide +kernel

theorem lt_word (a b : ℕ) (ha : a < 256) (hb : b < 256) :
    IntOp.cmpi CmpIPredicate.slt (BitVec.ofNat 32 a) (BitVec.ofNat 32 b) = if a < b then 1#1 else 0#1 := by
  have h : ∀ a b : Fin 256, IntOp.cmpi CmpIPredicate.slt (BitVec.ofNat 32 a.val) (BitVec.ofNat 32 b.val)
      = if a.val < b.val then 1#1 else 0#1 := by decide +kernel
  exact h ⟨a, ha⟩ ⟨b, hb⟩

theorem mask_apply (r : Fin 1024) (c : Fin 256) : k0_pay316 (ix2 r c) = if c.val < r.val % 256 then 1#1 else 0#1 := by
  unfold k0_pay316
  pointwise
  rw [rem_word r]
  exact lt_word _ _ c.isLt (Nat.mod_lt _ (by norm_num))

theorem mSums1_apply (w : Half Ideal) (b : Bias Ideal) (tri : Vec Ideal S256x256 .bf16) (r : Fin 1024) (s : Fin 256) :
    mSums1 w b tri (ix2 r s) = ∑ x : Fin 128, Scalar.select (k0_pay316 (ix2 r ⟨128 + x.val, by omega⟩)) (sp2 (zHalf w b (ix2 r x))) 0 * tri (ix2 ⟨x.val, by omega⟩ s)
      + ∑ x : Fin 128, (Scalar.select (k0_pay316 (ix2 r ⟨128 + x.val, by omega⟩)) (sp2 (zHalf w b (ix2 r x))) 0
        - Scalar.select (k0_pay316 (ix2 r ⟨128 + x.val, by omega⟩)) (sp2 (zHalf w b (ix2 r x))) 0) * tri (ix2 ⟨128 + x.val, by omega⟩ s) := by
  show k0_pay336 k0_pay316 (zHalf w b) tri (ix2 r s) = _
  unfold k0_pay336 sp2
  rw [← log2e_val]
  generalize zHalf w b = z
  generalize k0_pay316 = m
  pointwise
  rfl

theorem mSums0_apply (w : Half Ideal) (b : Bias Ideal) (tri : Vec Ideal S256x256 .bf16) (r : Fin 1024) (s : Fin 256) :
    mSums0 w b tri (ix2 r s) = ∑ x : Fin 128, Scalar.select (k0_pay316 (ix2 r ⟨x.val, by omega⟩)) (sp2 (zHalf w b (ix2 r x))) 0 * tri (ix2 ⟨x.val, by omega⟩ s)
      + ∑ x : Fin 128, (Scalar.select (k0_pay316 (ix2 r ⟨x.val, by omega⟩)) (sp2 (zHalf w b (ix2 r x))) 0
        - Scalar.select (k0_pay316 (ix2 r ⟨x.val, by omega⟩)) (sp2 (zHalf w b (ix2 r x))) 0) * tri (ix2 ⟨128 + x.val, by omega⟩ s) := by
  have e : k0_pay342 (k0_pay338 w (b 0)) (k0_pay339 w (b 1)) (k0_pay340 w (b 2)) (k0_pay341 w) (b 3) = zHalf w b := rfl
  unfold mSums0 k0_pay343 sp2
  rw [← log2e_val, e]
  generalize zHalf w b = z
  generalize k0_pay316 = m
  pointwise
  rfl

/-- A masked softplus is what is dropped. -/
theorem sel_drop (z : ℕ → ℝ) (t j : ℕ) (m : BitVec 1) (x : EReal) (hm : m = if j < t then 1#1 else 0#1)
    (hx : x = ((z j * L2 : ℝ) : EReal)) : Scalar.select m (sp2 x) 0 = ((drop z t j * L2 : ℝ) : EReal) := by
  rw [hx, sp2, softplus2, drop, hm]
  split_ifs <;> simp [Scalar.select]

theorem mSums1_val (z : ℕ → ℝ) (a : ℕ) (w : Half Ideal) (b : Bias Ideal) (tri : Vec Ideal S256x256 .bf16) (htri : IsTri tri)
    (r : Fin 1024) (hw : ∀ c : Fin 128, zHalf w b (ix2 r c) = ((z (a + 128 + c.val) * L2 : ℝ) : EReal)) (s : Fin 256) :
    mSums1 w b tri (ix2 r s) = ((dropped z (a + r.val % 256) (a + 128 + fromKey s) (a + 128 + 128) * L2 : ℝ) : EReal) := by
  rw [mSums1_apply]
  refine tri_sum z _ (a + 128) _ (fun x => ?_) tri htri s
  refine sel_drop z _ _ _ _ ?_ (hw x)
  rw [mask_apply]
  exact if_congr (by simp; omega) rfl rfl

theorem mSums0_val (z : ℕ → ℝ) (a : ℕ) (w : Half Ideal) (b : Bias Ideal) (tri : Vec Ideal S256x256 .bf16) (htri : IsTri tri)
    (r : Fin 1024) (hw : ∀ c : Fin 128, zHalf w b (ix2 r c) = ((z (a + c.val) * L2 : ℝ) : EReal)) (s : Fin 256) :
    mSums0 w b tri (ix2 r s) = ((dropped z (a + r.val % 256) (a + fromKey s) (a + 128) * L2 : ℝ) : EReal) := by
  rw [mSums0_apply]
  refine tri_sum z _ a _ (fun x => ?_) tri htri s
  refine sel_drop z _ _ _ _ ?_ (hw x)
  rw [mask_apply]
  exact if_congr (by simp) rfl rfl

theorem scoreTile_apply (q0 q1 q2 q3 : Vec Ideal S1x256x128 .f32) (k : Vec Ideal S1x256x128 .bf16) (r : Fin 1024) (s : Fin 256) :
    scoreTile q0 q1 q2 q3 k (ix4 0 0 r s) = ∑ d : Fin 128,
      ((![q0, q1, q2, q3] (grp r)) (ix3 0 ⟨r.val % 256, by omega⟩ d) * ((scaleBase2 : ℝ) : EReal)) * k (ix3 0 s d) := by
  rw [← scale_val]
  unfold scoreTile
  unfold_payloads
  pointwise
  refine Finset.sum_congr rfl fun d _ => ?_
  have hr := r.isLt
  split
  · rw [show grp r = 0 from Fin.ext (by simp [grp]; omega),
      show (⟨r.val % 256, by omega⟩ : Fin 256) = ⟨r.val, by omega⟩ from Fin.ext (by show r.val % 256 = r.val; omega)]
    rfl
  · split
    · rw [show grp r = 1 from Fin.ext (by simp [grp]; omega),
        show (⟨r.val % 256, by omega⟩ : Fin 256) = ⟨r.val - 256, by omega⟩ from Fin.ext (by show r.val % 256 = r.val - 256; omega)]
      rfl
    · split
      · rw [show grp r = 2 from Fin.ext (by simp [grp]; omega),
          show (⟨r.val % 256, by omega⟩ : Fin 256) = ⟨r.val - 256 - 256, by omega⟩ from Fin.ext (by show r.val % 256 = r.val - 256 - 256; omega)]
        rfl
      · rw [show grp r = 3 from Fin.ext (by simp [grp]; omega),
          show (⟨r.val % 256, by omega⟩ : Fin 256) = ⟨r.val - 256 - 256 - 256, by omega⟩ from Fin.ext (by show r.val % 256 = r.val - 256 - 256 - 256; omega)]
        rfl

end Cert.KernelIdeal.Tile

end
-- ==== Proof.Step.lean ====
module

public import proofs.«01_k».proof.Proof.TileIdeal

/-! # One step of the attention, for one query row

A step takes the 256 keys `256 n …` and carries the running sum and the accumulator from the keys at and after
`256 (n + 1)` to those at and after `256 n`. -/

@[expose] public section

set_option maxRecDepth 16384

noncomputable section

namespace Cert.KernelIdeal.Tile

open Cert.KernelIdeal Cert.KernelIdeal.Gen Idealize.ShloMosaic Idealize.ShloMosaic.TcCoe Cert.Stick

/-- The weighted sum of the values of the keys from `a` on. -/
def wsum (z : ℕ → ℝ) (t : ℕ) (V : ℕ → EReal) (a : ℕ) : EReal := ∑ s ∈ Finset.Ico a 4096, ((weight z t 4096 s : ℝ) : EReal) * V s

theorem wsum_pair (z : ℕ → ℝ) (t : ℕ) (V : ℕ → EReal) (a : ℕ) (h : a + 256 ≤ 4096) :
    wsum z t V a = wsum z t V (a + 256) + (∑ c : Fin 128, ((weight z t 4096 (a + c.val) : ℝ) : EReal) * V (a + c.val)
      + ∑ c : Fin 128, ((weight z t 4096 (a + 128 + c.val) : ℝ) : EReal) * V (a + 128 + c.val)) := by
  have one : ∀ b, ∑ c : Fin 128, ((weight z t 4096 (b + c.val) : ℝ) : EReal) * V (b + c.val)
      = ∑ s ∈ Finset.Ico b (b + 128), ((weight z t 4096 s : ℝ) : EReal) * V s := fun b => by
    rw [Fin.sum_univ_eq_sum_range (fun c => ((weight z t 4096 (b + c) : ℝ) : EReal) * V (b + c)) 128,
      Finset.sum_Ico_eq_sum_range, Nat.add_sub_cancel_left]
  rw [one, one, wsum, wsum, ← Finset.sum_Ico_consecutive _ (show a ≤ a + 256 by omega) h,
    ← Finset.sum_Ico_consecutive _ (show a ≤ a + 128 by omega) (show a + 128 ≤ a + 256 by omega), add_comm, add_assoc a]

theorem run_apply (w1 w0 : Half Ideal) (b : Bias Ideal) (tri : Vec Ideal S256x256 .bf16) (R : Row Ideal) (r : Fin 1024) (l : Fin 128) :
    runRow w1 w0 b tri R (ix3 0 r l) = R (ix3 0 r l) + sums w1 b tri (ix2 r ⟨128 + l.val, by omega⟩)
      + sums w0 b tri (ix2 r ⟨128 + l.val, by omega⟩) := by
  unfold runRow k0_pay26 k0_pay23
  generalize sums w1 b tri = s1
  generalize sums w0 b tri = s0
  unfold k0_pay22 k0_pay21
  pointwise

theorem acc_apply (w1 w0 : Half Ideal) (b : Bias Ideal) (tri : Vec Ideal S256x256 .bf16) (R A : Row Ideal)
    (v : Vec Ideal S1x256x128 .bf16) (r : Fin 1024) (d : Fin 128) :
    accRow w1 w0 b tri R A v (ix3 0 r d) = A (ix3 0 r d)
      + (∑ x : Fin 128, Ideal.exp2 (zHalf w0 b (ix2 r x) - (sums w0 b tri (ix2 r ⟨x.val, by omega⟩)
            + (R (ix3 0 r x) + sums w1 b tri (ix2 r ⟨128 + x.val, by omega⟩)))) * v (ix3 0 ⟨x.val, by omega⟩ d)
        + ∑ x : Fin 128, Ideal.exp2 (zHalf w1 b (ix2 r x) - (sums w1 b tri (ix2 r ⟨x.val, by omega⟩) + R (ix3 0 r x)))
            * v (ix3 0 ⟨128 + x.val, by omega⟩ d)) := by
  unfold accRow k0_pay25 k0_pay24
  generalize sums w1 b tri = s1
  generalize sums w0 b tri = s0
  unfold k0_pay22 k0_pay21
  pointwise
  rfl

theorem mRun_apply (w1 w0 : Half Ideal) (b : Bias Ideal) (tri : Vec Ideal S256x256 .bf16) (R : Row Ideal) (r : Fin 1024) (l : Fin 128) :
    mRunRow w1 w0 b tri R (ix3 0 r l) = R (ix3 0 r l) + mSums1 w1 b tri (ix2 r ⟨128 + l.val, by omega⟩)
      + mSums0 w0 b tri (ix2 r ⟨128 + l.val, by omega⟩) := by
  unfold mRunRow k0_pay361
  generalize mSums1 w1 b tri = s1
  generalize mSums0 w0 b tri = s0
  unfold k0_pay359 k0_pay357
  pointwise

theorem mAcc_apply (w1 w0 : Half Ideal) (b : Bias Ideal) (tri : Vec Ideal S256x256 .bf16) (R A : Row Ideal)
    (v : Vec Ideal S1x256x128 .bf16) (r : Fin 1024) (d : Fin 128) :
    mAccRow w1 w0 b tri R A v (ix3 0 r d) = A (ix3 0 r d)
      + (∑ x : Fin 128, Scalar.select (k0_pay316 (ix2 r ⟨x.val, by omega⟩)) (Ideal.exp2 (zHalf w0 b (ix2 r x)
            - (mSums0 w0 b tri (ix2 r ⟨x.val, by omega⟩)
            + (R (ix3 0 r x) + mSums1 w1 b tri (ix2 r ⟨128 + x.val, by omega⟩))))) 0 * v (ix3 0 ⟨x.val, by omega⟩ d)
        + ∑ x : Fin 128, Scalar.select (k0_pay316 (ix2 r ⟨128 + x.val, by omega⟩)) (Ideal.exp2 (zHalf w1 b (ix2 r x)
            - (mSums1 w1 b tri (ix2 r ⟨x.val, by omega⟩) + R (ix3 0 r x)))) 0 * v (ix3 0 ⟨128 + x.val, by omega⟩ d)) := by
  unfold mAccRow k0_pay360 k0_pay358
  generalize mSums1 w1 b tri = s1
  generalize mSums0 w0 b tri = s0
  generalize k0_pay316 = m
  unfold k0_pay359 k0_pay357
  pointwise
  rfl

theorem from_lane (l : Fin 128) : fromKey ⟨128 + l.val, by omega⟩ = 0 := by simp [fromKey]
theorem from_col (x : Fin 128) : fromKey ⟨x.val, by omega⟩ = x.val := by simp [fromKey]

section
variable (z : ℕ → ℝ) (t n : ℕ) (V : ℕ → EReal) (w1 w0 : Half Ideal) (b : Bias Ideal) (tri : Vec Ideal S256x256 .bf16)
  (htri : IsTri tri) (R A : Row Ideal) (v : Vec Ideal S1x256x128 .bf16) (r : Fin 1024)
  (h1 : ∀ c : Fin 128, zHalf w1 b (ix2 r c) = ((z (256 * n + 128 + c.val) * L2 : ℝ) : EReal))
  (h0 : ∀ c : Fin 128, zHalf w0 b (ix2 r c) = ((z (256 * n + c.val) * L2 : ℝ) : EReal))
  (hR : ∀ l, R (ix3 0 r l) = ((dropped z t (256 * (n + 1)) 4096 * L2 : ℝ) : EReal))
  (hn : 256 * (n + 1) ≤ 4096)

include hn in
theorem drop_run : dropped z t (256 * (n + 1)) 4096 * L2 + dropped z t (256 * n + 128 + 0) (256 * n + 128 + 128) * L2
    + dropped z t (256 * n + 0) (256 * n + 128) * L2 = dropped z t (256 * n) 4096 * L2 := by
  rw [dropped_split z t (show 256 * n ≤ 256 * n + 128 by omega) (show 256 * n + 128 ≤ 4096 by omega),
    dropped_split z t (show 256 * n + 128 ≤ 256 * (n + 1) by omega) hn]
  simp only [add_zero, show 256 * n + 128 + 128 = 256 * (n + 1) by ring]
  ring

include hn in
theorem weight_newer (x : Fin 128) (hx : 256 * n + 128 + x.val < t) :
    Ideal.exp2 (((z (256 * n + 128 + x.val) * L2 : ℝ) : EReal) - (((dropped z t (256 * n + 128 + x.val) (256 * n + 128 + 128) * L2 : ℝ) : EReal)
      + ((dropped z t (256 * (n + 1)) 4096 * L2 : ℝ) : EReal))) = ((weight z t 4096 (256 * n + 128 + x.val) : ℝ) : EReal) := by
  rw [weight2, weight, if_pos hx, show 256 * n + 128 + 128 = 256 * (n + 1) by ring,
    ← dropped_split z t (show 256 * n + 128 + x.val ≤ 256 * (n + 1) by omega) hn]

include hn in
theorem weight_older (x : Fin 128) (hx : 256 * n + x.val < t) :
    Ideal.exp2 (((z (256 * n + x.val) * L2 : ℝ) : EReal) - (((dropped z t (256 * n + x.val) (256 * n + 128) * L2 : ℝ) : EReal)
      + (((dropped z t (256 * (n + 1)) 4096 * L2 : ℝ) : EReal) + ((dropped z t (256 * n + 128 + 0) (256 * n + 128 + 128) * L2 : ℝ) : EReal))))
      = ((weight z t 4096 (256 * n + x.val) : ℝ) : EReal) := by
  rw [← EReal.coe_add (dropped z t (256 * (n + 1)) 4096 * L2), ← add_mul, weight2, weight, if_pos hx,
    dropped_split z t (show 256 * n + x.val ≤ 256 * n + 128 by omega) (show 256 * n + 128 ≤ 4096 by omega),
    dropped_split z t (show 256 * n + 128 ≤ 256 * (n + 1) by omega) hn]
  simp only [add_zero, show 256 * n + 128 + 128 = 256 * (n + 1) by ring]
  congr 3
  ring

include htri h1 h0 hR hn in
theorem run_step (ht : 256 * (n + 1) ≤ t) (l : Fin 128) :
    runRow w1 w0 b tri R (ix3 0 r l) = ((dropped z t (256 * n) 4096 * L2 : ℝ) : EReal) := by
  rw [run_apply, hR, sums_val z t (256 * n + 128) w1 b tri htri r h1 (by omega),
    sums_val z t (256 * n) w0 b tri htri r h0 (by omega), from_lane, ← EReal.coe_add, ← EReal.coe_add, drop_run z t n hn]

include htri h1 h0 hR hn in
theorem mRun_step (ht : t = 256 * n + r.val % 256) (l : Fin 128) :
    mRunRow w1 w0 b tri R (ix3 0 r l) = ((dropped z t (256 * n) 4096 * L2 : ℝ) : EReal) := by
  rw [mRun_apply, hR, mSums1_val z (256 * n) w1 b tri htri r h1, mSums0_val z (256 * n) w0 b tri htri r h0, ← ht,
    from_lane, ← EReal.coe_add, ← EReal.coe_add, drop_run z t n hn]

variable (d : Fin 128) (hA : A (ix3 0 r d) = wsum z t V (256 * (n + 1)))
  (hv : ∀ c : Fin 256, v (ix3 0 c d) = V (256 * n + c.val))

include htri h1 h0 hR hn hA hv in
theorem acc_step (ht : 256 * (n + 1) ≤ t) : accRow w1 w0 b tri R A v (ix3 0 r d) = wsum z t V (256 * n) := by
  rw [acc_apply, hA, wsum_pair z t V (256 * n) (by omega), show 256 * n + 256 = 256 * (n + 1) by ring]
  refine congrArg (wsum z t V (256 * (n + 1)) + ·) (congrArg₂ (· + ·) (Finset.sum_congr rfl fun x _ => ?_) (Finset.sum_congr rfl fun x _ => ?_))
  · rw [h0, hR, hv, sums_val z t (256 * n + 128) w1 b tri htri r h1 (by omega),
      sums_val z t (256 * n) w0 b tri htri r h0 (by omega), from_lane, from_col, weight_older z t n hn x (by omega)]
  · rw [h1, hR, hv, sums_val z t (256 * n + 128) w1 b tri htri r h1 (by omega), from_col, weight_newer z t n hn x (by omega), add_assoc]

/-- A masked weight. -/
theorem sel_weight (j : ℕ) (m : BitVec 1) (x : EReal) (hm : m = if j < t then 1#1 else 0#1)
    (hx : j < t → x = ((weight z t 4096 j : ℝ) : EReal)) : Scalar.select m x 0 = ((weight z t 4096 j : ℝ) : EReal) := by
  by_cases h : j < t
  · rw [hm, if_pos h, hx h]; simp [Scalar.select]
  · rw [hm, if_neg h, weight, if_neg h]; simp [Scalar.select]

include htri h1 h0 hR hn hA hv in
theorem mAcc_step (ht : t = 256 * n + r.val % 256) : mAccRow w1 w0 b tri R A v (ix3 0 r d) = wsum z t V (256 * n) := by
  rw [mAcc_apply, hA, wsum_pair z t V (256 * n) (by omega), show 256 * n + 256 = 256 * (n + 1) by ring]
  refine congrArg (wsum z t V (256 * (n + 1)) + ·) (congrArg₂ (· + ·) (Finset.sum_congr rfl fun x _ => ?_) (Finset.sum_congr rfl fun x _ => ?_))
  · rw [hv, sel_weight z t (256 * n + x.val)]
    · rw [mask_apply]; exact if_congr (by simp [ht]) rfl rfl
    · intro hx
      rw [h0, hR, mSums1_val z (256 * n) w1 b tri htri r h1, mSums0_val z (256 * n) w0 b tri htri r h0, ← ht,
        from_lane, from_col, weight_older z t n hn x hx]
  · rw [hv, sel_weight z t (256 * n + 128 + x.val)]
    · rw [add_assoc]
    · rw [mask_apply]; exact if_congr (by simp [ht]; omega) rfl rfl
    · intro hx
      rw [h1, hR, mSums1_val z (256 * n) w1 b tri htri r h1, ← ht, from_col, weight_newer z t n hn x hx]
end

end Cert.KernelIdeal.Tile

end
-- ==== Proof.TripWords.lean ====
module

public import proofs.«01_k».proof.Proof.Tile

/-! # One trip of the attention loop

A trip runs two steps: the newer pair of key tiles is read from slot 1 of the scores while the older pair's scores are
written to slot 0, and then the other way round.  The lists of pieces the trip leaves are the ones `Proof.Tile`
names. -/

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F] [Named F]

/-- Where head `h`'s tiles of a pair of key tiles begin, by head. -/
abbrev Offs := Fin 4 → Fin 3 → ℕ

/-- The offsets stay inside the staged keys. -/
abbrev OffsIn (o : Offs) : Prop := ∀ h d, o h d + S1x256x128.size d ≤ S1x4096x512.size d

section
variable (i : grid0.Coords) (k : Fin (k0_t1_loop i).trips)

/-- The keys prefetched by the trip's first step. -/
def kOff1 : Offs := ![k0_off9 i k, k0_off11 i k, k0_off13 i k, k0_off15 i k]
/-- The values weighed by the trip's first step. -/
def vOff1 : Offs := ![k0_off10 i k, k0_off12 i k, k0_off14 i k, k0_off16 i k]
/-- The keys prefetched by the trip's second step. -/
def kOff2 : Offs := ![k0_off17 i k, k0_off19 i k, k0_off21 i k, k0_off23 i k]
/-- The values weighed by the trip's second step. -/
def vOff2 : Offs := ![k0_off18 i k, k0_off20 i k, k0_off22 i k, k0_off24 i k]

theorem kOff1_in : OffsIn (kOff1 i k) := by
  intro h; fin_cases h
  · exact k0_off9_inb i k
  · exact k0_off11_inb i k
  · exact k0_off13_inb i k
  · exact k0_off15_inb i k
theorem vOff1_in : OffsIn (vOff1 i k) := by
  intro h; fin_cases h
  · exact k0_off10_inb i k
  · exact k0_off12_inb i k
  · exact k0_off14_inb i k
  · exact k0_off16_inb i k
theorem kOff2_in : OffsIn (kOff2 i k) := by
  intro h; fin_cases h
  · exact k0_off17_inb i k
  · exact k0_off19_inb i k
  · exact k0_off21_inb i k
  · exact k0_off23_inb i k
theorem vOff2_in : OffsIn (vOff2 i k) := by
  intro h; fin_cases h
  · exact k0_off18_inb i k
  · exact k0_off20_inb i k
  · exact k0_off22_inb i k
  · exact k0_off24_inb i k
end

/-- The four heads' scores against the keys at `o`. -/
def scoresAt (m3 : Memref sig .tc .vmem S1x256x2048 .f32) (X3 : BufTy.Contents (Elt F) m3.view.ty)
    (m6 : Memref sig .tc .vmem S1x4096x512 .bf16) (X6 : BufTy.Contents (Elt F) m6.view.ty) (o : Offs) (ho : OffsIn o)
    (h : Fin 4) : Vec F S1x1x1024x256 .f32 :=
  scoreAt m3 X3 m6 X6 h (o h) (ho h)

/-- The halves of a slot read while the other slot is being filled. -/
def halvesOf (m : Memref sig .tc .vmem S2x4x1024x256 .f32) (s s' : Fin 2) (P : Fin 4 → Vec F S1x1x1024x256 .f32) (L : ZL F)
    (h : Fin 4) (t : Fin 2) : Half F :=
  halfOf m (zPut s' P L (ahead h t)) s h t

/-- The running sums a step leaves. -/
def runList (m14 : Memref sig .tc .vmem S4x1024x128 .f32) (H : Fin 4 → Fin 2 → Half F) (b : Fin 4 → Bias F)
    (tri : Vec F S256x256 .bf16) (L : RL F) : ℕ → RL F :=
  chain m14 (fun h R => runRow (H h 1) (H h 0) (b h) tri R) L

/-- The accumulators a step leaves. -/
def accList (m13 m14 : Memref sig .tc .vmem S4x1024x128 .f32) (H : Fin 4 → Fin 2 → Half F) (b : Fin 4 → Bias F)
    (tri : Vec F S256x256 .bf16) (V : Fin 4 → Vec F S1x256x128 .bf16) (LR : ℕ → RL F) (L : RL F) : ℕ → RL F :=
  chain m13 (fun h A => accRow (H h 1) (H h 0) (b h) tri (rowOf m14 (LR h.val) h) A (V h)) L

/-- The first step's running sums, read from the contents the trip begins with. -/
def runRows (m12 : Memref sig .tc .vmem S2x4x1024x256 .f32) (f12 : BufTy.Contents (Elt F) m12.view.ty)
    (m14 : Memref sig .tc .vmem S4x1024x128 .f32) (f14 : BufTy.Contents (Elt F) m14.view.ty) (b : Fin 4 → Bias F)
    (tri : Vec F S256x256 .bf16) (h : Fin 4) : Row F :=
  runRow (halfAt m12 f12 1 h 1) (halfAt m12 f12 1 h 0) (b h) tri (rowAt m14 f14 h)

/-- The first step's accumulators. -/
def accRows (m12 : Memref sig .tc .vmem S2x4x1024x256 .f32) (f12 : BufTy.Contents (Elt F) m12.view.ty)
    (m13 : Memref sig .tc .vmem S4x1024x128 .f32) (f13 : BufTy.Contents (Elt F) m13.view.ty)
    (m14 : Memref sig .tc .vmem S4x1024x128 .f32) (f14 : BufTy.Contents (Elt F) m14.view.ty) (b : Fin 4 → Bias F)
    (tri : Vec F S256x256 .bf16) (V : Fin 4 → Vec F S1x256x128 .bf16) (h : Fin 4) : Row F :=
  accRow (halfAt m12 f12 1 h 1) (halfAt m12 f12 1 h 0) (b h) tri (rowAt m14 f14 h) (rowAt m13 f13 h) (V h)

/-- The values at `o`, by head. -/
def valuesAt (m7 : Memref sig .tc .vmem S1x4096x512 .bf16) (X7 : BufTy.Contents (Elt F) m7.view.ty) (o : Offs) (ho : OffsIn o)
    (h : Fin 4) : Vec F S1x256x128 .bf16 := kvTile m7 X7 (o h) (ho h)

variable (𝒱 : Variants) (c : Dev nD) (bd : Option 𝒱.V) (i : grid0.Coords) (arg2 : Memref sig .tc .smem S16 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x256 .bf16) (harg10 : arg10.IsWhole) (arg11 : Memref sig .tc .vmem S1x256x2048 .f32) (harg11 : arg11.IsWhole) (arg12 : Memref sig .tc .vmem S2x4x1024x256 .f32) (harg12 : arg12.IsWhole) (arg13 : Memref sig .tc .vmem S4x1024x128 .f32) (harg13 : arg13.IsWhole) (arg14 : Memref sig .tc .vmem S4x1024x128 .f32) (harg14 : arg14.IsWhole) (arg15 : Memref sig .tc .vmem S256x2048 .f32) (harg15 : arg15.IsWhole) (arg1 : BitVec 32) (v779 : BitVec 32) (v790 : BitVec 1) (v791 : BitVec 32) (c0_i32_410 : BitVec 32) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg10 : BufTy.Contents (Elt F) arg10.view.ty) (k : Fin (k0_t1_loop i).trips) (f_arg12 : BufTy.Contents (Elt F) arg12.view.ty) (f_arg13 : BufTy.Contents (Elt F) arg13.view.ty) (f_arg14 : BufTy.Contents (Elt F) arg14.view.ty)

/-- The pieces a trip leaves in the scores scratch. -/
theorem trip_scores : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v779 v790 v791 c0_i32_410 X_arg2 X_arg3 X_arg6 X_arg7 X_arg10 k f_arg12 f_arg13 f_arg14).1 =
    zPut 1 (scoresAt arg3 X_arg3 arg6 X_arg6 (kOff2 i k) (kOff2_in i k))
      (zPut 0 (scoresAt arg3 X_arg3 arg6 X_arg6 (kOff1 i k) (kOff1_in i k)) [] 4) 4 := by
  unfold tripL_k0_t1 trip_k0_t1
  rfl

/-- The pieces a trip leaves in the running-sum scratch. -/
theorem trip_run : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v779 v790 v791 c0_i32_410 X_arg2 X_arg3 X_arg6 X_arg7 X_arg10 k f_arg12 f_arg13 f_arg14).2.2 =
    runList arg14 (halvesOf arg12 0 1 (scoresAt arg3 X_arg3 arg6 X_arg6 (kOff2 i k) (kOff2_in i k))
        (zPut 0 (scoresAt arg3 X_arg3 arg6 X_arg6 (kOff1 i k) (kOff1_in i k)) [] 4))
      (biasAt arg2 X_arg2) (triAt arg10 X_arg10)
      (rows (runRows arg12 f_arg12 arg14 f_arg14 (biasAt arg2 X_arg2) (triAt arg10 X_arg10)) []) 4 := by
  unfold tripL_k0_t1 trip_k0_t1
  rfl

/-- The pieces a trip leaves in the accumulator scratch. -/
theorem trip_acc : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v779 v790 v791 c0_i32_410 X_arg2 X_arg3 X_arg6 X_arg7 X_arg10 k f_arg12 f_arg13 f_arg14).2.1 =
    accList arg13 arg14 (halvesOf arg12 0 1 (scoresAt arg3 X_arg3 arg6 X_arg6 (kOff2 i k) (kOff2_in i k))
        (zPut 0 (scoresAt arg3 X_arg3 arg6 X_arg6 (kOff1 i k) (kOff1_in i k)) [] 4))
      (biasAt arg2 X_arg2) (triAt arg10 X_arg10) (valuesAt arg7 X_arg7 (vOff2 i k) (vOff2_in i k))
      (runList arg14 (halvesOf arg12 0 1 (scoresAt arg3 X_arg3 arg6 X_arg6 (kOff2 i k) (kOff2_in i k))
        (zPut 0 (scoresAt arg3 X_arg3 arg6 X_arg6 (kOff1 i k) (kOff1_in i k)) [] 4))
      (biasAt arg2 X_arg2) (triAt arg10 X_arg10)
      (rows (runRows arg12 f_arg12 arg14 f_arg14 (biasAt arg2 X_arg2) (triAt arg10 X_arg10)) []))
      (rows (accRows arg12 f_arg12 arg13 f_arg13 arg14 f_arg14 (biasAt arg2 X_arg2) (triAt arg10 X_arg10)
        (valuesAt arg7 X_arg7 (vOff1 i k) (vOff1_in i k))) []) 4 := by
  unfold tripL_k0_t1 trip_k0_t1
  rfl

end Cert.KernelIdeal.Tile

end
-- ==== Proof.RunWords.lean ====
module

public import proofs.«01_k».proof.Proof.TripWords
public import proofs.«01_k».proof.Proof.Gen.KernelIdeal.Frame

/-! # The whole body of a grid point

Before the loop: the diagonal pair of key tiles, with the causal mask, over zeroed scratch buffers.  After it: for an odd
query tile one more step, then the sixteen heads side by side, gated, projected and normalised. -/

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F] [Named F]

section
variable (i : grid0.Coords)

/-- The keys and values of the diagonal pair. -/
def offD : Offs := ![k0_off1 i, k0_off2 i, k0_off3 i, k0_off4 i]
/-- The keys prefetched by the diagonal step. -/
def offP : Offs := ![k0_off5 i, k0_off6 i, k0_off7 i, k0_off8 i]

theorem offD_in : OffsIn (offD i) := by
  intro h; fin_cases h
  · exact k0_off1_inb i
  · exact k0_off2_inb i
  · exact k0_off3_inb i
  · exact k0_off4_inb i
theorem offP_in : OffsIn (offP i) := by
  intro h; fin_cases h
  · exact k0_off5_inb i
  · exact k0_off6_inb i
  · exact k0_off7_inb i
  · exact k0_off8_inb i
end

/-- The query tile's number, as the kernel counts it. -/
def qWord (i : grid0.Coords) : BitVec 32 := BitVec.ofNat 32 (i 1).val
/-- Half of it. -/
def halfWord (i : grid0.Coords) : BitVec 32 := Scalar.divsi (qWord i) 2#32
/-- The sign test of the loop's trip count. -/
def signWord (i : grid0.Coords) : BitVec 1 := Scalar.cmpi .ne
  (Scalar.subi (Scalar.extui (Scalar.cmpi .sgt (qWord i) 0#32)) (Scalar.extui (Scalar.cmpi .slt (qWord i) 0#32))) 1#32
/-- Its parity. -/
def parityWord (i : grid0.Coords) : BitVec 32 := Scalar.remsi (qWord i) 2#32
/-- Where the loop's remainder begins. -/
def restWord (i : grid0.Coords) : BitVec 32 := Scalar.addi 0#32 (Scalar.muli (Scalar.divsi (Scalar.subi
  (Scalar.select (Scalar.andi (signWord i) (Scalar.cmpi .ne (parityWord i) 0#32)) (Scalar.subi (halfWord i) 1#32) (halfWord i))
  0#32) 1#32) 1#32)

/-- The running sums the diagonal step leaves. -/
def mRunList (m14 : Memref sig .tc .vmem S4x1024x128 .f32) (H : Fin 4 → Fin 2 → Half F) (b : Fin 4 → Bias F)
    (tri : Vec F S256x256 .bf16) (L : RL F) : ℕ → RL F :=
  chain m14 (fun h R => mRunRow (H h 1) (H h 0) (b h) tri R) L

/-- The accumulators the diagonal step leaves. -/
def mAccList (m13 m14 : Memref sig .tc .vmem S4x1024x128 .f32) (H : Fin 4 → Fin 2 → Half F) (b : Fin 4 → Bias F)
    (tri : Vec F S256x256 .bf16) (V : Fin 4 → Vec F S1x256x128 .bf16) (LR : ℕ → RL F) (L : RL F) : ℕ → RL F :=
  chain m13 (fun h A => mAccRow (H h 1) (H h 0) (b h) tri (rowOf m14 (LR h.val) h) A (V h)) L

/-- The zeroed accumulator. -/
def accZero : RL F := [⟨Rect.unit (s := S4x1024x128) ![0, 0, 0] S4x1024x128.size inb_S4x1024x128_S4x1024x128_0_0_0, k0_pay317⟩]
/-- The zeroed running sum. -/
def runZero : RL F := [⟨Rect.unit (s := S4x1024x128) ![0, 0, 0] S4x1024x128.size inb_S4x1024x128_S4x1024x128_0_0_0, k0_pay318⟩]

theorem inb_head (h : ℕ) (hh : h < 16) :
    ∀ d, (![h / 4, 256 * (h % 4), 0] : Fin 3 → ℕ) d + S1x256x128.size d ≤ S4x1024x128.size d := by
  intro d; fin_cases d <;> simp <;> omega

theorem inb_col (h : ℕ) (hh : h < 16) :
    ∀ d, (![0, 128 * h] : Fin 2 → ℕ) d + S256x128.size d ≤ S256x2048.size d := by
  intro d; fin_cases d <;> simp <;> omega

/-- Heads `0 … n-1` of the accumulator, side by side. -/
def oPut (m13 : Memref sig .tc .vmem S4x1024x128 .f32) (L : RL F) : ℕ → List (View.Piece (Elt F) S256x2048 .f32)
  | 0 => []
  | n + 1 => if h : n < 16 then
      ⟨Rect.unit (s := S256x2048) ![0, 128 * n] S256x128.size (inb_col n h), k0_pay408 (m13.view.readCov L
        (Rect.unit (s := S4x1024x128) ![n / 4, 256 * (n % 4), 0] S1x256x128.size (inb_head n h)).toLoadRect)⟩ :: oPut m13 L n
    else oPut m13 L n

/-- What is read back of the sixteen heads side by side. -/
def oRead (m15 : Memref sig .tc .vmem S256x2048 .f32) (L : List (View.Piece (Elt F) S256x2048 .f32)) : Vec F S256x2048 .f32 :=
  m15.view.readCov L (Rect.unit (s := S256x2048) ![0, 0] S256x2048.size inb_S256x2048_S256x2048_0_0).toLoadRect

/-- The gated projection, normalised and added to the residual. -/
def outTile (o : Vec F S256x2048 .f32) (gate x1 : Vec F S1x256x2048 .f32) (w : Vec F S2048x2048 .bf16) (g : Vec F S1x2048 .f32) :
    Vec F S1x256x2048 .f32 :=
  k0_pay1 (k0_pay425 x1) (k0_pay426 g) (k0_pay427 o gate w) (k0_pay428 o gate w)

variable (c : Dev nD) (i : grid0.Coords) (arg2 : Memref sig .tc .smem S16 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x256 .bf16) (harg10 : arg10.IsWhole) (arg11 : Memref sig .tc .vmem S1x256x2048 .f32) (harg11 : arg11.IsWhole) (arg12 : Memref sig .tc .vmem S2x4x1024x256 .f32) (harg12 : arg12.IsWhole) (arg13 : Memref sig .tc .vmem S4x1024x128 .f32) (harg13 : arg13.IsWhole) (arg14 : Memref sig .tc .vmem S4x1024x128 .f32) (harg14 : arg14.IsWhole) (arg15 : Memref sig .tc .vmem S256x2048 .f32) (harg15 : arg15.IsWhole)
  (x0 : Vec F S16 .f32) (x1 : Vec F S1x256x2048 .f32) (x2 : Vec F S1x256x2048 .f32) (x3 : Vec F S1x256x2048 .f32) (x4 : Vec F S1x4096x512 .bf16) (x5 : Vec F S1x4096x512 .bf16) (x6 : Vec F S2048x2048 .bf16) (x7 : Vec F S1x2048 .f32) (x8 : Vec F S256x256 .bf16)

/-- The scores the diagonal step finds. -/
abbrev sD : Fin 4 → Vec F S1x1x1024x256 .f32 :=
  scoresAt arg3 (harg3.unread x1) arg6 (harg6.unread x4) (offD i) (offD_in i)

/-- The scores the diagonal step prefetches. -/
abbrev sP : Fin 4 → Vec F S1x1x1024x256 .f32 :=
  scoresAt arg3 (harg3.unread x1) arg6 (harg6.unread x4) (offP i) (offP_in i)

/-- The scores scratch before the loop. -/
def zBase : ZL F := zPut 1 (sP i arg3 harg3 arg6 harg6 x1 x4) (zPut 0 (sD i arg3 harg3 arg6 harg6 x1 x4) [] 4) 4

/-- The halves the diagonal step reads. -/
abbrev hD : Fin 4 → Fin 2 → Half F :=
  halvesOf arg12 0 1 (sP i arg3 harg3 arg6 harg6 x1 x4) (zPut 0 (sD i arg3 harg3 arg6 harg6 x1 x4) [] 4)

/-- The running sums before the loop. -/
def runBase : ℕ → RL F :=
  mRunList arg14 (hD i arg3 harg3 arg6 harg6 arg12 x1 x4) (biasAt arg2 (harg2.unread x0)) (triAt arg10 (harg10.unread x8)) runZero

/-- The accumulators before the loop. -/
def accBase : ℕ → RL F :=
  mAccList arg13 arg14 (hD i arg3 harg3 arg6 harg6 arg12 x1 x4) (biasAt arg2 (harg2.unread x0)) (triAt arg10 (harg10.unread x8))
    (valuesAt arg7 (harg7.unread x5) (offD i) (offD_in i))
    (runBase i arg2 harg2 arg3 harg3 arg6 harg6 arg10 harg10 arg12 arg14 x0 x1 x4 x8) accZero

/-- The pieces the loop's first `n` trips leave. -/
def loopPieces (n : ℕ) : ZL F × RL F × RL F :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (qWord i) (halfWord i) (signWord i) (parityWord i) 0#32 (harg2.unread x0) (harg3.unread x1) (harg6.unread x4) (harg7.unread x5) (harg10.unread x8)
    (arg12.view.writes (Elt F) arg12.view.junk (zBase i arg3 harg3 arg6 harg6 x1 x4))
    (arg13.view.writes (Elt F) arg13.view.junk
      (accBase i arg2 harg2 arg3 harg3 arg6 harg6 arg7 harg7 arg10 harg10 arg12 arg13 arg14 x0 x1 x4 x5 x8 4))
    (arg14.view.writes (Elt F) arg14.view.junk
      (runBase i arg2 harg2 arg3 harg3 arg6 harg6 arg10 harg10 arg12 arg14 x0 x1 x4 x8 4)) n

/-- The scores scratch after the loop. -/
def z1 : ZL F := (loopPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 (k0_t1_loop i).trips).1 ++ zBase i arg3 harg3 arg6 harg6 x1 x4

/-- The accumulators after the loop. -/
def acc1 : RL F := (loopPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 (k0_t1_loop i).trips).2.1 ++
  accBase i arg2 harg2 arg3 harg3 arg6 harg6 arg7 harg7 arg10 harg10 arg12 arg13 arg14 x0 x1 x4 x5 x8 4

/-- The running sums after the loop. -/
def run1 : RL F := (loopPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 (k0_t1_loop i).trips).2.2 ++
  runBase i arg2 harg2 arg3 harg3 arg6 harg6 arg10 harg10 arg12 arg14 x0 x1 x4 x8 4

/-- The pieces of the loop's remainder, which runs no trip. -/
def restPieces : ZL F × RL F × RL F :=
  pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (qWord i) (halfWord i) (signWord i) (parityWord i) 0#32 (restWord i) (harg2.unread x0) (harg3.unread x1) (harg6.unread x4) (harg7.unread x5) (harg10.unread x8)
    (arg12.view.writes (Elt F) arg12.view.junk (z1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8))
    (arg13.view.writes (Elt F) arg13.view.junk (acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8))
    (arg14.view.writes (Elt F) arg14.view.junk (run1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8)) (k0_t2_loop i).trips

/-- The remainder runs no trip. -/
theorem rest_trips : ∀ i : grid0.Coords, (k0_t2_loop i).trips = 0 := by decide +kernel

theorem restPieces_eq : restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 = ([], [], []) := by
  rw [restPieces, rest_trips]
  rfl

/-- The pieces before the loop, as the run names them. -/
theorem zBase_eq : kernelRun0_A.sl.HS0_8 (F := F) c i arg3 harg3 arg6 harg6 x1 x4 = zBase i arg3 harg3 arg6 harg6 x1 x4 := rfl

theorem runBase_eq : kernelRun0_A.sl.HS2_5 (F := F) c i arg2 harg2 arg3 harg3 arg6 harg6 arg10 harg10 arg12 arg14 x0 x1 x4 x8 =
    runBase i arg2 harg2 arg3 harg3 arg6 harg6 arg10 harg10 arg12 arg14 x0 x1 x4 x8 4 := rfl

theorem accBase_eq : kernelRun0_A.sl.HS1_5 (F := F) c i arg2 harg2 arg3 harg3 arg6 harg6 arg7 harg7 arg10 harg10 arg12 arg13 arg14 x0 x1 x4 x5 x8 =
    accBase i arg2 harg2 arg3 harg3 arg6 harg6 arg7 harg7 arg10 harg10 arg12 arg13 arg14 x0 x1 x4 x5 x8 4 := rfl

/-- What the heads are read from, as the run names it. -/
theorem heads_eq : kernelRun0_A.sl.HS3_16 (F := F) c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 =
    oPut arg13 ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.1 ++ acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8) 16 := by
  refine Eq.trans (b := oPut arg13 _ 16) rfl (congrArg (fun L => oPut arg13 L 16) ?_)
  rw [zBase_eq, runBase_eq, accBase_eq]
  rfl

/-- What the body of an even query tile writes: the heads after the loop, gated, projected and normalised. -/
theorem run_even (hc0 : ¬cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 =
      [⟨Rect.unit (s := S1x256x2048) ![0, 0, 0] S1x256x2048.size inb_S1x256x2048_S1x256x2048_0_0_0,
        outTile (oRead arg15 (oPut arg13 ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.1 ++ acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8) 16))
          (View.readAt (Elt F) arg4.view (Rect.unit (s := S1x256x2048) ![0, 0, 0] S1x256x2048.size inb_S1x256x2048_S1x256x2048_0_0_0).toLoadRect (harg4.unread x2))
          (View.readAt (Elt F) arg5.view (Rect.unit (s := S1x256x2048) ![0, 0, 0] S1x256x2048.size inb_S1x256x2048_S1x256x2048_0_0_0).toLoadRect (harg5.unread x3))
          (View.readAt (Elt F) arg8.view (Rect.unit (s := S2048x2048) ![0, 0] S2048x2048.size inb_S2048x2048_S2048x2048_0_0).toLoadRect (harg8.unread x6))
          (View.readAt (Elt F) arg9.view (Rect.unit (s := S1x2048) ![0, 0] S1x2048.size inb_S1x2048_S1x2048_0_0).toLoadRect (harg9.unread x7))⟩] := by
  rw [← heads_eq]
  unfold kernelRun0_A
  rfl

end Cert.KernelIdeal.Tile

end
-- ==== Proof.RunWordsB.lean ====
module

public import proofs.«01_k».proof.Proof.RunWords

/-! # The whole body of a grid point with an odd query tile

After the loop one pair of key tiles is left; its scores are in slot 1. -/

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F] [Named F]

section
variable (i : grid0.Coords)

/-- The keys the last step prefetches (never read). -/
def offK : Offs := ![k0_off41 i, k0_off43 i, k0_off45 i, k0_off47 i]
/-- The values the last step weighs. -/
def offV : Offs := ![k0_off42 i, k0_off44 i, k0_off46 i, k0_off48 i]

theorem offK_in (hc0 : cond0_0 i) : OffsIn (offK i) := by
  intro h; fin_cases h
  · exact k0_off41_inb i hc0
  · exact k0_off43_inb i hc0
  · exact k0_off45_inb i hc0
  · exact k0_off47_inb i hc0
theorem offV_in (hc0 : cond0_0 i) : OffsIn (offV i) := by
  intro h; fin_cases h
  · exact k0_off42_inb i hc0
  · exact k0_off44_inb i hc0
  · exact k0_off46_inb i hc0
  · exact k0_off48_inb i hc0
end

variable (c : Dev nD) (i : grid0.Coords) (arg2 : Memref sig .tc .smem S16 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x256 .bf16) (harg10 : arg10.IsWhole) (arg11 : Memref sig .tc .vmem S1x256x2048 .f32) (harg11 : arg11.IsWhole) (arg12 : Memref sig .tc .vmem S2x4x1024x256 .f32) (harg12 : arg12.IsWhole) (arg13 : Memref sig .tc .vmem S4x1024x128 .f32) (harg13 : arg13.IsWhole) (arg14 : Memref sig .tc .vmem S4x1024x128 .f32) (harg14 : arg14.IsWhole) (arg15 : Memref sig .tc .vmem S256x2048 .f32) (harg15 : arg15.IsWhole)
  (x0 : Vec F S16 .f32) (x1 : Vec F S1x256x2048 .f32) (x2 : Vec F S1x256x2048 .f32) (x3 : Vec F S1x256x2048 .f32) (x4 : Vec F S1x4096x512 .bf16) (x5 : Vec F S1x4096x512 .bf16) (x6 : Vec F S2048x2048 .bf16) (x7 : Vec F S1x2048 .f32) (x8 : Vec F S256x256 .bf16)

/-- The pieces before the loop, as the run names them. -/
theorem zBase_eqB : kernelRun0_B.sl.HS0_8 (F := F) c i arg3 harg3 arg6 harg6 x1 x4 = zBase i arg3 harg3 arg6 harg6 x1 x4 := rfl

theorem runBase_eqB : kernelRun0_B.sl.HS2_5 (F := F) c i arg2 harg2 arg3 harg3 arg6 harg6 arg10 harg10 arg12 arg14 x0 x1 x4 x8 =
    runBase i arg2 harg2 arg3 harg3 arg6 harg6 arg10 harg10 arg12 arg14 x0 x1 x4 x8 4 := rfl

theorem accBase_eqB : kernelRun0_B.sl.HS1_5 (F := F) c i arg2 harg2 arg3 harg3 arg6 harg6 arg7 harg7 arg10 harg10 arg12 arg13 arg14 x0 x1 x4 x5 x8 =
    accBase i arg2 harg2 arg3 harg3 arg6 harg6 arg7 harg7 arg10 harg10 arg12 arg13 arg14 x0 x1 x4 x5 x8 4 := rfl

/-- The scores of the pair before the first, which the last step prefetches. -/
abbrev sK (hc0 : cond0_0 i) : Fin 4 → Vec F S1x1x1024x256 .f32 :=
  scoresAt arg3 (harg3.unread x1) arg6 (harg6.unread x4) (offK i) (offK_in i hc0)

/-- The halves the last step reads. -/
abbrev hK (hc0 : cond0_0 i) : Fin 4 → Fin 2 → Half F :=
  halvesOf arg12 1 0 (sK i arg3 harg3 arg6 harg6 x1 x4 hc0) ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).1 ++ z1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8)

/-- The running sums after the last step. -/
def run2 (hc0 : cond0_0 i) : ℕ → RL F :=
  runList arg14 (hK c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) (biasAt arg2 (harg2.unread x0)) (triAt arg10 (harg10.unread x8))
    ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.2 ++ run1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8)

/-- The accumulators after the last step. -/
def acc2 (hc0 : cond0_0 i) : ℕ → RL F :=
  accList arg13 arg14 (hK c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) (biasAt arg2 (harg2.unread x0)) (triAt arg10 (harg10.unread x8))
    (valuesAt arg7 (harg7.unread x5) (offV i) (offV_in i hc0)) (run2 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0)
    ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.1 ++ acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8)

/-- What the scores scratch holds before the last step, as the run names it. -/
abbrev zR (hc0 : cond0_0 i) : ZL F := List.tail (kernelRun0_B.sl.HS0_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8)
/-- The running sums before the last step, as the run names them. -/
abbrev runR : RL F := List.tail (kernelRun0_B.sl.HS2_1_1 (F := F) c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8)
/-- The accumulators before the last step, as the run names them. -/
abbrev accR (hc0 : cond0_0 i) : RL F := List.tail (kernelRun0_B.sl.HS1_1_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8)

theorem zRest_eq (hc0 : cond0_0 i) : zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 = (restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).1 ++ z1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 := by
  unfold zR kernelRun0_B.sl.HS0_1
  rw [List.tail_cons, zBase_eqB, runBase_eqB, accBase_eqB]
  rfl

theorem runRest_eq : runR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 = (restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.2 ++ run1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 := by
  unfold runR kernelRun0_B.sl.HS2_1_1
  rw [List.tail_cons, zBase_eqB, runBase_eqB, accBase_eqB]
  rfl

theorem accRest_eq (hc0 : cond0_0 i) : accR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 = (restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.1 ++ acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 := by
  unfold accR kernelRun0_B.sl.HS1_1_1
  rw [List.tail_cons, zBase_eqB, runBase_eqB, accBase_eqB]
  rfl

/-- The scores scratch while the last step fills slot 0. -/
abbrev zT (hc0 : cond0_0 i) : ℕ → ZL F := zPut 0 (sK i arg3 harg3 arg6 harg6 x1 x4 hc0) (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0)
/-- The halves the last step reads, over the scores the run names. -/
abbrev hT (hc0 : cond0_0 i) : Fin 4 → Fin 2 → Half F :=
  halvesOf arg12 1 0 (sK i arg3 harg3 arg6 harg6 x1 x4 hc0) (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0)
/-- The last step's running sums, over the lists the run names. -/
abbrev rT (hc0 : cond0_0 i) : ℕ → RL F :=
  runList arg14 (hT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) (biasAt arg2 (harg2.unread x0)) (triAt arg10 (harg10.unread x8)) (runR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8)
/-- The last step's accumulators, over the lists the run names. -/
abbrev aT (hc0 : cond0_0 i) : ℕ → RL F :=
  accList arg13 arg14 (hT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) (biasAt arg2 (harg2.unread x0)) (triAt arg10 (harg10.unread x8))
    (valuesAt arg7 (harg7.unread x5) (offV i) (offV_in i hc0)) (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) (accR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0)

theorem zT1 (hc0 : cond0_0 i) : kernelRun0_B.sl.HS0_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1 := by
  show _ = zPiece 0 0 (sK i arg3 harg3 arg6 harg6 x1 x4 hc0 0) :: zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 0
  rfl

theorem zT2 (hc0 : cond0_0 i) : kernelRun0_B.sl.HS0_2 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2 := by
  show _ = zPiece 0 1 (sK i arg3 harg3 arg6 harg6 x1 x4 hc0 1) :: zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1
  rw [← zT1]
  rfl

theorem zT3 (hc0 : cond0_0 i) : kernelRun0_B.sl.HS0_3 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3 := by
  show _ = zPiece 0 2 (sK i arg3 harg3 arg6 harg6 x1 x4 hc0 2) :: zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2
  rw [← zT2]
  rfl

theorem rT1 (hc0 : cond0_0 i) : kernelRun0_B.sl.HS2_1_1 (F := F) c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 = rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1 := by
  show _ = rowPiece 0 (runRow (halfOf arg12 (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) 1 0 1) (halfOf arg12 (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) 1 0 0) (biasAt arg2 (harg2.unread x0) 0)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 0) 0)) :: rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 0
  rfl

theorem rT2 (hc0 : cond0_0 i) : kernelRun0_B.sl.HS2_2_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2 := by
  show _ = rowPiece 1 (runRow (halfOf arg12 (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) 1 1 1) (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1 1 0) (biasAt arg2 (harg2.unread x0) 1)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1)) :: rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1
  rw [← rT1, ← zT1]
  rfl

theorem rT3 (hc0 : cond0_0 i) : kernelRun0_B.sl.HS2_3_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3 := by
  show _ = rowPiece 2 (runRow (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1 2 1) (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2) 1 2 0) (biasAt arg2 (harg2.unread x0) 2)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2) 2)) :: rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2
  rw [← rT2, ← zT2, ← zT1]
  rfl

theorem aT1 (hc0 : cond0_0 i) : kernelRun0_B.sl.HS1_1_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1 := by
  show _ = rowPiece 0 (accRow (halfOf arg12 (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) 1 0 1) (halfOf arg12 (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) 1 0 0) (biasAt arg2 (harg2.unread x0) 0)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 0) 0) (rowOf arg13 (aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 0) 0)
    (valuesAt arg7 (harg7.unread x5) (offV i) (offV_in i hc0) 0)) :: aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 0
  rfl

theorem aT2 (hc0 : cond0_0 i) : kernelRun0_B.sl.HS1_2_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2 := by
  show _ = rowPiece 1 (accRow (halfOf arg12 (zR c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0) 1 1 1) (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1 1 0) (biasAt arg2 (harg2.unread x0) 1)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1) (rowOf arg13 (aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1)
    (valuesAt arg7 (harg7.unread x5) (offV i) (offV_in i hc0) 1)) :: aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1
  rw [← aT1, ← rT1, ← zT1]
  rfl

theorem aT3 (hc0 : cond0_0 i) : kernelRun0_B.sl.HS1_3_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3 := by
  show _ = rowPiece 2 (accRow (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 1) 1 2 1) (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2) 1 2 0) (biasAt arg2 (harg2.unread x0) 2)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2) 2) (rowOf arg13 (aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2) 2)
    (valuesAt arg7 (harg7.unread x5) (offV i) (offV_in i hc0) 2)) :: aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2
  rw [← aT2, ← rT2, ← zT2, ← zT1]
  rfl

theorem aT4 (hc0 : cond0_0 i) : kernelRun0_B.sl.HS1_4_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 4 := by
  show _ = rowPiece 3 (accRow (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 2) 1 3 1) (halfOf arg12 (zT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3) 1 3 0) (biasAt arg2 (harg2.unread x0) 3)
    (triAt arg10 (harg10.unread x8)) (rowOf arg14 (rT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3) 3) (rowOf arg13 (aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3) 3)
    (valuesAt arg7 (harg7.unread x5) (offV i) (offV_in i hc0) 3)) :: aT c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 3
  rw [← aT3, ← rT3, ← zT3, ← zT2]
  rfl

theorem last_eq (hc0 : cond0_0 i) : kernelRun0_B.sl.HS1_4_1 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 = acc2 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 4 := by
  rw [aT4]
  unfold acc2 run2 hK aT rT hT
  rw [zRest_eq, runRest_eq, accRest_eq]

theorem heads_eqB (hc0 : cond0_0 i) : kernelRun0_B.sl.HS3_16 (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x4 x5 x8 =
    oPut arg13 (acc2 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 4) 16 := by
  refine Eq.trans (b := oPut arg13 _ 16) rfl (congrArg (fun L => oPut arg13 L 16) ?_)
  exact last_eq c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0

/-- What the body of an odd query tile writes: the heads after the loop, gated, projected and normalised. -/
theorem run_odd (hc0 : cond0_0 i) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 =
      [⟨Rect.unit (s := S1x256x2048) ![0, 0, 0] S1x256x2048.size inb_S1x256x2048_S1x256x2048_0_0_0,
        outTile (oRead arg15 (oPut arg13 (acc2 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 4) 16))
          (View.readAt (Elt F) arg4.view (Rect.unit (s := S1x256x2048) ![0, 0, 0] S1x256x2048.size inb_S1x256x2048_S1x256x2048_0_0_0).toLoadRect (harg4.unread x2))
          (View.readAt (Elt F) arg5.view (Rect.unit (s := S1x256x2048) ![0, 0, 0] S1x256x2048.size inb_S1x256x2048_S1x256x2048_0_0_0).toLoadRect (harg5.unread x3))
          (View.readAt (Elt F) arg8.view (Rect.unit (s := S2048x2048) ![0, 0] S2048x2048.size inb_S2048x2048_S2048x2048_0_0).toLoadRect (harg8.unread x6))
          (View.readAt (Elt F) arg9.view (Rect.unit (s := S1x2048) ![0, 0] S1x2048.size inb_S1x2048_S1x2048_0_0).toLoadRect (harg9.unread x7))⟩] := by
  rw [← heads_eqB]
  unfold kernelRun0_B
  rfl

end Cert.KernelIdeal.Tile

end
-- ==== Proof.Reads.lean ====
module

public import proofs.«01_k».proof.Proof.RunWordsB
public import Idealize.ShloMosaic.Lib.Pointwise

/-! # What the scratch buffers hold, entry by entry

Everything a grid point reads from its scratch buffers was written by the same grid point, so a list of pieces has
one reading, its `View.canon`.  Here that reading is given at an entry for each list `Proof.Tile` names. -/

@[expose] public section

set_option maxRecDepth 16384

noncomputable section

namespace Cert.KernelIdeal.Tile

open Cert.KernelIdeal Cert.KernelIdeal.Gen Idealize.ShloMosaic Idealize.ShloMosaic.TcCoe

variable {F : FTy → Type} [FloatOps F] [Named F]

theorem idx_half (s : Fin 2) (h : Fin 4) (t : Fin 2) (r : Fin 1024) (c : Fin 128) :
    (Rect.unit (s := S2x4x1024x256) ![s.val, h.val, 0, 128 * t.val] S1x1x1024x128.size (inb_half s h t)).toLoadRect.idx (ix4 0 0 r c)
      = ix4 s h r ⟨128 * t.val + c.val, by have := t.isLt; omega⟩ := by
  funext d
  fin_cases d <;> exact Fin.ext (by simp [LoadRect.idx, Rect.unit])

theorem idx_row (h : Fin 4) (r : Fin 1024) (l : Fin 128) :
    (Rect.unit (s := S4x1024x128) ![h.val, 0, 0] S1x1024x128.size (inb_row h)).toLoadRect.idx (ix3 0 r l) = ix3 h r l := by
  funext d
  fin_cases d <;> exact Fin.ext (by simp [LoadRect.idx, Rect.unit])

theorem halfOf_apply (m : Memref sig .tc .vmem S2x4x1024x256 .f32) (L : ZL F) (s : Fin 2) (h : Fin 4) (t : Fin 2) (r : Fin 1024)
    (c : Fin 128) : halfOf m L s h t (ix4 0 0 r c) = View.canon L (ix4 s h r ⟨128 * t.val + c.val, by have := t.isLt; omega⟩) := by
  rw [halfOf, View.readCov_eq_canon']
  exact congrArg _ (idx_half s h t r c)

theorem halfAt_apply (m : Memref sig .tc .vmem S2x4x1024x256 .f32) (L : ZL F) (s : Fin 2) (h : Fin 4) (t : Fin 2) (r : Fin 1024)
    (c : Fin 128) : halfAt m (m.view.writes (Elt F) m.view.junk L) s h t (ix4 0 0 r c)
      = View.canon L (ix4 s h r ⟨128 * t.val + c.val, by have := t.isLt; omega⟩) := by
  rw [halfAt, View.readAt_writes_junk_eq_canon]
  exact congrArg _ (idx_half s h t r c)

theorem rowOf_apply (m : Memref sig .tc .vmem S4x1024x128 .f32) (L : RL F) (h : Fin 4) (r : Fin 1024) (l : Fin 128) :
    rowOf m L h (ix3 0 r l) = View.canon L (ix3 h r l) := by
  rw [rowOf, View.readCov_eq_canon']
  exact congrArg _ (idx_row h r l)

theorem rowAt_apply (m : Memref sig .tc .vmem S4x1024x128 .f32) (L : RL F) (h : Fin 4) (r : Fin 1024) (l : Fin 128) :
    rowAt m (m.view.writes (Elt F) m.view.junk L) h (ix3 0 r l) = View.canon L (ix3 h r l) := by
  rw [rowAt, View.readAt_writes_junk_eq_canon]
  exact congrArg _ (idx_row h r l)

theorem canon_zPiece (s : Fin 2) (h : Fin 4) (p : Vec F S1x1x1024x256 .f32) (L : ZL F) (s' : Fin 2) (h' : Fin 4) (r : Fin 1024)
    (c : Fin 256) : View.canon (zPiece s h p :: L) (ix4 s' h' r c)
      = if s' = s ∧ h' = h then p (ix4 0 0 r c) else View.canon L (ix4 s' h' r c) := by
  split
  · rename_i e
    obtain ⟨rfl, rfl⟩ := e
    rw [show ix4 s' h' r c = (Rect.unit (s := S2x4x1024x256) ![s'.val, h'.val, 0, 0] S1x1x1024x256.size (inb_z s' h')).emb (ix4 0 0 r c) from by
      funext d
      fin_cases d <;> exact Fin.ext (by simp [Rect.emb, Rect.unit])]
    exact View.canon_cons_emb _ _ _ _
  · rename_i e
    refine View.canon_cons_of_not_mem _ _ fun hm => e ?_
    rw [zPiece, Rect.mem_set_unit] at hm
    have a := hm 0
    have b := hm 1
    simp at a b
    exact ⟨Fin.ext (by omega), Fin.ext (by omega)⟩

theorem canon_rowPiece (h : Fin 4) (p : Row F) (L : RL F) (h' : Fin 4) (r : Fin 1024) (l : Fin 128) :
    View.canon (rowPiece h p :: L) (ix3 h' r l) = if h' = h then p (ix3 0 r l) else View.canon L (ix3 h' r l) := by
  split
  · rename_i e
    subst e
    rw [show ix3 h' r l = (Rect.unit (s := S4x1024x128) ![h'.val, 0, 0] S1x1024x128.size (inb_row h')).emb (ix3 0 r l) from by
      funext d
      fin_cases d <;> exact Fin.ext (by simp [Rect.emb, Rect.unit])]
    exact View.canon_cons_emb _ _ _ _
  · rename_i e
    refine View.canon_cons_of_not_mem _ _ fun hm => e ?_
    rw [rowPiece, Rect.mem_set_unit] at hm
    have a := hm 0
    simp at a
    exact Fin.ext (by omega)

theorem canon_zPut (s : Fin 2) (P : Fin 4 → Vec F S1x1x1024x256 .f32) (L L' : ZL F) (n : ℕ) (hn : n ≤ 4) (s' : Fin 2) (h' : Fin 4)
    (r : Fin 1024) (c : Fin 256) : View.canon (zPut s P L n ++ L') (ix4 s' h' r c)
      = if s' = s ∧ h'.val < n then P h' (ix4 0 0 r c) else View.canon (L ++ L') (ix4 s' h' r c) := by
  induction n with
  | zero => rw [if_neg (by omega)]; rfl
  | succ n ih =>
    rw [zPut, dif_pos (by omega), List.cons_append, canon_zPiece, ih (by omega)]
    by_cases e : s' = s ∧ h' = ⟨n, by omega⟩
    · obtain ⟨e1, e2⟩ := e
      rw [if_pos ⟨e1, e2⟩, if_pos ⟨e1, by rw [e2]; exact Nat.lt_succ_self n⟩, e2]
    · rw [if_neg e]
      refine if_congr ⟨fun q => ⟨q.1, by omega⟩, fun q => ⟨q.1, ?_⟩⟩ rfl rfl
      have : h'.val ≠ n := fun q' => e ⟨q.1, Fin.ext q'⟩
      omega

/-- The slot not being written keeps what it held. -/
theorem canon_zPut_other (s : Fin 2) (P : Fin 4 → Vec F S1x1x1024x256 .f32) (L : ZL F) (n : ℕ) (hn : n ≤ 4) (s' : Fin 2) (hs : s' ≠ s)
    (h' : Fin 4) (r : Fin 1024) (c : Fin 256) : View.canon (zPut s P L n) (ix4 s' h' r c) = View.canon L (ix4 s' h' r c) := by
  have := canon_zPut s P L [] n hn s' h' r c
  rwa [List.append_nil, List.append_nil, if_neg (fun e => hs e.1)] at this

theorem canon_chain (m : Memref sig .tc .vmem S4x1024x128 .f32) (f : Fin 4 → Row F → Row F) (L L' : RL F) (n : ℕ) (hn : n ≤ 4) (h : Fin 4)
    (r : Fin 1024) (l : Fin 128) : View.canon (chain m f L n ++ L') (ix3 h r l)
      = if h.val < n then f h (rowOf m L h) (ix3 0 r l) else View.canon (L ++ L') (ix3 h r l) := by
  induction n generalizing L' h r l with
  | zero => rw [if_neg (by omega)]; rfl
  | succ n ih =>
    have keep : rowOf m (chain m f L n) ⟨n, by omega⟩ = rowOf m L ⟨n, by omega⟩ := by
      funext j
      obtain ⟨r', l', rfl⟩ : ∃ r' l', j = ix3 0 r' l' := ⟨j 1, j 2, by
        rw [← ix3_eta (n0 := 1) (n1 := 1024) (n2 := 128) j]
        exact congrArg (fun x => ix3 x (j 1) (j 2)) (Subsingleton.elim _ _)⟩
      have e := ih [] (by omega) ⟨n, by omega⟩ r' l'
      rw [List.append_nil, List.append_nil, if_neg (lt_irrefl _)] at e
      rw [rowOf_apply, rowOf_apply, e]
    rw [chain, dif_pos (by omega), List.cons_append, canon_rowPiece, ih _ (by omega), keep]
    by_cases e : h = ⟨n, by omega⟩
    · rw [if_pos e, if_pos (by rw [e]; exact Nat.lt_succ_self n), e]
    · rw [if_neg e]
      have : h.val ≠ n := fun q => e (Fin.ext q)
      exact if_congr (by omega) rfl rfl

/-- A row no step has reached yet. -/
theorem rowOf_chain (m : Memref sig .tc .vmem S4x1024x128 .f32) (f : Fin 4 → Row F → Row F) (L : RL F) (h : Fin 4) (r : Fin 1024) (l : Fin 128) :
    rowOf m (chain m f L h.val) h (ix3 0 r l) = View.canon L (ix3 h r l) := by
  have e := canon_chain m f L [] h.val (by omega) h r l
  rw [List.append_nil, List.append_nil, if_neg (lt_irrefl _)] at e
  rw [rowOf_apply, e]

theorem canon_rows (P : Fin 4 → Row F) (L : RL F) (h : Fin 4) (r : Fin 1024) (l : Fin 128) :
    View.canon (rows P L) (ix3 h r l) = P h (ix3 0 r l) := by
  rw [rows, canon_rowPiece, canon_rowPiece, canon_rowPiece, canon_rowPiece]
  fin_cases h <;> simp

/-- The half of a slot a step reads while the other slot is being filled. -/
theorem halvesOf_apply (m : Memref sig .tc .vmem S2x4x1024x256 .f32) (s s' : Fin 2) (hs : s ≠ s') (P : Fin 4 → Vec F S1x1x1024x256 .f32)
    (L : ZL F) (h : Fin 4) (t : Fin 2) (r : Fin 1024) (c : Fin 128) :
    halvesOf m s s' P L h t (ix4 0 0 r c) = View.canon L (ix4 s h r ⟨128 * t.val + c.val, by have := t.isLt; omega⟩) := by
  rw [halvesOf, halfOf_apply, canon_zPut_other _ _ _ _ _ _ hs]
  unfold ahead
  split <;> omega

end Cert.KernelIdeal.Tile

end
-- ==== Proof.Rows.lean ====
module

public import proofs.«01_k».proof.Proof.Step
public import proofs.«01_k».proof.Proof.Reads

/-! # A step over the scratch buffers

What the three scratch buffers hold is stated for one grid point by `Scores`, `Runs` and `Accs`; a step takes what
they say of the keys from `256 (n + 1)` on to the keys from `256 n` on. -/

@[expose] public section

set_option maxRecDepth 16384

noncomputable section

namespace Cert.KernelIdeal.Tile

open Cert.KernelIdeal Cert.KernelIdeal.Gen Idealize.ShloMosaic Idealize.ShloMosaic.TcCoe Cert.Stick

/-- The numbers of one grid point: the scores without bias, the biases, the values and the query tile. -/
structure Point where
  score : Fin 4 → Fin 1024 → ℕ → ℝ
  bias : Fin 4 → Fin 4 → ℝ
  value : Fin 4 → ℕ → Fin 128 → EReal
  tile : ℕ
  tile_lt : tile < 16

namespace Point
variable (p : Point)
/-- The logit of row `r` against key `j`. -/
def z (h : Fin 4) (r : Fin 1024) (j : ℕ) : ℝ := p.score h r j + p.bias h (grp r)
/-- The position of row `r`'s query. -/
def pos (r : Fin 1024) : ℕ := 256 * p.tile + r.val % 256

/-- Slot `s` holds the scores of pair `n`. -/
def Scores (s : Fin 2) (n : ℕ) (L : ZL Ideal) : Prop :=
  ∀ h r (c : Fin 256), View.canon L (ix4 s h r c) = ((p.score h r (256 * n + c.val) * L2 : ℝ) : EReal)
/-- The running sums of the keys from `256 n` on. -/
def Runs (n : ℕ) (L : RL Ideal) : Prop :=
  ∀ h r l, View.canon L (ix3 h r l) = ((dropped (p.z h r) (p.pos r) (256 * n) 4096 * L2 : ℝ) : EReal)
/-- The accumulators of the keys from `256 n` on. -/
def Accs (n : ℕ) (L : RL Ideal) : Prop :=
  ∀ h r d, View.canon L (ix3 h r d) = wsum (p.z h r) (p.pos r) (fun s => p.value h s d) (256 * n)
/-- The halves read are those of pair `n`. -/
def Halves (n : ℕ) (H : Fin 4 → Fin 2 → Half Ideal) : Prop :=
  ∀ h t r (c : Fin 128), H h t (ix4 0 0 r c) = ((p.score h r (256 * n + (128 * t.val + c.val)) * L2 : ℝ) : EReal)
/-- The values read are those of pair `n`. -/
def Values (n : ℕ) (V : Fin 4 → Vec Ideal S1x256x128 .bf16) : Prop :=
  ∀ h (c : Fin 256) d, V h (ix3 0 c d) = p.value h (256 * n + c.val) d
/-- The scores computed are those of pair `n`. -/
def Tiles (n : ℕ) (P : Fin 4 → Vec Ideal S1x1x1024x256 .f32) : Prop :=
  ∀ h r (c : Fin 256), P h (ix4 0 0 r c) = ((p.score h r (256 * n + c.val) * L2 : ℝ) : EReal)
/-- The staged biases. -/
def Biases (b : Fin 4 → Bias Ideal) : Prop := ∀ h g, b h g = ((p.bias h g : ℝ) : EReal)

variable {p} {n : ℕ} {H : Fin 4 → Fin 2 → Half Ideal} {b : Fin 4 → Bias Ideal} {tri : Vec Ideal S256x256 .bf16}
  {Rr Ar : Fin 4 → Row Ideal} {V : Fin 4 → Vec Ideal S1x256x128 .bf16}

theorem halves_z (hH : p.Halves n H) (hb : p.Biases b) (h : Fin 4) (t : Fin 2) (r : Fin 1024) (c : Fin 128) :
    zHalf (H h t) (b h) (ix2 r c) = ((p.z h r (256 * n + (128 * t.val + c.val)) * L2 : ℝ) : EReal) := by
  rw [zHalf_apply, hH, hb, ← EReal.coe_mul, ← EReal.coe_add, ← add_mul]
  rfl

theorem halves_one (hH : p.Halves n H) (hb : p.Biases b) (h : Fin 4) (r : Fin 1024) (c : Fin 128) :
    zHalf (H h 1) (b h) (ix2 r c) = ((p.z h r (256 * n + 128 + c.val) * L2 : ℝ) : EReal) := by
  rw [halves_z hH hb, add_assoc]; rfl

theorem halves_zero (hH : p.Halves n H) (hb : p.Biases b) (h : Fin 4) (r : Fin 1024) (c : Fin 128) :
    zHalf (H h 0) (b h) (ix2 r c) = ((p.z h r (256 * n + c.val) * L2 : ℝ) : EReal) := by
  rw [halves_z hH hb]
  simp

theorem halves_of_scores (m : Memref sig .tc .vmem S2x4x1024x256 .f32) {s s' : Fin 2} (hs : s ≠ s')
    (P : Fin 4 → Vec Ideal S1x1x1024x256 .f32) {L : ZL Ideal} (hL : p.Scores s n L) : p.Halves n (halvesOf m s s' P L) :=
  fun h t r c => by rw [halvesOf_apply m s s' hs, hL]

theorem scores_put {s : Fin 2} {P : Fin 4 → Vec Ideal S1x1x1024x256 .f32} (hP : p.Tiles n P) (L : ZL Ideal) (L' : ZL Ideal) :
    p.Scores s n (zPut s P L 4 ++ L') := fun h r c => by
  rw [canon_zPut s P L L' 4 le_rfl, if_pos ⟨rfl, h.isLt⟩, hP]

theorem scores_put' {s : Fin 2} {P : Fin 4 → Vec Ideal S1x1x1024x256 .f32} (hP : p.Tiles n P) (L : ZL Ideal) :
    p.Scores s n (zPut s P L 4) := by
  have := scores_put (s := s) hP L []
  rwa [List.append_nil] at this

/-- The rows hold the running sums of the keys from `256 n` on. -/
def RunRows (p : Point) (n : ℕ) (R : Fin 4 → Row Ideal) : Prop :=
  ∀ h r l, R h (ix3 0 r l) = ((dropped (p.z h r) (p.pos r) (256 * n) 4096 * L2 : ℝ) : EReal)
/-- The rows hold the accumulators of the keys from `256 n` on. -/
def AccRows (p : Point) (n : ℕ) (A : Fin 4 → Row Ideal) : Prop :=
  ∀ h r d, A h (ix3 0 r d) = wsum (p.z h r) (p.pos r) (fun s => p.value h s d) (256 * n)

section
variable (hn : n < p.tile) (hH : p.Halves n H) (hb : p.Biases b) (htri : IsTri tri) (hR : p.RunRows (n + 1) Rr)
  (hA : p.AccRows (n + 1) Ar) (hV : p.Values n V)

include hn hH hb htri hR in
theorem run_rows : p.RunRows n fun h => runRow (H h 1) (H h 0) (b h) tri (Rr h) := fun h r l =>
  run_step (p.z h r) (p.pos r) n (H h 1) (H h 0) (b h) tri htri (Rr h) r (halves_one hH hb h r) (halves_zero hH hb h r)
    (hR h r) (by have := p.tile_lt; omega) (by unfold pos; omega) l

include hn hH hb htri hR hA hV in
theorem acc_rows : p.AccRows n fun h => accRow (H h 1) (H h 0) (b h) tri (Rr h) (Ar h) (V h) := fun h r d =>
  acc_step (p.z h r) (p.pos r) n (fun s => p.value h s d) (H h 1) (H h 0) (b h) tri htri (Rr h) (Ar h) (V h) r
    (halves_one hH hb h r) (halves_zero hH hb h r) (hR h r) (by have := p.tile_lt; omega) d (hA h r d) (fun c => hV h c d)
    (by unfold pos; omega)
end

section
variable (hn : n = p.tile) (hH : p.Halves n H) (hb : p.Biases b) (htri : IsTri tri) (hR : p.RunRows (n + 1) Rr)
  (hA : p.AccRows (n + 1) Ar) (hV : p.Values n V)

include hn hH hb htri hR in
theorem mRun_rows : p.RunRows n fun h => mRunRow (H h 1) (H h 0) (b h) tri (Rr h) := fun h r l =>
  mRun_step (p.z h r) (p.pos r) n (H h 1) (H h 0) (b h) tri htri (Rr h) r (halves_one hH hb h r) (halves_zero hH hb h r)
    (hR h r) (by have := p.tile_lt; omega) (by rw [hn]; rfl) l

include hn hH hb htri hR hA hV in
theorem mAcc_rows : p.AccRows n fun h => mAccRow (H h 1) (H h 0) (b h) tri (Rr h) (Ar h) (V h) := fun h r d =>
  mAcc_step (p.z h r) (p.pos r) n (fun s => p.value h s d) (H h 1) (H h 0) (b h) tri htri (Rr h) (Ar h) (V h) r
    (halves_one hH hb h r) (halves_zero hH hb h r) (hR h r) (by have := p.tile_lt; omega) d (hA h r d) (fun c => hV h c d)
    (by rw [hn]; rfl)
end

theorem runs_rows {L : RL Ideal} (m : Memref sig .tc .vmem S4x1024x128 .f32) (hL : p.Runs n L) : p.RunRows n (rowOf m L) :=
  fun h r l => by rw [rowOf_apply, hL]
theorem accs_rows {L : RL Ideal} (m : Memref sig .tc .vmem S4x1024x128 .f32) (hL : p.Accs n L) : p.AccRows n (rowOf m L) :=
  fun h r l => by rw [rowOf_apply, hL]
theorem runs_at {L : RL Ideal} (m : Memref sig .tc .vmem S4x1024x128 .f32) (hL : p.Runs n L) :
    p.RunRows n (rowAt m (m.view.writes (Elt Ideal) m.view.junk L)) := fun h r l => by rw [rowAt_apply, hL]
theorem accs_at {L : RL Ideal} (m : Memref sig .tc .vmem S4x1024x128 .f32) (hL : p.Accs n L) :
    p.AccRows n (rowAt m (m.view.writes (Elt Ideal) m.view.junk L)) := fun h r l => by rw [rowAt_apply, hL]
theorem halves_at (m : Memref sig .tc .vmem S2x4x1024x256 .f32) {s : Fin 2} {L : ZL Ideal} (hL : p.Scores s n L) :
    p.Halves n (halfAt m (m.view.writes (Elt Ideal) m.view.junk L) s) := fun h t r c => by rw [halfAt_apply, hL]
theorem runs_of_rows {R : Fin 4 → Row Ideal} (hR : p.RunRows n R) (L : RL Ideal) : p.Runs n (rows R L) :=
  fun h r l => by rw [canon_rows, hR]
theorem accs_of_rows {A : Fin 4 → Row Ideal} (hA : p.AccRows n A) (L : RL Ideal) : p.Accs n (rows A L) :=
  fun h r l => by rw [canon_rows, hA]

/-- Rows a chain has not reached are the old rows. -/
theorem chain_rows (m : Memref sig .tc .vmem S4x1024x128 .f32) (f : Fin 4 → Row Ideal → Row Ideal) {L : RL Ideal} (hL : p.Runs n L) :
    p.RunRows n fun h => rowOf m (chain m f L h.val) h := fun h r l => (rowOf_chain m f L h r l).trans (hL h r l)

section
variable {LR LA : RL Ideal} (m13 m14 : Memref sig .tc .vmem S4x1024x128 .f32) (hH : p.Halves n H) (hb : p.Biases b) (htri : IsTri tri)
  (hR : p.Runs (n + 1) LR) (hA : p.Accs (n + 1) LA) (hV : p.Values n V) (L' : RL Ideal)

include hH hb htri hR in
theorem runList_step (hn : n < p.tile) : p.Runs n (runList m14 H b tri LR 4 ++ L') := fun h r l => by
  rw [runList, canon_chain _ _ _ _ 4 le_rfl, if_pos h.isLt]
  exact run_rows hn hH hb htri (runs_rows m14 hR) h r l

include hH hb htri hR hA hV in
theorem accList_step (hn : n < p.tile) : p.Accs n (accList m13 m14 H b tri V (runList m14 H b tri LR) LA 4 ++ L') := fun h r d => by
  rw [accList, canon_chain _ _ _ _ 4 le_rfl, if_pos h.isLt]
  exact acc_rows hn hH hb htri (chain_rows m14 _ hR) (accs_rows m13 hA) hV h r d

include hH hb htri hR in
theorem mRunList_step (hn : n = p.tile) : p.Runs n (mRunList m14 H b tri LR 4 ++ L') := fun h r l => by
  rw [mRunList, canon_chain _ _ _ _ 4 le_rfl, if_pos h.isLt]
  exact mRun_rows hn hH hb htri (runs_rows m14 hR) h r l

include hH hb htri hR hA hV in
theorem mAccList_step (hn : n = p.tile) : p.Accs n (mAccList m13 m14 H b tri V (mRunList m14 H b tri LR) LA 4 ++ L') := fun h r d => by
  rw [mAccList, canon_chain _ _ _ _ 4 le_rfl, if_pos h.isLt]
  exact mAcc_rows hn hH hb htri (chain_rows m14 _ hR) (accs_rows m13 hA) hV h r d
end

end Point
end Cert.KernelIdeal.Tile

end
-- ==== Proof.OffsAt.lean ====
module

public import proofs.«01_k».proof.Proof.RunWordsB

/-! # Where each step reads its keys and values -/

@[expose] public section

set_option maxRecDepth 16384

noncomputable section

namespace Cert.KernelIdeal.Tile

open Cert.KernelIdeal Cert.KernelIdeal.Gen Idealize.ShloMosaic Idealize.ShloMosaic.TcCoe

/-- Head `h`'s columns of the pair of key tiles `n`. -/
abbrev pairAt (n : ℕ) (h : Fin 4) : Fin 3 → ℕ := ![0, 256 * n, 128 * h.val]

theorem offD_at : ∀ i h, offD i h = pairAt (i 1).val h := by decide +kernel
theorem offP_at : ∀ i h, offP i h = pairAt ((i 1).val - 1) h := by decide +kernel
theorem kOff1_at : ∀ i k h, kOff1 i k h = pairAt ((i 1).val - 2 - 2 * k.val) h := by decide +kernel
theorem vOff1_at : ∀ i k h, vOff1 i k h = pairAt ((i 1).val - 1 - 2 * k.val) h := by decide +kernel
theorem kOff2_at : ∀ i k h, kOff2 i k h = pairAt ((i 1).val - 3 - 2 * k.val) h := by decide +kernel
theorem vOff2_at : ∀ i k h, vOff2 i k h = pairAt ((i 1).val - 2 - 2 * k.val) h := by decide +kernel
theorem offV_at : ∀ i h, cond0_0 i → offV i h = pairAt 0 h := by decide +kernel
theorem loop_trips : ∀ i, (k0_t1_loop i).trips = (i 1).val / 2 := by decide +kernel
theorem cond_odd : ∀ i, cond0_0 i ↔ (i 1).val % 2 = 1 := by decide +kernel

end Cert.KernelIdeal.Tile

end
-- ==== Proof.Sweep.lean ====
module

public import proofs.«01_k».proof.Proof.Rows
public import proofs.«01_k».proof.Proof.OffsAt

/-! # The whole sweep of one grid point

From the diagonal pair down to the first pair of key tiles: after it the accumulators are the weighted sums over all
the keys. -/

@[expose] public section

set_option maxRecDepth 16384

noncomputable section

namespace Cert.KernelIdeal.Tile

open Cert.KernelIdeal Cert.KernelIdeal.Gen Idealize.ShloMosaic Idealize.ShloMosaic.TcCoe Cert.Stick

variable (c : Dev nD) (i : grid0.Coords)  (arg2 : Memref sig .tc .smem S16 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x256 .bf16) (harg10 : arg10.IsWhole) (arg11 : Memref sig .tc .vmem S1x256x2048 .f32) (harg11 : arg11.IsWhole) (arg12 : Memref sig .tc .vmem S2x4x1024x256 .f32) (harg12 : arg12.IsWhole) (arg13 : Memref sig .tc .vmem S4x1024x128 .f32) (harg13 : arg13.IsWhole) (arg14 : Memref sig .tc .vmem S4x1024x128 .f32) (harg14 : arg14.IsWhole) (arg15 : Memref sig .tc .vmem S256x2048 .f32) (harg15 : arg15.IsWhole)

  (x0 : Vec Ideal S16 .f32) (x1 : Vec Ideal S1x256x2048 .f32) (x2 : Vec Ideal S1x256x2048 .f32) (x3 : Vec Ideal S1x256x2048 .f32) (x4 : Vec Ideal S1x4096x512 .bf16) (x5 : Vec Ideal S1x4096x512 .bf16) (x6 : Vec Ideal S2048x2048 .bf16) (x7 : Vec Ideal S1x2048 .f32) (x8 : Vec Ideal S256x256 .bf16)

  (p : Point)

/-- What the staged blocks say of the grid point's numbers. -/
structure Staged : Prop where
  tile : p.tile = (i 1).val
  biases : p.Biases (biasAt arg2 (harg2.unread x0))
  tri : IsTri (triAt arg10 (harg10.unread x8))
  tiles : ∀ n (o : Offs) (ho : OffsIn o), (∀ h, o h = pairAt n h) → p.Tiles n (scoresAt arg3 (harg3.unread x1) arg6 (harg6.unread x4) o ho)
  values : ∀ n (o : Offs) (ho : OffsIn o), (∀ h, o h = pairAt n h) → p.Values n (valuesAt arg7 (harg7.unread x5) o ho)

variable (hs : Staged i arg2 harg2 arg3 harg3 arg6 harg6 arg7 harg7 arg10 harg10 x0 x1 x4 x5 x8 p)

theorem canon_accZero (h : Fin 4) (r : Fin 1024) (l : Fin 128) : View.canon (accZero (F := Ideal)) (ix3 h r l) = 0 := by
  rw [accZero, View.canon_unit_zero (by funext d; fin_cases d <;> rfl)]
  unfold k0_pay317
  pointwise

theorem canon_runZero (h : Fin 4) (r : Fin 1024) (l : Fin 128) : View.canon (runZero (F := Ideal)) (ix3 h r l) = 0 := by
  rw [runZero, View.canon_unit_zero (by funext d; fin_cases d <;> rfl)]
  unfold k0_pay318
  pointwise

theorem dropped_late (z : ℕ → ℝ) (t a : ℕ) (h : t ≤ a) : dropped z t a 4096 = 0 :=
  Finset.sum_eq_zero fun j hj => by rw [drop, if_neg (by have := (Finset.mem_Ico.mp hj).1; omega)]

theorem wsum_late (z : ℕ → ℝ) (t a : ℕ) (V : ℕ → EReal) (h : t ≤ a) : wsum z t V a = 0 :=
  Finset.sum_eq_zero fun j hj => by
    rw [weight, if_neg (by have := (Finset.mem_Ico.mp hj).1; omega), EReal.coe_zero, zero_mul]

theorem pos_lt (r : Fin 1024) : p.pos r < 256 * (p.tile + 1) := by
  have := Nat.mod_lt r.val (show 0 < 256 by norm_num)
  unfold Point.pos; omega

theorem runZero_runs : p.Runs (p.tile + 1) (runZero (F := Ideal)) := fun h r l => by
  rw [canon_runZero, dropped_late _ _ _ (pos_lt p r).le, zero_mul, EReal.coe_zero]

theorem accZero_accs : p.Accs (p.tile + 1) (accZero (F := Ideal)) := fun h r l => by
  rw [canon_accZero, wsum_late _ _ _ _ (pos_lt p r).le]

include hs in
theorem hD_halves : p.Halves p.tile (hD i arg3 harg3 arg6 harg6 arg12 x1 x4) :=
  Point.halves_of_scores arg12 (by decide) _
    (Point.scores_put' (hs.tiles p.tile _ (offD_in i) fun h => by rw [hs.tile]; exact offD_at i h) [])

include hs in
theorem base_scores : p.Scores 1 (p.tile - 1) (zBase i arg3 harg3 arg6 harg6 x1 x4) :=
  Point.scores_put' (hs.tiles _ _ (offP_in i) fun h => by rw [hs.tile]; exact offP_at i h) _

include hs in
theorem base_runs : p.Runs p.tile (runBase i arg2 harg2 arg3 harg3 arg6 harg6 arg10 harg10 arg12 arg14 x0 x1 x4 x8 4) := by
  have := Point.mRunList_step arg14 (hD_halves i arg2 harg2 arg3 harg3 arg6 harg6 arg7 harg7 arg10 harg10 arg12 x0 x1 x4 x5 x8 p hs) hs.biases hs.tri (runZero_runs p) [] rfl
  rwa [List.append_nil] at this

include hs in
theorem base_accs : p.Accs p.tile (accBase i arg2 harg2 arg3 harg3 arg6 harg6 arg7 harg7 arg10 harg10 arg12 arg13 arg14 x0 x1 x4 x5 x8 4) := by
  have := Point.mAccList_step arg13 arg14 (hD_halves i arg2 harg2 arg3 harg3 arg6 harg6 arg7 harg7 arg10 harg10 arg12 x0 x1 x4 x5 x8 p hs) hs.biases hs.tri (runZero_runs p) (accZero_accs p)
    (hs.values p.tile _ (offD_in i) fun h => by rw [hs.tile]; exact offD_at i h) [] rfl
  rwa [List.append_nil] at this

/-- What the scratch buffers hold before trip `k` of the loop. -/
structure Before (k : ℕ) : Prop where
  scores : p.Scores 1 (p.tile - 1 - 2 * k) ((loopPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 k).1 ++ zBase i arg3 harg3 arg6 harg6 x1 x4)
  accs : p.Accs (p.tile - 2 * k) ((loopPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 k).2.1 ++ accBase i arg2 harg2 arg3 harg3 arg6 harg6 arg7 harg7 arg10 harg10 arg12 arg13 arg14 x0 x1 x4 x5 x8 4)
  runs : p.Runs (p.tile - 2 * k) ((loopPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 k).2.2 ++ runBase i arg2 harg2 arg3 harg3 arg6 harg6 arg10 harg10 arg12 arg14 x0 x1 x4 x8 4)

include hs in
theorem before_zero : Before c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p 0 :=
  ⟨base_scores i arg2 harg2 arg3 harg3 arg6 harg6 arg7 harg7 arg10 harg10 x0 x1 x4 x5 x8 p hs, base_accs i arg2 harg2 arg3 harg3 arg6 harg6 arg7 harg7 arg10 harg10 arg12 arg13 arg14 x0 x1 x4 x5 x8 p hs, base_runs i arg2 harg2 arg3 harg3 arg6 harg6 arg7 harg7 arg10 harg10 arg12 arg14 x0 x1 x4 x5 x8 p hs⟩

include hs in
theorem before_succ (k : ℕ) (hk : k < (k0_t1_loop i).trips) (h : Before c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p k) : Before c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p (k + 1) := by
  have hk2 : k < p.tile / 2 := by rw [hs.tile, ← loop_trips i]; exact hk
  have t := hs.tile
  have e1 : p.Tiles (p.tile - 2 - 2 * k) _ := hs.tiles _ (kOff1 i ⟨k, hk⟩) (kOff1_in i ⟨k, hk⟩) fun h => by rw [t]; exact kOff1_at i ⟨k, hk⟩ h
  have e2 : p.Tiles (p.tile - 1 - 2 * (k + 1)) _ := hs.tiles _ (kOff2 i ⟨k, hk⟩) (kOff2_in i ⟨k, hk⟩) fun h => by
    rw [kOff2_at i ⟨k, hk⟩ h, t, show (i 1).val - 1 - 2 * (k + 1) = (i 1).val - 3 - 2 * k by omega]
  have v1 : p.Values (p.tile - 1 - 2 * k) _ := hs.values _ (vOff1 i ⟨k, hk⟩) (vOff1_in i ⟨k, hk⟩) fun h => by rw [t]; exact vOff1_at i ⟨k, hk⟩ h
  have v2 : p.Values (p.tile - 2 * (k + 1)) _ := hs.values _ (vOff2 i ⟨k, hk⟩) (vOff2_in i ⟨k, hk⟩) fun h => by
    rw [vOff2_at i ⟨k, hk⟩ h, t, show (i 1).val - 2 * (k + 1) = (i 1).val - 2 - 2 * k by omega]
  have n0 : p.tile - 2 * k = (p.tile - 1 - 2 * k) + 1 := by omega
  have n1 : p.tile - 1 - 2 * k = p.tile - 2 * (k + 1) + 1 := by omega
  have n2 : p.tile - 2 - 2 * k = p.tile - 2 * (k + 1) := by omega
  have hr := h.runs
  have ha := h.accs
  rw [n0] at hr ha
  have H1 := Point.halves_at arg12 h.scores
  have R1 := Point.run_rows (by omega) H1 hs.biases hs.tri (Point.runs_at arg14 hr)
  have A1 := Point.acc_rows (by omega) H1 hs.biases hs.tri (Point.runs_at arg14 hr) (Point.accs_at arg13 ha) v1
  rw [n1] at R1 A1
  rw [n2] at e1
  have H2 := Point.halves_of_scores arg12 (s := 0) (s' := 1) (by decide) (scoresAt arg3 (harg3.unread x1) arg6 (harg6.unread x4) (kOff2 i ⟨k, hk⟩) (kOff2_in i ⟨k, hk⟩))
    (Point.scores_put' (s := 0) e1 [])
  have R1' := Point.runs_of_rows R1 []
  have A1' := Point.accs_of_rows A1 []
  have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (qWord i) (halfWord i) (signWord i) (parityWord i) 0#32 (harg2.unread x0) (harg3.unread x1) (harg6.unread x4) (harg7.unread x5) (harg10.unread x8)
    (arg12.view.writes (Elt Ideal) arg12.view.junk (zBase i arg3 harg3 arg6 harg6 x1 x4))
    (arg13.view.writes (Elt Ideal) arg13.view.junk (accBase i arg2 harg2 arg3 harg3 arg6 harg6 arg7 harg7 arg10 harg10 arg12 arg13 arg14 x0 x1 x4 x5 x8 4))
    (arg14.view.writes (Elt Ideal) arg14.view.junk (runBase i arg2 harg2 arg3 harg3 arg6 harg6 arg10 harg10 arg12 arg14 x0 x1 x4 x8 4)) ⟨k, hk⟩
  rw [trip_scores, trip_run, trip_acc, ← View.writes_append, ← View.writes_append, ← View.writes_append] at e
  refine ⟨?_, ?_, ?_⟩
  · rw [loopPieces, e, List.append_assoc]
    exact Point.scores_put e2 _ _
  · rw [loopPieces, e, List.append_assoc]
    exact Point.accList_step arg13 arg14 H2 hs.biases hs.tri R1' A1' v2 _ (by omega)
  · rw [loopPieces, e, List.append_assoc]
    exact Point.runList_step arg14 H2 hs.biases hs.tri R1' _ (by omega)

include hs in
theorem before_all : ∀ k, k ≤ (k0_t1_loop i).trips → Before c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p k
  | 0, _ => before_zero c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p hs
  | k + 1, h => before_succ c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p hs k h (before_all k (Nat.le_of_succ_le h))

include hs in
/-- After the loop of an even query tile the accumulators are the whole sums. -/
theorem even_accs (he : (i 1).val % 2 = 0) :
    p.Accs 0 ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.1 ++ acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8) := by
  have h := (before_all c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p hs _ le_rfl).accs
  rw [loop_trips, hs.tile, show (i 1).val - 2 * ((i 1).val / 2) = 0 by omega] at h
  rw [restPieces_eq, acc1, loop_trips]
  exact h

include hs in
/-- After the last step of an odd query tile the accumulators are the whole sums. -/
theorem odd_accs (hc0 : cond0_0 i) : p.Accs 0 (acc2 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 hc0 4) := by
  have ho := (cond_odd i).mp hc0
  have h := before_all c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 p hs _ le_rfl
  have hz := h.scores
  have ha := h.accs
  have hr := h.runs
  rw [loop_trips, hs.tile] at hz ha hr
  rw [show (i 1).val - 1 - 2 * ((i 1).val / 2) = 0 by omega] at hz
  rw [show (i 1).val - 2 * ((i 1).val / 2) = 0 + 1 by omega] at ha hr
  have z1' : p.Scores 1 0 ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).1 ++ z1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8) := by rw [restPieces_eq, z1, loop_trips]; exact hz
  have a1' : p.Accs (0 + 1) ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.1 ++ acc1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8) := by rw [restPieces_eq, acc1, loop_trips]; exact ha
  have r1' : p.Runs (0 + 1) ((restPieces c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8).2.2 ++ run1 c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8) := by rw [restPieces_eq, run1, loop_trips]; exact hr
  have := Point.accList_step arg13 arg14 (Point.halves_of_scores arg12 (s := 1) (s' := 0) (by decide) (sK i arg3 harg3 arg6 harg6 x1 x4 hc0) z1') hs.biases hs.tri r1' a1'
    (hs.values 0 _ (offV_in i hc0) fun h => offV_at i h hc0) [] (by rw [hs.tile]; omega)
  rwa [List.append_nil] at this

end Cert.KernelIdeal.Tile

end
-- ==== Proof.Epi.lean ====
module

public import proofs.«01_k».proof.Proof.Reads
public import proofs.«01_k».proof.Proof.Step

/-! # After the sweep

The sixteen heads side by side, and what the epilogue makes of them. -/

@[expose] public section

set_option maxRecDepth 16384

noncomputable section

namespace Cert.KernelIdeal.Tile

open Cert.KernelIdeal Cert.KernelIdeal.Gen Idealize.ShloMosaic Idealize.ShloMosaic.TcCoe Cert.Stick

/-- The gated projection. -/
theorem proj_apply (o : Vec Ideal S256x2048 .f32) (gate : Vec Ideal S1x256x2048 .f32) (w : Vec Ideal S2048x2048 .bf16)
    (r : Fin 256) (e : Fin 2048) : k0_pay427 o gate w (ix2 r e)
      = ∑ x, o (ix2 r x) * (gate (ix3 0 r x) * Ideal.div 1 (1 + Ideal.exp (-gate (ix3 0 r x)))) * w (ix2 x e) := by
  unfold k0_pay427
  pointwise
  simp only [zero_sub]

/-- Normalised, scaled and added to the residual. -/
theorem outTile_apply (o : Vec Ideal S256x2048 .f32) (gate x1 : Vec Ideal S1x256x2048 .f32) (w : Vec Ideal S2048x2048 .bf16)
    (g : Vec Ideal S1x2048 .f32) (r : Fin 256) (e : Fin 2048) : outTile o gate x1 w g (ix3 0 r e)
      = x1 (ix3 0 r e) + k0_pay427 o gate w (ix2 r e)
        * Ideal.rsqrt (Ideal.div (∑ x, k0_pay427 o gate w (ix2 r x) * k0_pay427 o gate w (ix2 r x)) (Ideal.ofBits FTy.f32 1157627904#32)
          + Ideal.ofBits FTy.f32 897988541#32) * g (ix2 0 e) := by
  unfold outTile k0_pay1 k0_pay425 k0_pay426 k0_pay428
  generalize hp : k0_pay427 o gate w = P
  pointwise

/-- One head, read back out of the accumulator. -/
theorem head_apply (m13 : Memref sig .tc .vmem S4x1024x128 .f32) (L : RL Ideal) (n : ℕ) (h : n < 16) (r : Fin 256) (d : Fin 128) :
    k0_pay408 (m13.view.readCov L (Rect.unit (s := S4x1024x128) ![n / 4, 256 * (n % 4), 0] S1x256x128.size (inb_head n h)).toLoadRect) (ix2 r d)
      = View.canon L (ix3 ⟨n / 4, by omega⟩ ⟨256 * (n % 4) + r.val, by omega⟩ d) := by
  unfold k0_pay408
  rw [View.readCov_eq_canon']
  pointwise

theorem canon_oPut (m13 : Memref sig .tc .vmem S4x1024x128 .f32) (L : RL Ideal) (n : ℕ) (hn : n ≤ 16) (r : Fin 256) (x : Fin 2048)
    (hx : x.val < 128 * n) : View.canon (oPut m13 L n) (ix2 r x)
      = View.canon L (ix3 ⟨x.val / 512, by omega⟩ ⟨256 * (x.val / 128 % 4) + r.val, by omega⟩ ⟨x.val % 128, by omega⟩) := by
  induction n with
  | zero => omega
  | succ n ih =>
    rw [oPut, dif_pos (by omega)]
    by_cases hl : x.val < 128 * n
    · rw [View.canon_cons_of_not_mem _ _ fun hm => ?_]
      · exact ih (by omega) hl
      · rw [Rect.mem_set_unit] at hm
        have a := hm 1
        simp at a
        omega
    · have hd : x.val - 128 * n < 128 := by omega
      rw [show ix2 r x = (Rect.unit (s := S256x2048) ![0, 128 * n] S256x128.size (inb_col n (by omega))).emb
          (ix2 r (⟨x.val - 128 * n, hd⟩ : Fin 128)) from by
        funext a
        fin_cases a <;> exact Fin.ext (by simp [Rect.emb, Rect.unit]; try omega)]
      refine (View.canon_cons_emb _ _ _ _).trans ?_
      refine (head_apply m13 L n (by omega) r _).trans (congrArg (View.canon L) ?_)
      funext a
      fin_cases a <;> exact Fin.ext (by simp; omega)

/-- The heads side by side, as the epilogue reads them. -/
theorem oRead_apply (m13 : Memref sig .tc .vmem S4x1024x128 .f32) (m15 : Memref sig .tc .vmem S256x2048 .f32) (L : RL Ideal) (r : Fin 256)
    (x : Fin 2048) : oRead m15 (oPut m13 L 16) (ix2 r x)
      = View.canon L (ix3 ⟨x.val / 512, by omega⟩ ⟨256 * (x.val / 128 % 4) + r.val, by omega⟩ ⟨x.val % 128, by omega⟩) := by
  rw [oRead, View.readCov_eq_canon', ← canon_oPut m13 L 16 le_rfl r x (by omega)]
  refine congrArg (View.canon (oPut m13 L 16)) ?_
  funext a
  fin_cases a <;> exact Fin.ext (by simp [LoadRect.idx, Rect.unit])

end Cert.KernelIdeal.Tile

end
-- ==== Proof.RunningSum.lean ====
module

public import Idealize.ShloMosaic.Lib.Pointwise

/-! # The reversed running sum along the last of five axes

The reference's `cumsum(…, reverse=True)` prints as a window sum: window `4096` on the last axis, padded high by
`4095`.  At entry `s` it is the sum of the entries from `s` on. -/

@[expose] public section

set_option maxRecDepth 16384

noncomputable section

namespace Cert.RunningSum

open Idealize.ShloMosaic

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

variable {a b c d n m : ℕ}

theorem suffix_sum (x : (⟨5, ![a, b, c, d, n]⟩ : Shape).Idx → EReal)
    (h : (⟨5, ![a, b, c, d, n]⟩ : Shape).ReduceWindows ![1, 1, 1, 1, n] ![1, 1, 1, 1, 1] ![0, 0, 0, 0, 0] ![0, 0, 0, 0, m] ⟨5, ![a, b, c, d, n]⟩)
    (i : Fin a) (j : Fin b) (k : Fin c) (l : Fin d) (s : Fin n) :
    Ideal.hostReduceWindowAdd ![1, 1, 1, 1, n] ![1, 1, 1, 1, 1] ![0, 0, 0, 0, 0] ![0, 0, 0, 0, m] h x 0 (ix5 i j k l s)
      = ∑ w : Fin n, if hw : s.val + w.val < n then x (ix5 i j k l ⟨s.val + w.val, hw⟩) else 0 := by
  unfold Ideal.hostReduceWindowAdd Host.reduceWindow
  rw [foldl_add, zero_add]
  rw [← Fin.sum_univ_def]
  let G : (⟨5, ![1, 1, 1, 1, n]⟩ : Shape).Idx → EReal := fun w =>
    if hw : s.val + (w 4).val < n then x (ix5 i j k l ⟨s.val + (w 4).val, hw⟩) else 0
  refine Eq.trans (b := ∑ e, G ((Shape.rowMajor ⟨5, ![1, 1, 1, 1, n]⟩).symm e)) (Finset.sum_congr rfl fun e _ => ?_) ?_
  · set w := (Shape.rowMajor ⟨5, ![1, 1, 1, 1, n]⟩).symm e with hwe
    have z0 : (w 0).val = 0 := Nat.lt_one_iff.mp (w 0).isLt
    have z1 : (w 1).val = 0 := Nat.lt_one_iff.mp (w 1).isLt
    have z2 : (w 2).val = 0 := Nat.lt_one_iff.mp (w 2).isLt
    have z3 : (w 3).val = 0 := Nat.lt_one_iff.mp (w 3).isLt
    simp only [G]
    by_cases hw : s.val + (w 4).val < n
    · rw [dif_pos hw, dif_pos]
      · refine congrArg x (funext fun q => ?_)
        fin_cases q <;> apply Fin.ext
        · change i.val * 1 + (w 0).val - 0 = i.val; omega
        · change j.val * 1 + (w 1).val - 0 = j.val; omega
        · change k.val * 1 + (w 2).val - 0 = k.val; omega
        · change l.val * 1 + (w 3).val - 0 = l.val; omega
        · change s.val * 1 + (w 4).val - 0 = s.val + (w 4).val; omega
      · intro q
        fin_cases q
        · change 0 ≤ i.val * 1 + (w 0).val ∧ i.val * 1 + (w 0).val - 0 < a; have := i.isLt; omega
        · change 0 ≤ j.val * 1 + (w 1).val ∧ j.val * 1 + (w 1).val - 0 < b; have := j.isLt; omega
        · change 0 ≤ k.val * 1 + (w 2).val ∧ k.val * 1 + (w 2).val - 0 < c; have := k.isLt; omega
        · change 0 ≤ l.val * 1 + (w 3).val ∧ l.val * 1 + (w 3).val - 0 < d; have := l.isLt; omega
        · change 0 ≤ s.val * 1 + (w 4).val ∧ s.val * 1 + (w 4).val - 0 < n; omega
    · rw [dif_neg hw, dif_neg]
      intro hq
      have h4 : s.val * 1 + (w 4).val - 0 < n := (hq 4).2
      omega
  · rw [Equiv.sum_comp (Shape.rowMajor ⟨5, ![1, 1, 1, 1, n]⟩).symm G, sum_idx5]
    simp [G]
    rfl

end Cert.RunningSum

end
-- ==== Proof.Words.lean ====
module

public import Idealize.ShloMosaic.PureOps.Ideal

/-! # Comparing small words -/

@[expose] public section

namespace Cert.Words

open Idealize.ShloMosaic

theorem toInt_small (a : ℕ) (ha : a < 4096) : (BitVec.ofNat 32 a).toInt = a := by
  have e : (BitVec.ofNat 32 a).toNat = a := by rw [BitVec.toNat_ofNat]; omega
  rw [BitVec.toInt_eq_toNat_of_lt (by rw [e]; omega), e]

/-- A signed comparison of small words compares the numbers. -/
theorem lt_small (a b : ℕ) (ha : a < 4096) (hb : b < 4096) :
    IntOp.cmpi CmpIPredicate.slt (BitVec.ofNat 32 a) (BitVec.ofNat 32 b) = if a < b then 1#1 else 0#1 := by
  have h : (BitVec.ofNat 32 a).slt (BitVec.ofNat 32 b) = decide (a < b) := by
    rw [BitVec.slt, toInt_small a ha, toInt_small b hb]
    simp
  show BitVec.ofBool ((BitVec.ofNat 32 a).slt (BitVec.ofNat 32 b)) = _
  rw [h]
  by_cases q : a < b <;> simp [q]

theorem ge_small (a b : ℕ) (ha : a < 4096) (hb : b < 4096) :
    IntOp.cmpi CmpIPredicate.sge (BitVec.ofNat 32 a) (BitVec.ofNat 32 b) = if b ≤ a then 1#1 else 0#1 := by
  have h : (BitVec.ofNat 32 b).sle (BitVec.ofNat 32 a) = decide (b ≤ a) := by
    rw [BitVec.sle, toInt_small a ha, toInt_small b hb]
    simp
  show BitVec.ofBool ((BitVec.ofNat 32 b).sle (BitVec.ofNat 32 a)) = _
  rw [h]
  by_cases q : b ≤ a <;> simp [q]

theorem one_bit : FloatOps.uitofp (F := Ideal) FTy.bf16 (1#1) = (1 : EReal) := by
  show (((1#1 : BitVec 1).toNat : ℝ) : EReal) = 1
  simp

theorem zero_bit : FloatOps.uitofp (F := Ideal) FTy.bf16 (0#1) = (0 : EReal) := by
  show (((0#1 : BitVec 1).toNat : ℝ) : EReal) = 0
  simp

end Cert.Words
-- ==== Proof.Ref.lean ====
module

public import proofs.«01_k».proof.Proof.Gen.ReferenceIdeal.Read
public import proofs.«01_k».proof.Proof.Step
public import proofs.«01_k».proof.Proof.RunningSum
public import proofs.«01_k».proof.Proof.Words

/-! # The reference, entry by entry

For finite queries, keys and biases the reference's attention weight of key `s` is the real number `Stick.weight`, and
its result is the gated projection of the weighted sums of the values. -/

@[expose] public section

set_option maxRecDepth 16384

noncomputable section

namespace Cert.ReferenceIdeal.Plain

open Cert.ReferenceIdeal Cert.ReferenceIdeal.Read Idealize.ShloMosaic Idealize.ShloMosaic.TcCoe Cert.Stick
open Cert.KernelIdeal.Tile (rootWord bits_root bits_zero bits_one wsum coe_sum)

variable (x0 x1 x2 : Vec Ideal S2x4096x2048 .f32) (x3 x4 : Vec Ideal S2x4096x512 .f32) (x5 : Vec Ideal S1x16 .f32)
  (x6 : Vec Ideal S1x2048x2048 .f32) (x7 : Vec Ideal S2x2048 .f32)
  (q : S2x4096x2048.Idx → ℝ) (k : S2x4096x512.Idx → ℝ) (bias : S1x16.Idx → ℝ)

/-- The score of key `j` for the query at `t`, without its bias. -/
def score (b : Fin 2) (h g : Fin 4) (t : Fin 4096) (j : ℕ) : ℝ :=
  if hj : j < 4096 then (∑ x : Fin 128, k (ix3 b ⟨j, hj⟩ ⟨h.val * 128 + x.val, by omega⟩)
    * q (ix3 b t ⟨h.val * 512 + g.val * 128 + x.val, by omega⟩)) * rootWord⁻¹ else 0

/-- The logit. -/
def logitAt (b : Fin 2) (h g : Fin 4) (t : Fin 4096) (j : ℕ) : ℝ := score q k b h g t j + bias (ix2 0 ⟨h.val * 4 + g.val, by omega⟩)

theorem root_ne : rootWord ≠ 0 := by unfold rootWord; norm_num

theorem div_root (x : ℝ) : Ideal.div (x : EReal) ((rootWord : ℝ) : EReal) = ((x * rootWord⁻¹ : ℝ) : EReal) := by
  rw [Ideal.div, if_neg (by simpa using root_ne), ← EReal.coe_inv, ← EReal.coe_mul]

variable (hq : ∀ i, x0 i = ((q i : ℝ) : EReal)) (hk : ∀ i, x3 i = ((k i : ℝ) : EReal)) (hb : ∀ i, x5 i = ((bias i : ℝ) : EReal))

include hq hk hb in
theorem logit (b : Fin 2) (h g : Fin 4) (t s : Fin 4096) :
    val_main_v12 (F := Ideal) x0 x3 x5 (ix5 b h g t s) = ((logitAt q k bias b h g t s.val : ℝ) : EReal) := by
  unfold val_main_v12 val_main_v9 val_main_v7 val_main_v6 val_main_v11 val_main_v10 val_main_v5 val_main_v4 val_main_v8 val_main_cst
    val_main_v2 val_main_v1
  pointwise
  rw [bits_root, hb]
  simp only [hq, hk, ← EReal.coe_mul]
  rw [← coe_sum, div_root, ← EReal.coe_add, logitAt, score, dif_pos s.isLt]

theorem absf_eq (x : EReal) : FloatOps.absf (F := Ideal) (φ := .f32) x = max x (-x) := rfl

theorem log_sigmoid (x : ℝ) : (-if (x : EReal) ≠ (x : EReal) then (x : EReal) else max (x : EReal) 0
      + Ideal.log1p (Ideal.exp (-FloatOps.absf (F := Ideal) (φ := .f32) (x : EReal)))) = ((-softplus x : ℝ) : EReal) := by
  rw [if_neg (by simp), absf_eq]
  have := softplus_host x
  rw [sub_zero] at this
  rw [this, EReal.coe_neg]

theorem sel_real (s t : ℕ) (hs : s < 4096) (ht : t < 4096) (x y : EReal) :
    Scalar.select (IntOp.cmpi CmpIPredicate.slt (BitVec.ofNat 32 s) (BitVec.ofNat 32 t)) x y = if s < t then x else y := by
  rw [Words.lt_small s t hs ht]
  split_ifs <;> simp [Scalar.select]

include hq hk hb in
theorem log_keep (b : Fin 2) (h g : Fin 4) (t s : Fin 4096) :
    val_main_v20 (F := Ideal) x0 x3 x5 (ix5 b h g t s) = ((-drop (logitAt q k bias b h g t) t.val s.val : ℝ) : EReal) := by
  unfold val_main_v20 val_main_call1_v2 val_main_call1_v1 val_main_call1_v0 val_main_v19 val_main_call0_v1 val_main_call0_call0_v11
    val_main_call0_call0_v10 val_main_call0_call0_v9 val_main_call0_call0_v8 val_main_call0_call0_v7 val_main_call0_call0_v6
    val_main_call0_call0_v5 val_main_call0_call0_v4 val_main_call0_call0_v3 val_main_call0_call0_v2 val_main_call0_call0_v1
    val_main_call0_call0_v0 val_main_call0_call0_cst val_main_call0_v0 val_main_v18 val_main_v17 val_main_v16 val_main_v15 val_main_v14
    val_main_v13 val_main_v0 val_main_cst_0
  have hl := logit x0 x3 x5 q k bias hq hk hb b h g t s
  generalize val_main_v12 (F := Ideal) x0 x3 x5 = Z at hl ⊢
  pointwise
  rw [sel_real _ _ s.isLt t.isLt, hl, neg_neg, log_sigmoid, drop]
  split_ifs
  · rfl
  · exact bits_zero.trans (by simp)

theorem sum_suffix (f : ℕ → ℝ) (s : Fin 4096) :
    (∑ w : Fin 4096, if hw : s.val + w.val < 4096 then ((f (s.val + w.val) : ℝ) : EReal) else 0) = ((∑ j ∈ Finset.Ico s.val 4096, f j : ℝ) : EReal) := by
  rw [Finset.sum_Ico_eq_sum_range, coe_sum]
  have e : ∀ w : Fin 4096, (if hw : s.val + w.val < 4096 then ((f (s.val + w.val) : ℝ) : EReal) else 0)
      = (fun n => if n ∈ Finset.range (4096 - s.val) then ((f (s.val + n) : ℝ) : EReal) else 0) w.val := fun w => by
    simp only [Finset.mem_range]
    exact if_congr (by omega) rfl rfl
  rw [Finset.sum_congr rfl fun w _ => e w, Fin.sum_univ_eq_sum_range (fun n => if n ∈ Finset.range (4096 - s.val) then ((f (s.val + n) : ℝ) : EReal) else 0) 4096,
    Finset.sum_ite_mem, Finset.inter_eq_right.mpr (Finset.range_subset_range.mpr (by omega))]

include hq hk hb in
theorem suffix (b : Fin 2) (h g : Fin 4) (t s : Fin 4096) :
    val_main_v21 (F := Ideal) x0 x3 x5 (ix5 b h g t s) = ((-dropped (logitAt q k bias b h g t) t.val s.val 4096 : ℝ) : EReal) := by
  unfold val_main_v21 Host.reduceWindowAdd
  have e0 : ∀ i, val_main_call2_v0 (F := Ideal) i = 0 := fun i => by
    rw [val_main_call2_v0_apply, val_main_call2_cst_apply]; exact bits_zero
  rw [e0, Ideal.hostReduceWindowAdd_def]
  refine (RunningSum.suffix_sum _ _ b h g t s).trans ?_
  simp only [log_keep x0 x3 x5 q k bias hq hk hb]
  rw [sum_suffix (fun j => -drop (logitAt q k bias b h g t) t.val j), Finset.sum_neg_distrib]
  rfl

include hq hk hb in
theorem attn (b : Fin 2) (h g : Fin 4) (t s : Fin 4096) :
    val_main_v26 (F := Ideal) x0 x3 x5 (ix5 b h g t s) = ((weight (logitAt q k bias b h g t) t.val 4096 s.val : ℝ) : EReal) := by
  unfold val_main_v26 val_main_call4_v2 val_main_call4_v1 val_main_call4_v0 val_main_v25 val_main_v24 val_main_v23 val_main_v22
    val_main_call3_v1 val_main_call3_call0_v11 val_main_call3_call0_v10 val_main_call3_call0_v9 val_main_call3_call0_v8
    val_main_call3_call0_v7 val_main_call3_call0_v6 val_main_call3_call0_v5 val_main_call3_call0_v4 val_main_call3_call0_v3
    val_main_call3_call0_v2 val_main_call3_call0_v1 val_main_call3_call0_v0 val_main_call3_call0_cst val_main_call3_v0 val_main_v17
    val_main_v16 val_main_v15 val_main_v14 val_main_v13 val_main_v0 val_main_cst_1
  have hl := logit x0 x3 x5 q k bias hq hk hb b h g t s
  have hkp := log_keep x0 x3 x5 q k bias hq hk hb b h g t s
  have hs := suffix x0 x3 x5 q k bias hq hk hb b h g t s
  generalize val_main_v12 (F := Ideal) x0 x3 x5 = Z at hl ⊢
  generalize val_main_v20 (F := Ideal) x0 x3 x5 = K at hkp ⊢
  generalize val_main_v21 (F := Ideal) x0 x3 x5 = C at hs ⊢
  pointwise
  rw [sel_real _ _ s.isLt t.isLt, hl, hkp, hs, ← EReal.coe_neg, log_sigmoid, ← EReal.coe_sub, ← EReal.coe_add, Ideal.exp_coe, weight]
  split_ifs with hst
  · rw [softplus_neg, drop, if_pos hst]
    congr 2
    ring
  · exact bits_zero.trans (by simp)

/-- The values of head `h`, by key and lane. -/
def valueAt (b : Fin 2) (h : Fin 4) (s : ℕ) (d : Fin 128) : EReal :=
  if hs : s < 4096 then x4 (ix3 b ⟨s, hs⟩ ⟨h.val * 128 + d.val, by omega⟩) else 0

include hq hk hb in
theorem attended (b : Fin 2) (t : Fin 4096) (h g : Fin 4) (d : Fin 128) :
    val_main_v28 (F := Ideal) x0 x3 x4 x5 (ix5 b t h g d)
      = wsum (logitAt q k bias b h g t) t.val (fun s => valueAt x4 b h s d) 0 := by
  unfold val_main_v28 val_main_v27 val_main_v3
  have ha := attn x0 x3 x5 q k bias hq hk hb b h g t
  generalize val_main_v26 (F := Ideal) x0 x3 x5 = Z at ha ⊢
  pointwise
  rw [wsum, ← Finset.range_eq_Ico, ← Fin.sum_univ_eq_sum_range
    (fun s => ((weight (logitAt q k bias b h g t) t.val 4096 s : ℝ) : EReal) * valueAt x4 b h s d) 4096]
  refine Finset.sum_congr rfl fun s _ => ?_
  rw [ha, mul_comm, valueAt, dif_pos s.isLt]

/-- The gated projection of the attended values. -/
theorem proj (b : Fin 2) (t : Fin 4096) (e : Fin 2048) : val_main_v33 (F := Ideal) x0 x1 x3 x4 x5 x6 (ix3 b t e)
    = ∑ x : Fin 2048, val_main_v28 (F := Ideal) x0 x3 x4 x5 (ix5 b t ⟨x.val / 512, by omega⟩ ⟨x.val / 128 % 4, by omega⟩ ⟨x.val % 128, by omega⟩)
      * (x1 (ix3 b t x) * Ideal.div 1 (1 + Ideal.exp (-x1 (ix3 b t x)))) * x6 (ix3 0 x e) := by
  unfold val_main_v33 val_main_v32 val_main_v31 val_main_v30 val_main_v29 val_main_call5_v5 val_main_call5_v4 val_main_call5_v3
    val_main_call5_v2 val_main_call5_v1 val_main_call5_v0 val_main_call5_cst val_main_call5_cst_0
  generalize val_main_v28 (F := Ideal) x0 x3 x4 x5 = Z
  pointwise

/-- The normalised projection on the residual. -/
theorem result (b : Fin 2) (t : Fin 4096) (e : Fin 2048) : val_main_v49 (F := Ideal) x0 x1 x2 x3 x4 x5 x6 x7 (ix3 b t e)
    = x2 (ix3 b t e) + val_main_v33 (F := Ideal) x0 x1 x3 x4 x5 x6 (ix3 b t e)
      * Ideal.rsqrt (Ideal.div (∑ x, val_main_v33 (F := Ideal) x0 x1 x3 x4 x5 x6 (ix3 b t x) * val_main_v33 (F := Ideal) x0 x1 x3 x4 x5 x6 (ix3 b t x))
        (Ideal.ofBits FTy.f32 1157627904#32) + Ideal.ofBits FTy.f32 897988541#32) * x7 (ix2 1 e) := by
  unfold val_main_v49 val_main_v48 val_main_v47 val_main_v46 val_main_v45 val_main_v44 val_main_v43 val_main_v42 val_main_v41 val_main_v40
    val_main_v39 val_main_v38 val_main_v37 val_main_v36 val_main_v35 val_main_v34 val_main_cst_2 val_main_cst_3 val_main_cst_4
  generalize val_main_v33 (F := Ideal) x0 x1 x3 x4 x5 x6 = Z
  pointwise

end Cert.ReferenceIdeal.Plain

end
-- ==== Proof.Stage.lean ====
module

public import proofs.«01_k».proof.Proof.Sweep
public import proofs.«01_k».proof.Proof.Epi
public import proofs.«01_k».proof.Proof.Ref

/-! # One grid point against the reference

The staged blocks of a grid point are given by their entries; what the body then writes is the reference's result at
the tile's positions. -/

@[expose] public section

set_option maxRecDepth 16384

noncomputable section

namespace Cert.KernelIdeal.Tile

open Cert.KernelIdeal Cert.KernelIdeal.Gen Idealize.ShloMosaic Idealize.ShloMosaic.TcCoe Cert.Stick
open Cert.ReferenceIdeal.Plain (score logitAt valueAt)
open Cert.ReferenceIdeal.Read

theorem qTile_apply (m : Memref sig .tc .vmem S1x256x2048 .f32) (hm : m.IsWhole) (x : Vec Ideal S1x256x2048 .f32) (h : Fin 16) (r : Fin 256)
    (d : Fin 128) : qTile m (hm.unread x) h (ix3 0 r d) = x (ix3 0 r ⟨128 * h.val + d.val, by omega⟩) := by
  rw [qTile, View.readAt_eq_ld, hm.read_unread]
  refine congrArg x ?_
  funext a
  fin_cases a <;> exact Fin.ext (by simp [LoadRect.idx, Rect.unit])

theorem kvTile_apply (m : Memref sig .tc .vmem S1x4096x512 .bf16) (hm : m.IsWhole) (x : Vec Ideal S1x4096x512 .bf16) (o : Fin 3 → ℕ)
    (ho : ∀ d, o d + S1x256x128.size d ≤ S1x4096x512.size d) (n : ℕ) (h : Fin 4) (e : o = pairAt n h) (hn : 256 * n + 256 ≤ 4096) (s : Fin 256)
    (d : Fin 128) : kvTile m (hm.unread x) o ho (ix3 0 s d) = x (ix3 0 ⟨256 * n + s.val, by omega⟩ ⟨128 * h.val + d.val, by omega⟩) := by
  subst e
  rw [kvTile, View.readAt_eq_ld, hm.read_unread]
  refine congrArg x ?_
  funext a
  fin_cases a <;> exact Fin.ext (by simp [LoadRect.idx, Rect.unit])

theorem biasAt_apply (m : Memref sig .tc .smem S16 .f32) (hm : m.IsWhole) (x : Vec Ideal S16 .f32) (h g : Fin 4) :
    biasAt m (hm.unread x) h g = x (ix1 ⟨4 * h.val + g.val, by omega⟩) := by
  rw [biasAt, View.readAt_eq_ld, hm.read_unread]
  refine congrArg x ?_
  funext a
  fin_cases a
  exact Fin.ext (by simp [LoadRect.idx, Rect.unit, Shape.Idx.first])

theorem readAll3 {e : EltTy} (m : Memref sig .tc .vmem S1x256x2048 e) (hm : m.IsWhole) (x : S1x256x2048.Idx → Elt Ideal e) :
    View.readAt (Elt Ideal) m.view (Rect.unit (s := S1x256x2048) ![0, 0, 0] S1x256x2048.size inb_S1x256x2048_S1x256x2048_0_0_0).toLoadRect
      (hm.unread x) = x := by
  rw [View.readAt_eq_ld, hm.read_unread]
  exact View.ld_unit_zero (by funext d; fin_cases d <;> rfl) _ _

/-- The sequence of a grid point. -/
def seqOf (i : grid0.Coords) : Fin 2 := i 0

/-- The query tile of a grid point. -/
def tileOf (i : grid0.Coords) : Fin 16 := i 1

/-- The position of row `r` of the query tile. -/
def posOf (i : grid0.Coords) (r : Fin 256) : Fin 4096 := ⟨(i 1).val * 256 + r.val, by have : (i 1).val < 16 := (i 1).isLt; omega⟩

/-- The numbers of the grid point whose query tile is `tile` in sequence `b`. -/
def pointAt (q : S2x4096x2048.Idx → ℝ) (k : S2x4096x512.Idx → ℝ) (bias : S1x16.Idx → ℝ) (v : Vec Ideal S2x4096x512 .f32) (b : Fin 2)
    (tile : Fin 16) : Point where
  score h r := score q k b h (grp r) ⟨tile.val * 256 + r.val % 256, by omega⟩
  bias h g := bias (ix2 0 ⟨h.val * 4 + g.val, by omega⟩)
  value h := valueAt v b h
  tile := tile.val
  tile_lt := tile.isLt

variable (c : Dev nD) (i : grid0.Coords)  (arg2 : Memref sig .tc .smem S16 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x256 .bf16) (harg10 : arg10.IsWhole) (arg11 : Memref sig .tc .vmem S1x256x2048 .f32) (harg11 : arg11.IsWhole) (arg12 : Memref sig .tc .vmem S2x4x1024x256 .f32) (harg12 : arg12.IsWhole) (arg13 : Memref sig .tc .vmem S4x1024x128 .f32) (harg13 : arg13.IsWhole) (arg14 : Memref sig .tc .vmem S4x1024x128 .f32) (harg14 : arg14.IsWhole) (arg15 : Memref sig .tc .vmem S256x2048 .f32) (harg15 : arg15.IsWhole)
  (x0 : Vec Ideal S16 .f32) (x1 : Vec Ideal S1x256x2048 .f32) (x2 : Vec Ideal S1x256x2048 .f32) (x3 : Vec Ideal S1x256x2048 .f32) (x4 : Vec Ideal S1x4096x512 .bf16) (x5 : Vec Ideal S1x4096x512 .bf16) (x6 : Vec Ideal S2048x2048 .bf16) (x7 : Vec Ideal S1x2048 .f32) (x8 : Vec Ideal S256x256 .bf16)
  (q : S2x4096x2048.Idx → ℝ) (k : S2x4096x512.Idx → ℝ) (bias : S1x16.Idx → ℝ) (v : Vec Ideal S2x4096x512 .f32)

/-- What the staged blocks of grid point `i` hold. -/
structure Holds : Prop where
  biases : ∀ h : Fin 16, x0 (ix1 h) = ((bias (ix2 0 h) : ℝ) : EReal)
  queries : ∀ (r : Fin 256) (e : Fin 2048), x1 (ix3 0 r e)
    = ((q (ix3 (seqOf i) (posOf i r) e) : ℝ) : EReal)
  keys : ∀ (s : Fin 4096) (e : Fin 512), x4 (ix3 0 s e) = ((k (ix3 (seqOf i) s e) : ℝ) : EReal)
  values : ∀ (s : Fin 4096) (e : Fin 512), x5 (ix3 0 s e) = v (ix3 (seqOf i) s e)
  tri : IsTri x8

variable (hh : Holds i x0 x1 x4 x5 x8 q k bias v)

theorem lt_of_in (n : ℕ) (o : Offs) (ho : OffsIn o) (e : ∀ h, o h = pairAt n h) : 256 * n + 256 ≤ 4096 := by
  have := ho 0 1
  rw [e 0] at this
  exact this

include hh in
theorem staged : Staged i arg2 harg2 arg3 harg3 arg6 harg6 arg7 harg7 arg10 harg10 x0 x1 x4 x5 x8 (pointAt q k bias v (seqOf i) (tileOf i)) where
  tile := rfl
  biases h g := by
    rw [biasAt_apply, hh.biases]
    refine congrArg (fun j => ((bias (ix2 0 j) : ℝ) : EReal)) (Fin.ext ?_)
    show 4 * h.val + g.val = h.val * 4 + g.val
    omega
  tri := by
    rw [triAt, View.readAt_eq_ld, harg10.read_unread, View.ld_unit_zero (by funext d; fin_cases d <;> rfl)]
    exact hh.tri
  tiles n o ho e h r s := by
    have hn := lt_of_in n o ho e
    have hi : (i 1).val < 16 := (i 1).isLt
    rw [scoresAt, scoreAt, scoreTile_apply]
    have pick : ∀ g : Fin 4, (![qTile arg3 (harg3.unread x1) ⟨4 * h.val, by omega⟩, qTile arg3 (harg3.unread x1) ⟨4 * h.val + 1, by omega⟩,
        qTile arg3 (harg3.unread x1) ⟨4 * h.val + 2, by omega⟩, qTile arg3 (harg3.unread x1) ⟨4 * h.val + 3, by omega⟩] :
        Fin 4 → Vec Ideal S1x256x128 .f32) g = qTile arg3 (harg3.unread x1) ⟨4 * h.val + g.val, by omega⟩ := fun g => by
      fin_cases g <;> rfl
    rw [pick]
    simp only [qTile_apply, kvTile_apply arg6 harg6 x4 (o h) (ho h) n h (e h) hn, hh.queries, hh.keys, ← EReal.coe_mul]
    rw [← coe_sum]
    refine congrArg _ ?_
    show _ = score q k (seqOf i) h (grp r) (posOf i ⟨r.val % 256, by omega⟩) (256 * n + s.val) * L2
    rw [score, dif_pos (show 256 * n + s.val < 4096 by omega), Finset.sum_mul, Finset.sum_mul]
    refine Finset.sum_congr rfl fun d _ => ?_
    have e1 : (⟨128 * (4 * h.val + (grp r).val) + d.val, by omega⟩ : Fin 2048) = ⟨h.val * 512 + (grp r).val * 128 + d.val, by omega⟩ :=
      Fin.ext (by dsimp only; omega)
    have e2 : (⟨128 * h.val + d.val, by omega⟩ : Fin 512) = ⟨h.val * 128 + d.val, by omega⟩ := Fin.ext (by dsimp only; omega)
    rw [e1, e2, scaleBase2]
    ring
  values n o ho e h s d := by
    have hn := lt_of_in n o ho e
    rw [valuesAt, kvTile_apply arg7 harg7 x5 (o h) (ho h) n h (e h) hn, hh.values]
    show _ = valueAt v (seqOf i) h (256 * n + s.val) d
    rw [valueAt, dif_pos (show 256 * n + s.val < 4096 by omega)]
    refine congrArg (fun j => v (ix3 (seqOf i) _ j)) (Fin.ext ?_)
    show 128 * h.val + d.val = h.val * 128 + d.val
    omega

variable (A0 A1 A2 : Vec Ideal Cert.ReferenceIdeal.S2x4096x2048 .f32) (A3 : Vec Ideal Cert.ReferenceIdeal.S2x4096x512 .f32)
  (A5 : Vec Ideal Cert.ReferenceIdeal.S1x16 .f32) (A6 : Vec Ideal Cert.ReferenceIdeal.S1x2048x2048 .f32)
  (A7 : Vec Ideal Cert.ReferenceIdeal.S2x2048 .f32)
  (hq : ∀ j, A0 j = ((q j : ℝ) : EReal)) (hk : ∀ j, A3 j = ((k j : ℝ) : EReal)) (hb : ∀ j, A5 j = ((bias j : ℝ) : EReal))

/-- What the epilogue's blocks of grid point `i` hold. -/
structure Rest : Prop where
  gates : ∀ (r : Fin 256) (e : Fin 2048), x2 (ix3 0 r e)
    = A1 (ix3 (seqOf i) (posOf i r) e)
  residuals : ∀ (r : Fin 256) (e : Fin 2048), x3 (ix3 0 r e)
    = A2 (ix3 (seqOf i) (posOf i r) e)
  weights : ∀ x e : Fin 2048, x6 (ix2 x e) = A6 (ix3 0 x e)
  scales : ∀ e : Fin 2048, x7 (ix2 0 e) = A7 (ix2 1 e)

variable (hr : Rest i x2 x3 x6 x7 A1 A2 A6 A7)

include hq hk hb hr in
/-- The epilogue over the whole sums is the reference's result at the tile's positions. -/
theorem tile_eq (L : RL Ideal) (hL : (pointAt q k bias v (seqOf i) (tileOf i)).Accs 0 L) (r : Fin 256) (e : Fin 2048) :
    outTile (oRead arg15 (oPut arg13 L 16)) x2 x3 x6 x7 (ix3 0 r e)
      = val_main_v49 (F := Ideal) A0 A1 A2 A3 v A5 A6 A7
          (ix3 (seqOf i) (posOf i r) e) := by
  have hi : (i 1).val < 16 := (i 1).isLt
  have attended : ∀ x : Fin 2048, oRead arg15 (oPut arg13 L 16) (ix2 r x)
      = val_main_v28 (F := Ideal) A0 A3 v A5 (ix5 (seqOf i) (posOf i r) ⟨x.val / 512, by omega⟩ ⟨x.val / 128 % 4, by omega⟩
          ⟨x.val % 128, by omega⟩) := fun x => by
    rw [oRead_apply, hL]
    refine Eq.trans ?_ (Cert.ReferenceIdeal.Plain.attended A0 A3 v A5 q k bias hq hk hb _ _ _ _ _).symm
    have eg : grp ⟨256 * (x.val / 128 % 4) + r.val, by omega⟩ = ⟨x.val / 128 % 4, by omega⟩ := Fin.ext (by simp only [grp]; omega)
    have er : (256 * (x.val / 128 % 4) + r.val) % 256 = r.val := by omega
    have ez : (pointAt q k bias v (seqOf i) (tileOf i)).z ⟨x.val / 512, by omega⟩ ⟨256 * (x.val / 128 % 4) + r.val, by omega⟩
        = logitAt q k bias (seqOf i) ⟨x.val / 512, by omega⟩ ⟨x.val / 128 % 4, by omega⟩ (posOf i r) := by
      funext j
      simp only [Point.z, pointAt, logitAt, eg, er]
      rfl
    have ep : (pointAt q k bias v (seqOf i) (tileOf i)).pos ⟨256 * (x.val / 128 % 4) + r.val, by omega⟩ = (i 1).val * 256 + r.val := by
      simp only [Point.pos, pointAt, er, tileOf]
      omega
    rw [ez, ep]
    rfl
  have projected : ∀ x : Fin 2048, k0_pay427 (oRead arg15 (oPut arg13 L 16)) x2 x6 (ix2 r x)
      = val_main_v33 (F := Ideal) A0 A1 A3 v A5 A6 (ix3 (seqOf i) (posOf i r) x) := fun x => by
    rw [proj_apply, Cert.ReferenceIdeal.Plain.proj]
    refine Finset.sum_congr rfl fun y _ => ?_
    rw [attended, hr.gates, hr.weights]
  rw [outTile_apply, Cert.ReferenceIdeal.Plain.result, hr.residuals, hr.scales]
  simp only [projected]

include hh hq hk hb hr in
theorem even_tile (hc0 : ¬cond0_0 i) (he : (i 1).val % 2 = 0) (r : Fin 256) (e : Fin 2048) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix3 0 r e)
      = val_main_v49 (F := Ideal) A0 A1 A2 A3 v A5 A6 A7
          (ix3 (seqOf i) (posOf i r) e) := by
  unfold out0_A_9
  rw [View.read_writes_junk_eq_canon, run_even, View.canon_unit_zero (by funext d; fin_cases d <;> rfl), readAll3, readAll3,
    View.readAt_eq_ld, harg8.read_unread, View.ld_unit_zero (by funext d; fin_cases d <;> rfl),
    View.readAt_eq_ld, harg9.read_unread, View.ld_unit_zero (by funext d; fin_cases d <;> rfl)]
  exact tile_eq i arg13 arg15 x2 x3 x6 x7 q k bias v A0 A1 A2 A3 A5 A6 A7 hq hk hb hr _
    (even_accs c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 _ (staged i arg2 harg2 arg3 harg3 arg6 harg6 arg7 harg7 arg10 harg10 x0 x1 x4 x5 x8 q k bias v hh) he) r e

include hh hq hk hb hr in
theorem odd_tile (hc0 : cond0_0 i) (r : Fin 256) (e : Fin 2048) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix3 0 r e)
      = val_main_v49 (F := Ideal) A0 A1 A2 A3 v A5 A6 A7
          (ix3 (seqOf i) (posOf i r) e) := by
  unfold out0_B_9
  rw [View.read_writes_junk_eq_canon, run_odd, View.canon_unit_zero (by funext d; fin_cases d <;> rfl), readAll3, readAll3,
    View.readAt_eq_ld, harg8.read_unread, View.ld_unit_zero (by funext d; fin_cases d <;> rfl),
    View.readAt_eq_ld, harg9.read_unread, View.ld_unit_zero (by funext d; fin_cases d <;> rfl)]
  exact tile_eq i arg13 arg15 x2 x3 x6 x7 q k bias v A0 A1 A2 A3 A5 A6 A7 hq hk hb hr _
    (odd_accs c i arg2 harg2 arg3 harg3 arg4 harg4 arg5 harg5 arg6 harg6 arg7 harg7 arg8 harg8 arg9 harg9 arg10 harg10 arg11 harg11 arg12 harg12 arg13 harg13 arg14 harg14 arg15 harg15 x0 x1 x4 x5 x8 _ (staged i arg2 harg2 arg3 harg3 arg6 harg6 arg7 harg7 arg10 harg10 x0 x1 x4 x5 x8 q k bias v hh) hc0) r e

end Cert.KernelIdeal.Tile

end
-- ==== Proof.Blocks.lean ====
module

public import proofs.«01_k».proof.Proof.Gen.KernelIdeal.Value
public import proofs.«01_k».proof.Proof.TileIdeal
public import proofs.«01_k».proof.Proof.Words
public import Idealize.ShloMosaic.Lib.Pipeline.ValueKit
public import Idealize.ShloMosaic.Lib.Claim
public import Idealize.ShloMosaic.Lib.WordCmp
public import Idealize.ShloMosaic.Lib.Pointwise

/-! # The blocks a grid point stages, entry by entry -/

@[expose] public section

set_option maxRecDepth 16384

noncomputable section

namespace Cert.KernelIdeal.Blocks

open Cert.KernelIdeal Cert.KernelIdeal.Gen Idealize.ShloMosaic Idealize.ShloMosaic.TcCoe Idealize.SL.Sem
open Cert.KernelIdeal.Tile (IsTri)

variable (m : (ℓ : Loc nD τ sig) → Buf (Elt Ideal) ℓ) (c : Dev nD) (t : Fin cfg0.N)

theorem idxTile : ∀ t : Fin cfg0.N, win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_9.index t = ![(grid0.coords t 0).val, (grid0.coords t 1).val, 0] :=
  (by decide +kernel : ∀ t : Fin grid0.N, _)

theorem idxSeq : ∀ t : Fin cfg0.N, win0_4.index t = ![(grid0.coords t 0).val, 0, 0]
    ∧ win0_5.index t = ![(grid0.coords t 0).val, 0, 0] :=
  (by decide +kernel : ∀ t : Fin grid0.N, _)

theorem idxWhole : ∀ t : Fin cfg0.N, win0_0.index t = ![0] ∧ win0_6.index t = ![0, 0] ∧ win0_7.index t = ![0, 0]
    ∧ win0_8.index t = ![0, 0] :=
  (by decide +kernel : ∀ t : Fin grid0.N, _)

/-- The position in the sequence of row `r` of the grid point's query tile. -/
abbrev at_ (r : Fin 256) : Fin 4096 := ⟨(grid0.coords t 1).val * 256 + r.val, by have : (grid0.coords t 1).val < 16 := (grid0.coords t 1).isLt; omega⟩
/-- The grid point's sequence. -/
abbrev seq_ : Fin 2 := grid0.coords t 0

theorem queries (r : Fin 256) (e : Fin 2048) :
    (iblk m c 1 t : Vec Ideal S1x256x2048 .f32) (ix3 0 r e) = m ((c : Thread nD τ).loc main_arg0) (ix3 (seq_ t) (at_ t r) e) := by
  blk_ext! [iblk, V, idxTile t]
  rfl

theorem gates (r : Fin 256) (e : Fin 2048) :
    (iblk m c 2 t : Vec Ideal S1x256x2048 .f32) (ix3 0 r e) = m ((c : Thread nD τ).loc main_arg1) (ix3 (seq_ t) (at_ t r) e) := by
  blk_ext! [iblk, V, idxTile t]
  rfl

theorem residuals (r : Fin 256) (e : Fin 2048) :
    (iblk m c 3 t : Vec Ideal S1x256x2048 .f32) (ix3 0 r e) = m ((c : Thread nD τ).loc main_arg2) (ix3 (seq_ t) (at_ t r) e) := by
  blk_ext! [iblk, V, idxTile t]
  rfl

theorem keys (s : Fin 4096) (e : Fin 512) :
    (iblk m c 4 t : Vec Ideal S1x4096x512 .bf16) (ix3 0 s e) = m ((c : Thread nD τ).loc main_arg3) (ix3 (seq_ t) s e) := by
  blk_ext! [iblk, V, idxSeq t]
  rfl

theorem values (s : Fin 4096) (e : Fin 512) :
    (iblk m c 5 t : Vec Ideal S1x4096x512 .bf16) (ix3 0 s e) = m ((c : Thread nD τ).loc main_arg4) (ix3 (seq_ t) s e) := by
  blk_ext! [iblk, V, idxSeq t]
  rfl

theorem entry_bias (h : Fin 16) : (V m c main_v0 : Vec Ideal S16 .f32) (ix1 h) = m ((c : Thread nD τ).loc main_arg5) (ix2 0 h) := by
  unfold V
  simp only [hostOps0, hostOps0_1, hostOps0_2, hostOps0_3, hostOps0_4, List.flatten_cons, List.flatten_nil, List.append_nil, List.cons_append,
    List.nil_append]
  after_results_simp
  pointwise

theorem biases (h : Fin 16) :
    (iblk m c 0 t : Vec Ideal S16 .f32) (ix1 h) = m ((c : Thread nD τ).loc main_arg5) (ix2 0 h) := by
  rw [← entry_bias m c h]
  blk_ext! [iblk, idxWhole t]

theorem entry_weight (x e : Fin 2048) : (V m c main_v2 : Vec Ideal S2048x2048 .bf16) (ix2 x e) = m ((c : Thread nD τ).loc main_arg6) (ix3 0 x e) := by
  unfold V
  simp only [hostOps0, hostOps0_1, hostOps0_2, hostOps0_3, hostOps0_4, List.flatten_cons, List.flatten_nil, List.append_nil, List.cons_append,
    List.nil_append]
  after_results_simp
  pointwise

theorem weights (x e : Fin 2048) :
    (iblk m c 6 t : Vec Ideal S2048x2048 .bf16) (ix2 x e) = m ((c : Thread nD τ).loc main_arg6) (ix3 0 x e) := by
  rw [← entry_weight m c x e]
  blk_ext! [iblk, idxWhole t]

theorem entry_scale (e : Fin 2048) : (V m c main_v7 : Vec Ideal S1x2048 .f32) (ix2 0 e) = m ((c : Thread nD τ).loc main_arg7) (ix2 1 e) := by
  unfold V
  simp only [hostOps0, hostOps0_1, hostOps0_2, hostOps0_3, hostOps0_4, List.flatten_cons, List.flatten_nil, List.append_nil, List.cons_append,
    List.nil_append]
  after_results_simp
  pointwise

theorem scales (e : Fin 2048) :
    (iblk m c 7 t : Vec Ideal S1x2048 .f32) (ix2 0 e) = m ((c : Thread nD τ).loc main_arg7) (ix2 1 e) := by
  rw [← entry_scale m c e]
  blk_ext! [iblk, idxWhole t]

/-- A position's remainder by the tile's length, as the host computes it. -/
def remWord (j : ℕ) : BitVec 32 :=
  Scalar.select (IntOp.andi (IntOp.cmpi CmpIPredicate.ne (IntOp.cmpi CmpIPredicate.slt (IntOp.remsi ArithUnit.host (BitVec.ofNat 32 j) 128#32) 0#32)
      (IntOp.cmpi CmpIPredicate.slt 128#32 0#32)) (IntOp.cmpi CmpIPredicate.ne (IntOp.remsi ArithUnit.host (BitVec.ofNat 32 j) 128#32) 0#32))
    (IntOp.addi (IntOp.remsi ArithUnit.host (BitVec.ofNat 32 j) 128#32) 128#32) (IntOp.remsi ArithUnit.host (BitVec.ofNat 32 j) 128#32)

theorem remWord_eq : ∀ j : Fin 256, remWord j.val = BitVec.ofNat 32 (j.val % 128) := by decide +kernel

theorem modulus : Scalar.select (IntOp.cmpi CmpIPredicate.eq (128#32) 0#32) (1#32) (128#32) = 128#32 := by decide

theorem entry_tri : IsTri (V m c main_v19 : Vec Ideal S256x256 .bf16) := by
  intro j s
  unfold V
  simp only [hostOps0, hostOps0_1, hostOps0_2, hostOps0_3, hostOps0_4, List.flatten_cons, List.flatten_nil, List.append_nil, List.cons_append,
    List.nil_append]
  after_results_simp
  simp -implicitDefEqProofs only [StableHlo.TRef.toBuf, StableHlo.TRef.ofBuf, cast_cast, cast_eq]
  pointwise
  change FloatOps.uitofp (F := Ideal) FTy.bf16 (Scalar.select (IntOp.cmpi CmpIPredicate.slt (BitVec.ofNat 32 s.val) (BitVec.ofNat 32 128))
    (IntOp.cmpi CmpIPredicate.sge (remWord j.val) (BitVec.ofNat 32 s.val)) 1#1) = _
  rw [remWord_eq, Words.lt_small _ _ (by omega) (by omega), Words.ge_small _ _ (by omega) (by omega)]
  split_ifs <;> first | exact Words.one_bit | exact Words.zero_bit

theorem tri : IsTri (iblk m c 8 t : Vec Ideal S256x256 .bf16) := by
  intro j s
  rw [← entry_tri m c j s]
  blk_ext! [iblk, idxWhole t]

end Cert.KernelIdeal.Blocks

end
-- ==== Proof.Final.lean ====
module

public import proofs.«01_k».proof.Proof.Stage
public import proofs.«01_k».proof.Proof.Blocks
public import proofs.«01_k».proof.Proof.Gen.KernelIdeal.Value

/-! # The kernel's whole result array

Every grid point writes one tile of one sequence; the tiles cover the array, and each holds the reference's result. -/

@[expose] public section

set_option maxRecDepth 16384

noncomputable section

namespace Cert.KernelIdeal.Final

open Cert.KernelIdeal Cert.KernelIdeal.Gen Cert.KernelIdeal.Tile Cert.KernelIdeal.Blocks Idealize.ShloMosaic Idealize.ShloMosaic.TcCoe
open Cert.ReferenceIdeal.Read (val_main_v49)

variable (m : (ℓ : Loc nD τ sig) → Buf (Elt Ideal) ℓ) (c : Dev nD)
  (q : S2x4096x2048.Idx → ℝ) (k : S2x4096x512.Idx → ℝ) (bias : S1x16.Idx → ℝ)
  (hq : ∀ j, (m ((c : Thread nD τ).loc main_arg0) : Vec Ideal S2x4096x2048 .f32) j = ((q j : ℝ) : EReal))
  (hk : ∀ j, (m ((c : Thread nD τ).loc main_arg3) : Vec Ideal S2x4096x512 .f32) j = ((k j : ℝ) : EReal))
  (hb : ∀ j, (m ((c : Thread nD τ).loc main_arg5) : Vec Ideal S1x16 .f32) j = ((bias j : ℝ) : EReal))

/-- The reference's result of the kernel's arguments. -/
def plain : Vec Ideal S2x4096x2048 .f32 :=
  val_main_v49 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

include hq hk hb in
theorem holds (t : Fin cfg0.N) : Holds (grid0.coords t) (iblk m c 0 t) (iblk m c 1 t) (iblk m c 4 t) (iblk m c 5 t) (iblk m c 8 t) q k bias
    (m ((c : Thread nD τ).loc main_arg4)) where
  biases h := (biases m c t h).trans (hb _)
  queries r e := (queries m c t r e).trans (hq _)
  keys s e := (keys m c t s e).trans (hk _)
  values s e := values m c t s e
  tri := tri m c t

theorem rest (t : Fin cfg0.N) : Rest (grid0.coords t) (iblk m c 2 t) (iblk m c 3 t) (iblk m c 6 t) (iblk m c 7 t)
    (m ((c : Thread nD τ).loc main_arg1)) (m ((c : Thread nD τ).loc main_arg2)) (m ((c : Thread nD τ).loc main_arg6))
    (m ((c : Thread nD τ).loc main_arg7)) where
  gates r e := gates m c t r e
  residuals r e := residuals m c t r e
  weights x e := weights m c t x e
  scales e := scales m c t e

include hq hk hb in
/-- What the body leaves at a grid point is the reference's tile. -/
theorem point (t : Fin cfg0.N) (r : Fin 256) (e : Fin 2048) :
    (outsAt0 m c t.val t.isLt : Vec Ideal S1x256x2048 .f32) (ix3 0 r e) = plain m c (ix3 (seqOf (grid0.coords t)) (posOf (grid0.coords t) r) e) := by
  by_cases h0 : t.val % 2 = 1
  · rw [outsAt0_B m c t h0]
    exact odd_tile _ _ _ _ _ _ _ _ _ _ _ _ _ _ _ _ _ _ _ _ _ _ _ _ _ _ _ _ _ _ _ _ _ _ _ _ _ _ _ _ _ _ _
      (holds m c q k bias hq hk hb t) _ _ _ _ _ _ _ hq hk hb (rest m c t) _ r e
  · have hc : ¬cond0_0 (grid0.coords t) := fun h => h0 ((hcond0_0 t).mp h)
    rw [outsAt0_A m c t h0]
    exact even_tile _ _ _ _ _ _ _ _ _ _ _ _ _ _ _ _ _ _ _ _ _ _ _ _ _ _ _ _ _ _ _ _ _ _ _ _ _ _ _ _ _ _ _
      (holds m c q k bias hq hk hb t) _ _ _ _ _ _ _ hq hk hb (rest m c t) hc (by have := mt (cond_odd _).mpr hc; omega) r e

include hq hk hb in
theorem final : (dats m 0 c).arrAt 9 cfg0.N = plain m c := by
  refine (dats m 0 c).arrAt_eq_of_covers 9 (plain m c) (by decide +kernel) fun t hf y => ?_
  blk_simp
  rw [after0_9]
  have hy : y = ix3 0 (y 1) (y 2) := by
    funext a
    fin_cases a
    · exact Fin.ext (Nat.lt_one_iff.mp (y 0).isLt)
    · rfl
    · rfl
  rw [hy]
  refine (point m c q k bias hq hk hb t _ _).trans ?_
  refine congrArg (plain m c) ?_
  funext a
  fin_cases a <;> apply Fin.ext
  · show (grid0.coords t 0).val = win0_9.index t 0 * 1 + 0
    rw [(idxTile t).2.2.2]
    exact (Nat.mul_one _).symm
  · show (grid0.coords t 1).val * 256 + (y 1).val = win0_9.index t 1 * 256 + 1 * (y 1).val
    rw [(idxTile t).2.2.2, Nat.one_mul]
    rfl
  · show (y 2).val = win0_9.index t 2 * 2048 + 1 * (y 2).val
    rw [(idxTile t).2.2.2, Nat.one_mul]
    exact (Nat.zero_add _).symm

end Cert.KernelIdeal.Final

end
-- ==== Proof.Reals.lean ====
module

public import proofs.«01_k».proof.Defs
public import Idealize.ShloMosaic.Lib.Pointwise

/-! # What the precondition says

An entry whose absolute value compares below the infinite word is a real number. -/

@[expose] public section

set_option maxRecDepth 16384

noncomputable section

namespace Cert.AttnClaims

open Idealize.ShloMosaic

theorem finiteFacts : Cert.Pre_finite_scores.Facts where
  bcast_S_S2x4096x2048 := by decide
  bcast_S_S2x4096x512 := by decide
  bcast_S_S1x16 := by decide

theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by simp [Ideal.cmp, hn]
    rw [this] at h
    exact absurd h (by decide)
  have h1 := lt_of_le_of_lt (le_max_left _ _) hlt
  have h2 := lt_of_le_of_lt (le_max_right _ _) hlt
  refine (EReal.coe_toReal h1.ne fun hb => ?_).symm
  rw [hb] at h2
  exact absurd h2 (by simp)

/-- The precondition: the entries of `q`, `k` and `b_logit` are real. -/
theorem reals (m : (ℓ : Loc Cert.KernelIdeal.nD Cert.KernelIdeal.τ Cert.KernelIdeal.sig) → Buf (Elt Ideal) ℓ)
    (h : Cert.Pre_KernelIdeal_finite_scores (hPre_finite_scores := finiteFacts) m) (c : Dev Cert.KernelIdeal.nD) :
    (∀ j, ∃ x : ℝ, (m ((c.tc : Thread Cert.KernelIdeal.nD Cert.KernelIdeal.τ).loc Cert.KernelIdeal.main_arg0) : Vec Ideal Cert.KernelIdeal.S2x4096x2048 .f32) j = (x : EReal))
    ∧ (∀ j, ∃ x : ℝ, (m ((c.tc : Thread Cert.KernelIdeal.nD Cert.KernelIdeal.τ).loc Cert.KernelIdeal.main_arg3) : Vec Ideal Cert.KernelIdeal.S2x4096x512 .f32) j = (x : EReal))
    ∧ ∀ j, ∃ x : ℝ, (m ((c.tc : Thread Cert.KernelIdeal.nD Cert.KernelIdeal.τ).loc Cert.KernelIdeal.main_arg5) : Vec Ideal Cert.KernelIdeal.S1x16 .f32) j = (x : EReal) :=
  ⟨fun j => ⟨_, real_of_lt _ (congrFun (h c).1 j)⟩, fun j => ⟨_, real_of_lt _ (congrFun (h c).2.1 j)⟩, fun j => ⟨_, real_of_lt _ (congrFun (h c).2.2 j)⟩⟩

end Cert.AttnClaims

end
-- ==== Proof.Value.lean ====
module

public import proofs.«01_k».proof.Proof.Final
public import proofs.«01_k».proof.Proof.Reals
public import proofs.«01_k».proof.Proof.Frames
public import Idealize.ShloMosaic.Lib.Claim

/-! # The value claim and the claims under the precondition -/

@[expose] public section

noncomputable section

namespace Cert.AttnClaims

open Idealize.ShloMosaic Idealize.SL.Sem

theorem frame_pi_finite : Cert.quiescent_KernelIdeal_pre_finite_scores (hPre_finite_scores := finiteFacts) :=
  fun m ρ _ => frame_pi m ρ trivial

theorem frame_ri_finite : Cert.quiescent_ReferenceIdeal_pre_finite_scores (hPre_finite_scores := finiteFacts) :=
  fun m ρ _ => frame_ri m ρ trivial

/-- On real queries, keys and biases the kernel's array is the reference's. -/
theorem algebraic : Cert.algebraic_KernelIdeal_ReferenceIdeal_pre_finite_scores (hPre_finite_scores := finiteFacts) := by
  pair_intro
  · run_from Cert.KernelIdeal.Value.run_blocks m g
  · run_from Cert.ReferenceIdeal.Value.run m' g'
    obtain ⟨h0, h3, h5⟩ := reals m hpre c
    choose q hq using h0
    choose k hk using h3
    choose bias hb using h5
    obtain ⟨e0, e1, e2, e3, e4, e5, e6, e7⟩ := hagree c
    rw [Cert.KernelIdeal.Final.final m c q k bias hq hk hb, Cert.ReferenceIdeal.Read.val_main_v49_eq, e0, e1, e2, e3, e4, e5, e6, e7]
    rfl

end Cert.AttnClaims

end
-- ==== Proof.Mid.Rows.lean ====
module

public import Idealize.ShloMosaic.Lib.Pointwise

/-! # One token between the mixers

What the stage between the two mixers makes of one token: its residual row, and the products of that row's two
normalisations with a column of a weight matrix. -/

@[expose] public section

noncomputable section

namespace Cert.Mid

open Idealize.ShloMosaic

/-- A row divided by its root mean square. -/
def normed (f : Fin 2048 → EReal) (e : Fin 2048) : EReal :=
  f e * Ideal.rsqrt (Ideal.div (∑ x, f x * f x) (Ideal.ofBits FTy.f32 1157627904#32) + Ideal.ofBits FTy.f32 897988541#32)

/-- The mixer's projection of one token. -/
def mixed (y : Fin 2560 → EReal) (w : Fin 2560 → Fin 2048 → EReal) (e : Fin 2048) : EReal := ∑ x, y x * w x e

/-- The residual stream after the mixer. -/
def stream (y : Fin 2560 → EReal) (w : Fin 2560 → Fin 2048 → EReal) (x g : Fin 2048 → EReal) (e : Fin 2048) : EReal :=
  x e + normed (mixed y w) e * g e

/-- A row normalised, scaled and multiplied with one column. -/
def dotted (f g w : Fin 2048 → EReal) : EReal := ∑ x, normed f x * g x * w x

/-- The factor the queries carry. -/
def scale : EReal := Ideal.ofBits FTy.f32 1040356334#32

/-- The sequence of token `n`. -/
def seqOf (n : Fin 8192) : Fin 2 := ⟨n.val / 4096, by omega⟩
/-- The position of token `n` in its sequence. -/
def posOf (n : Fin 8192) : Fin 4096 := ⟨n.val % 4096, by omega⟩

end Cert.Mid

end
-- ==== Proof.Mid.Tile.lean ====
module

public import proofs.«01_k».proof.Proof.Gen.Kernel2Ideal.Skeleton
public import proofs.«01_k».proof.Proof.Mid.Rows

/-! # The values one grid point stores

Every value the body computes, entry by entry, in terms of one token's row. -/

@[expose] public section

set_option maxRecDepth 16384

noncomputable section

namespace Cert.Kernel2Ideal.Tile

open Cert.Kernel2Ideal Cert.Kernel2Ideal.Gen Idealize.ShloMosaic Idealize.ShloMosaic.TcCoe Cert.Mid

variable (y : Vec Ideal S256x2560 .bf16) (w : Vec Ideal S2560x2048 .bf16) (x : Vec Ideal S256x2048 .f32) (g : Vec Ideal S1x2048 .f32)

/-- The residual row of token `r` of the tile. -/
def row (r : Fin 256) : Fin 2048 → EReal :=
  stream (fun a => y (ix2 r a)) (fun a b => w (ix2 a b)) (fun a => x (ix2 r a)) fun a => g (ix2 0 a)

theorem pay3_apply (r : Fin 256) (e : Fin 2048) : k0_pay3 y w x g (ix2 r e) = row y w x g r e := by
  unfold k0_pay3 row stream normed mixed
  pointwise

theorem pay4_apply (r : Fin 256) (e : Fin 2048) : k0_pay4 y w x g (ix2 r e) = normed (row y w x g r) e := by
  simp only [normed, ← pay3_apply]
  unfold k0_pay4
  generalize k0_pay3 y w x g = P
  pointwise

theorem pay5_apply (u : Vec Ideal S1x2048 .f32) (r : Fin 256) (e : Fin 2048) :
    k0_pay5 y w x g u (ix2 r e) = normed (row y w x g r) e * u (ix2 0 e) := by
  rw [← pay4_apply]
  unfold k0_pay5
  generalize k0_pay4 y w x g = P
  pointwise

theorem pay6_apply (v : FVec Ideal S256x2048 .bf16) : k0_pay6 v = v := by
  unfold k0_pay6
  exact shapeCast_self _ _

theorem pay7_apply (P : FVec Ideal S256x2048 .f32) (n : Vec Ideal S1x2048 .f32) (kv : Vec Ideal S2048x1024 .bf16) (r : Fin 256) (e : Fin 1024) :
    k0_pay7 P n kv (ix2 r e) = ∑ a, P (ix2 r a) * n (ix2 0 a) * kv (ix2 a e) := by
  unfold k0_pay7
  pointwise

theorem query_apply (u : Vec Ideal S256x2048 .bf16) (win : Vec Ideal S2048x512 .bf16) (r : Fin 256) (e : Fin 512) :
    k0_pay1 u win (ix2 r e) = (∑ a, u (ix2 r a) * win (ix2 a e)) * scale := by
  unfold k0_pay1 scale
  pointwise

theorem gate_apply (u : Vec Ideal S256x2048 .bf16) (win : Vec Ideal S2048x512 .bf16) (r : Fin 256) (e : Fin 512) :
    k0_pay2 u win (ix2 r e) = ∑ a, u (ix2 r a) * win (ix2 a e) := by
  unfold k0_pay2
  pointwise

/-- The product with the key and value weights. -/
def kvAt (n : Vec Ideal S1x2048 .f32) (kv : Vec Ideal S2048x1024 .bf16) (r : Fin 256) (e : Fin 1024) : EReal :=
  dotted (row y w x g r) (fun a => n (ix2 0 a)) fun a => kv (ix2 a e)

/-- The product with the query and gate weights. -/
def projAt (u : Vec Ideal S1x2048 .f32) (win : Vec Ideal S2048x4096 .bf16) (r : Fin 256) (e : Fin 4096) : EReal :=
  dotted (row y w x g r) (fun a => u (ix2 0 a)) fun a => win (ix2 a e)

theorem kvAt_eq (n : Vec Ideal S1x2048 .f32) (kv : Vec Ideal S2048x1024 .bf16) (r : Fin 256) (e : Fin 1024) :
    k0_pay7 (k0_pay4 y w x g) n kv (ix2 r e) = kvAt y w x g n kv r e := by
  rw [pay7_apply, kvAt, dotted]
  exact Finset.sum_congr rfl fun a _ => by rw [pay4_apply]

theorem projAt_eq (u : Vec Ideal S1x2048 .f32) (win : Vec Ideal S2048x512 .bf16) (all : Vec Ideal S2048x4096 .bf16) (c : ℕ) (hc : c + 512 ≤ 4096)
    (h : ∀ a e, win (ix2 a e) = all (ix2 a ⟨c + e.val, by omega⟩)) (r : Fin 256) (e : Fin 512) :
    ∑ a, k0_pay6 (k0_pay5 y w x g u) (ix2 r a) * win (ix2 a e) = projAt y w x g u all r ⟨c + e.val, by omega⟩ := by
  rw [projAt, dotted, pay6_apply]
  exact Finset.sum_congr rfl fun a _ => by rw [pay5_apply, h]

theorem head_0 (K : FVec Ideal S256x1024 .f32) (r : Fin 256) (e : Fin 128) :
    shapeCast S256x1x128 (extractStridedSlice S256x128 ![0, 0] K slices_S256x1024_o0_0_S256x128) shapeCasts_S256x128_S256x1x128 (ix3 r 0 e)
      = K (ix2 r ⟨0 + e.val, by omega⟩) := by
  pointwise

theorem head_1 (K : FVec Ideal S256x1024 .f32) (r : Fin 256) (e : Fin 128) :
    shapeCast S256x1x128 (extractStridedSlice S256x128 ![0, 128] K slices_S256x1024_o0_128_S256x128) shapeCasts_S256x128_S256x1x128 (ix3 r 0 e)
      = K (ix2 r ⟨128 + e.val, by omega⟩) := by
  pointwise

theorem head_2 (K : FVec Ideal S256x1024 .f32) (r : Fin 256) (e : Fin 128) :
    shapeCast S256x1x128 (extractStridedSlice S256x128 ![0, 256] K slices_S256x1024_o0_256_S256x128) shapeCasts_S256x128_S256x1x128 (ix3 r 0 e)
      = K (ix2 r ⟨256 + e.val, by omega⟩) := by
  pointwise

theorem head_3 (K : FVec Ideal S256x1024 .f32) (r : Fin 256) (e : Fin 128) :
    shapeCast S256x1x128 (extractStridedSlice S256x128 ![0, 384] K slices_S256x1024_o0_384_S256x128) shapeCasts_S256x128_S256x1x128 (ix3 r 0 e)
      = K (ix2 r ⟨384 + e.val, by omega⟩) := by
  pointwise

theorem head_4 (K : FVec Ideal S256x1024 .f32) (r : Fin 256) (e : Fin 128) :
    shapeCast S256x1x128 (extractStridedSlice S256x128 ![0, 512] K slices_S256x1024_o0_512_S256x128) shapeCasts_S256x128_S256x1x128 (ix3 r 0 e)
      = K (ix2 r ⟨512 + e.val, by omega⟩) := by
  pointwise

theorem head_5 (K : FVec Ideal S256x1024 .f32) (r : Fin 256) (e : Fin 128) :
    shapeCast S256x1x128 (extractStridedSlice S256x128 ![0, 640] K slices_S256x1024_o0_640_S256x128) shapeCasts_S256x128_S256x1x128 (ix3 r 0 e)
      = K (ix2 r ⟨640 + e.val, by omega⟩) := by
  pointwise

theorem head_6 (K : FVec Ideal S256x1024 .f32) (r : Fin 256) (e : Fin 128) :
    shapeCast S256x1x128 (extractStridedSlice S256x128 ![0, 768] K slices_S256x1024_o0_768_S256x128) shapeCasts_S256x128_S256x1x128 (ix3 r 0 e)
      = K (ix2 r ⟨768 + e.val, by omega⟩) := by
  pointwise

theorem head_7 (K : FVec Ideal S256x1024 .f32) (r : Fin 256) (e : Fin 128) :
    shapeCast S256x1x128 (extractStridedSlice S256x128 ![0, 896] K slices_S256x1024_o0_896_S256x128) shapeCasts_S256x128_S256x1x128 (ix3 r 0 e)
      = K (ix2 r ⟨896 + e.val, by omega⟩) := by
  pointwise

theorem half_0 (K : FVec Ideal S256x1024 .f32) (r : Fin 256) (e : Fin 512) : k0_pay17 K (ix2 r e) = K (ix2 r ⟨0 + e.val, by omega⟩) := by
  unfold k0_pay17
  pointwise

theorem half_1 (K : FVec Ideal S256x1024 .f32) (r : Fin 256) (e : Fin 512) : k0_pay18 K (ix2 r e) = K (ix2 r ⟨512 + e.val, by omega⟩) := by
  unfold k0_pay18
  pointwise

end Cert.Kernel2Ideal.Tile

end
-- ==== Proof.Mid.Run.lean ====
module

public import proofs.«01_k».proof.Proof.Gen.Kernel2Ideal.Frame.RunA
public import proofs.«01_k».proof.Proof.Mid.Tile

/-! # What one grid point leaves in each output

The body stores every output tile in pieces; each piece is the part of one table that its rectangle names. -/

@[expose] public section

set_option maxRecDepth 65536

noncomputable section

namespace Cert.Kernel2Ideal.Tile

open Cert.Kernel2Ideal Cert.Kernel2Ideal.Gen Idealize.ShloMosaic Idealize.ShloMosaic.TcCoe Cert.Mid

theorem zero2 : (![0, 0] : Fin 2 → ℕ) = fun _ => 0 := by
  funext d
  fin_cases d <;> rfl

/-- A whole argument, read whole. -/
theorem read_all {S : Shape} {e : EltTy} (a : Memref sig .tc .vmem S e) (h : a.IsWhole) (x : Vec Ideal S e) {off : Fin S.rank → ℕ}
    (hz : off = fun _ => 0) (inb : ∀ d, off d + S.size d ≤ S.size d) :
    View.readAt (Elt Ideal) a.view (Rect.unit off S.size inb).toLoadRect (h.unread x) = x := by
  rw [View.readAt_eq_ld, h.read_unread, View.ld_unit_zero hz]

/-- 512 columns of the weights. -/
theorem read_cols (a : Memref sig .tc .vmem S2048x4096 .bf16) (h : a.IsWhole) (x : Vec Ideal S2048x4096 .bf16) (n : ℕ) (hn : n + 512 ≤ 4096)
    (inb : ∀ d, (![0, n] : Fin 2 → ℕ) d + S2048x512.size d ≤ S2048x4096.size d) (r : Fin 2048) (e : Fin 512) :
    View.readAt (Elt Ideal) a.view (Rect.unit (s := S2048x4096) ![0, n] S2048x512.size inb).toLoadRect (h.unread x) (ix2 r e)
      = x (ix2 r ⟨n + e.val, by omega⟩) := by
  rw [View.readAt_eq_ld, h.read_unread]
  refine congrArg x ?_
  funext d
  fin_cases d <;> exact Fin.ext (by simp [LoadRect.idx, Rect.unit])

/-- Four stores of 512 columns, holding parts of one table, hold the table. -/
theorem cols4 {e : EltTy} (v0 v1 v2 v3 : Vec Ideal S256x512 e) (G : Fin 256 → Fin 2048 → Elt Ideal e)
    (h0 : ∀ r a, v0 (ix2 r a) = G r ⟨0 + a.val, by omega⟩) (h1 : ∀ r a, v1 (ix2 r a) = G r ⟨512 + a.val, by omega⟩)
    (h2 : ∀ r a, v2 (ix2 r a) = G r ⟨1024 + a.val, by omega⟩) (h3 : ∀ r a, v3 (ix2 r a) = G r ⟨1536 + a.val, by omega⟩)
    (r : Fin 256) (a : Fin 2048) :
    View.canon (Val := Elt Ideal) [⟨Rect.unit (s := S256x2048) ![0, 1536] S256x512.size inb_S256x2048_S256x512_0_1536, v3⟩,
      ⟨Rect.unit (s := S256x2048) ![0, 1024] S256x512.size inb_S256x2048_S256x512_0_1024, v2⟩,
      ⟨Rect.unit (s := S256x2048) ![0, 512] S256x512.size inb_S256x2048_S256x512_0_512, v1⟩,
      ⟨Rect.unit (s := S256x2048) ![0, 0] S256x512.size inb_S256x2048_S256x512_0_0, v0⟩] (ix2 r a) = G r a := by
  refine View.canon_apply_of_pieces (fun j : S256x2048.Idx => G (j 0) (j 1)) _ ?_ (ix2 r a) ?_
  · simp only [List.forall_mem_cons]
    refine ⟨fun x => ?_, fun x => ?_, fun x => ?_, fun x => ?_, fun x hx => absurd hx List.not_mem_nil⟩ <;> idx_vars x
    · exact (h3 _ _).trans (congrArg₂ G (Fin.ext (by simp [Rect.emb, Rect.unit])) (Fin.ext (by simp [Rect.emb, Rect.unit])))
    · exact (h2 _ _).trans (congrArg₂ G (Fin.ext (by simp [Rect.emb, Rect.unit])) (Fin.ext (by simp [Rect.emb, Rect.unit])))
    · exact (h1 _ _).trans (congrArg₂ G (Fin.ext (by simp [Rect.emb, Rect.unit])) (Fin.ext (by simp [Rect.emb, Rect.unit])))
    · exact (h0 _ _).trans (congrArg₂ G (Fin.ext (by simp [Rect.emb, Rect.unit])) (Fin.ext (by simp [Rect.emb, Rect.unit])))
  · simp only [List.exists_mem_cons_iff, Rect.mem_set_unit, Fin.forall_fin_two]
    simp
    omega

/-- Four stores of one head each, holding parts of one table, hold the table. -/
theorem heads4 (v0 v1 v2 v3 : Vec Ideal S256x1x128 .f32) (G : Fin 256 → Fin 4 → Fin 128 → EReal)
    (h0 : ∀ r a, v0 (ix3 r 0 a) = G r 0 a) (h1 : ∀ r a, v1 (ix3 r 0 a) = G r 1 a)
    (h2 : ∀ r a, v2 (ix3 r 0 a) = G r 2 a) (h3 : ∀ r a, v3 (ix3 r 0 a) = G r 3 a)
    (r : Fin 256) (h : Fin 4) (a : Fin 128) :
    View.canon (Val := Elt Ideal) (e := .f32) [⟨Rect.unit (s := S256x4x128) ![0, 3, 0] S256x1x128.size inb_S256x4x128_S256x1x128_0_3_0, v3⟩,
      ⟨Rect.unit (s := S256x4x128) ![0, 2, 0] S256x1x128.size inb_S256x4x128_S256x1x128_0_2_0, v2⟩,
      ⟨Rect.unit (s := S256x4x128) ![0, 1, 0] S256x1x128.size inb_S256x4x128_S256x1x128_0_1_0, v1⟩,
      ⟨Rect.unit (s := S256x4x128) ![0, 0, 0] S256x1x128.size inb_S256x4x128_S256x1x128_0_0_0, v0⟩] (ix3 r h a) = G r h a := by
  refine View.canon_apply_of_pieces (Val := Elt Ideal) (e := .f32) (fun j : S256x4x128.Idx => G (j 0) (j 1) (j 2)) _ ?_ (ix3 r h a) ?_
  · simp only [List.forall_mem_cons]
    have at_ (v : Vec Ideal S256x1x128 .f32) (n : Fin 4) (inb : ∀ d, (![0, n.val, 0] : Fin 3 → ℕ) d + S256x1x128.size d ≤ S256x4x128.size d)
        (hv : ∀ r a, v (ix3 r 0 a) = G r n a) (x : S256x1x128.Idx) :
        v x = G ((Rect.unit (s := S256x4x128) ![0, n.val, 0] S256x1x128.size inb).emb x 0)
          ((Rect.unit (s := S256x4x128) ![0, n.val, 0] S256x1x128.size inb).emb x 1)
          ((Rect.unit (s := S256x4x128) ![0, n.val, 0] S256x1x128.size inb).emb x 2) := by
      have hx : x = ix3 (x 0) 0 (x 2) := by
        funext d
        fin_cases d
        · rfl
        · exact Fin.ext (Nat.lt_one_iff.mp (x 1).isLt)
        · rfl
      refine (congrArg v hx).trans ((hv _ _).trans ?_)
      have h1 : (x 1).val = 0 := Nat.lt_one_iff.mp (x 1).isLt
      exact congr (congrArg₂ G (Fin.ext (by simp [Rect.emb, Rect.unit])) (Fin.ext (by simp [Rect.emb, Rect.unit]; exact h1)))
        (Fin.ext (by simp [Rect.emb, Rect.unit]))
    exact ⟨at_ v3 3 _ h3, at_ v2 2 _ h2, at_ v1 1 _ h1, at_ v0 0 _ h0, fun x hx => absurd hx List.not_mem_nil⟩
  · simp only [List.exists_mem_cons_iff, Rect.mem_set_unit, Fin.forall_fin_succ]
    simp
    omega

variable (c : Dev nD) (i : grid0.Coords) (arg1 : Memref sig .tc .vmem S256x2560 .bf16) (harg1 : arg1.IsWhole) (arg2 : Memref sig .tc .vmem S256x2048 .f32) (harg2 : arg2.IsWhole) (arg3 : Memref sig .tc .vmem S2560x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1x2048 .f32) (harg7 : arg7.IsWhole) (arg8 : Memref sig .tc .vmem S2048x4096 .bf16) (harg8 : arg8.IsWhole) (arg9 : Memref sig .tc .vmem S256x2048 .f32) (harg9 : arg9.IsWhole) (arg10 : Memref sig .tc .vmem S256x4x128 .f32) (harg10 : arg10.IsWhole) (arg11 : Memref sig .tc .vmem S256x4x128 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x2048 .bf16) (harg14 : arg14.IsWhole) (arg15 : Memref sig .tc .vmem S256x2048 .f32) (harg15 : arg15.IsWhole) (arg16 : Memref sig .tc .vmem S256x2048 .bf16) (harg16 : arg16.IsWhole)
    (x0 : Vec Ideal S256x2560 .bf16) (x1 : Vec Ideal S256x2048 .f32) (x2 : Vec Ideal S2560x2048 .bf16) (x3 : Vec Ideal S1x2048 .f32) (x4 : Vec Ideal S1x2048 .f32) (x5 : Vec Ideal S2048x1024 .bf16) (x6 : Vec Ideal S1x2048 .f32) (x7 : Vec Ideal S2048x4096 .bf16)

/-- What the chunked products read back from the scratch. -/
theorem scratch_a : kernelRun0_A.sl.v87 (F := Ideal) c arg1 harg1 arg2 harg2 arg3 harg3 arg4 harg4 arg7 harg7 arg16 x0 x1 x2 x3 x6
    = k0_pay6 (k0_pay5 x0 x2 x1 x3 x6) := by
  unfold kernelRun0_A.sl.v87 kernelRun0_A.sl.HS0_1
  refine (View.readCov_unit_zero _ zero2 _ _).trans ?_
  unfold kernelRun0_A.sl.r_1
  rw [read_all arg1 harg1 x0 zero2, read_all arg2 harg2 x1 zero2, read_all arg3 harg3 x2 zero2,
    read_all arg4 harg4 x3 zero2, read_all arg7 harg7 x6 zero2]

theorem scratch_b : kernelRun0_A.sl.v126 (F := Ideal) c arg1 harg1 arg2 harg2 arg3 harg3 arg4 harg4 arg7 harg7 arg16 x0 x1 x2 x3 x6
    = k0_pay6 (k0_pay5 x0 x2 x1 x3 x6) := scratch_a c arg1 harg1 arg2 harg2 arg3 harg3 arg4 harg4 arg7 harg7 arg16 x0 x1 x2 x3 x6

/-- The normalised rows, kept between the products. -/
theorem rows_eq : kernelRun0_A.sl.r (F := Ideal) c arg1 harg1 arg2 harg2 arg3 harg3 arg4 harg4 x0 x1 x2 x3 = k0_pay4 x0 x2 x1 x3 := by
  unfold kernelRun0_A.sl.r
  rw [read_all arg1 harg1 x0 zero2, read_all arg2 harg2 x1 zero2, read_all arg3 harg3 x2 zero2,
    read_all arg4 harg4 x3 zero2]

/-- The keys and values side by side. -/
theorem kv_eq : kernelRun0_A.sl.r_2 (F := Ideal) c arg1 harg1 arg2 harg2 arg3 harg3 arg4 harg4 arg5 harg5 arg6 harg6 x0 x1 x2 x3 x4 x5
    = k0_pay7 (k0_pay4 x0 x2 x1 x3) x4 x5 := by
  unfold kernelRun0_A.sl.r_2
  rw [rows_eq, read_all arg5 harg5 x4 zero2, read_all arg6 harg6 x5 zero2]

theorem pieces8 (r : Fin 256) (e : Fin 2048) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 (ix2 r e) = row x0 x2 x1 x3 r e := by
  unfold kernelRun0_A
  dsimp only
  rw [View.canon_unit_zero zero2, read_all arg1 harg1 x0 zero2, read_all arg2 harg2 x1 zero2, read_all arg3 harg3 x2 zero2,
    read_all arg4 harg4 x3 zero2, pay3_apply]

theorem pieces9 (r : Fin 256) (h : Fin 4) (e : Fin 128) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 (ix3 r h e) = kvAt x0 x2 x1 x3 x4 x5 r ⟨128 * h.val + e.val, by omega⟩ := by
  unfold kernelRun0_A
  dsimp only
  rw [rows_eq, kv_eq, read_all arg5 harg5 x4 zero2, read_all arg6 harg6 x5 zero2]
  refine heads4 _ _ _ _ (fun r h e => kvAt x0 x2 x1 x3 x4 x5 r ⟨128 * h.val + e.val, by omega⟩) ?_ ?_ ?_ ?_ r h e <;> intro r e
  · exact (head_0 _ r e).trans (kvAt_eq _ _ _ _ _ _ _ _)
  · exact (head_1 _ r e).trans (kvAt_eq _ _ _ _ _ _ _ _)
  · exact (head_2 _ r e).trans (kvAt_eq _ _ _ _ _ _ _ _)
  · exact (head_3 _ r e).trans (kvAt_eq _ _ _ _ _ _ _ _)

theorem pieces10 (r : Fin 256) (h : Fin 4) (e : Fin 128) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 (ix3 r h e) = kvAt x0 x2 x1 x3 x4 x5 r ⟨512 + (128 * h.val + e.val), by omega⟩ := by
  unfold kernelRun0_A
  dsimp only
  unfold kernelRun0_A.sl.r_3
  rw [rows_eq, kv_eq, read_all arg5 harg5 x4 zero2, read_all arg6 harg6 x5 zero2]
  refine heads4 _ _ _ _ (fun r h e => kvAt x0 x2 x1 x3 x4 x5 r ⟨512 + (128 * h.val + e.val), by omega⟩) ?_ ?_ ?_ ?_ r h e <;> intro r e
  · exact (head_4 _ r e).trans ((kvAt_eq _ _ _ _ _ _ _ _).trans (congrArg _ (Fin.ext (by simp))))
  · exact (head_5 _ r e).trans ((kvAt_eq _ _ _ _ _ _ _ _).trans (congrArg _ (Fin.ext (by simp; omega))))
  · exact (head_6 _ r e).trans ((kvAt_eq _ _ _ _ _ _ _ _).trans (congrArg _ (Fin.ext (by simp; omega))))
  · exact (head_7 _ r e).trans ((kvAt_eq _ _ _ _ _ _ _ _).trans (congrArg _ (Fin.ext (by simp; omega))))

theorem pieces11 (r : Fin 256) (e : Fin 512) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2.1 (ix2 r e) = kvAt x0 x2 x1 x3 x4 x5 r ⟨0 + e.val, by omega⟩ := by
  unfold kernelRun0_A
  dsimp only
  rw [View.canon_unit_zero zero2, kv_eq, half_0, kvAt_eq]

theorem pieces12 (r : Fin 256) (e : Fin 512) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2.2.1 (ix2 r e) = kvAt x0 x2 x1 x3 x4 x5 r ⟨512 + e.val, by omega⟩ := by
  unfold kernelRun0_A
  dsimp only
  rw [View.canon_unit_zero zero2, kv_eq, half_1, kvAt_eq]

theorem pieces13 (r : Fin 256) (e : Fin 2048) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2.2.2.1 (ix2 r e) = projAt x0 x2 x1 x3 x6 x7 r ⟨0 + e.val, by omega⟩ * scale := by
  unfold kernelRun0_A
  dsimp only
  rw [scratch_a, scratch_b]
  refine cols4 (e := .bf16) _ _ _ _ (fun r e => projAt x0 x2 x1 x3 x6 x7 r ⟨0 + e.val, by omega⟩ * scale) ?_ ?_ ?_ ?_ r e <;> intro r e <;>
    refine (query_apply _ _ r e).trans (congrArg (· * scale) ?_)
  · exact (projAt_eq _ _ _ _ _ _ x7 0 (by omega) (read_cols arg8 harg8 x7 0 (by omega) _) r e).trans (congrArg _ (Fin.ext (by simp)))
  · exact (projAt_eq _ _ _ _ _ _ x7 512 (by omega) (read_cols arg8 harg8 x7 512 (by omega) _) r e).trans (congrArg _ (Fin.ext (by simp)))
  · exact (projAt_eq _ _ _ _ _ _ x7 1024 (by omega) (read_cols arg8 harg8 x7 1024 (by omega) _) r e).trans (congrArg _ (Fin.ext (by simp)))
  · exact (projAt_eq _ _ _ _ _ _ x7 1536 (by omega) (read_cols arg8 harg8 x7 1536 (by omega) _) r e).trans (congrArg _ (Fin.ext (by simp)))

theorem pieces14 (r : Fin 256) (e : Fin 2048) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2.2.2.2.1 (ix2 r e) = projAt x0 x2 x1 x3 x6 x7 r ⟨2048 + e.val, by omega⟩ := by
  unfold kernelRun0_A
  dsimp only
  unfold kernelRun0_A.sl.r_4 kernelRun0_A.sl.r_5
  rw [scratch_a, scratch_b]
  refine cols4 (e := .f32) _ _ _ _ (fun r e => projAt x0 x2 x1 x3 x6 x7 r ⟨2048 + e.val, by omega⟩) ?_ ?_ ?_ ?_ r e <;> intro r e <;>
    refine (gate_apply _ _ r e).trans ?_
  · exact (projAt_eq _ _ _ _ _ _ x7 2048 (by omega) (read_cols arg8 harg8 x7 2048 (by omega) _) r e).trans (congrArg _ (Fin.ext (by simp)))
  · exact (projAt_eq _ _ _ _ _ _ x7 2560 (by omega) (read_cols arg8 harg8 x7 2560 (by omega) _) r e).trans (congrArg _ (Fin.ext (by simp; omega)))
  · exact (projAt_eq _ _ _ _ _ _ x7 3072 (by omega) (read_cols arg8 harg8 x7 3072 (by omega) _) r e).trans (congrArg _ (Fin.ext (by simp; omega)))
  · exact (projAt_eq _ _ _ _ _ _ x7 3584 (by omega) (read_cols arg8 harg8 x7 3584 (by omega) _) r e).trans (congrArg _ (Fin.ext (by simp; omega)))

end Cert.Kernel2Ideal.Tile

end
-- ==== Proof.Mid.Blocks.lean ====
module

public import proofs.«01_k».proof.Proof.Gen.Kernel2Ideal.Frame
public import proofs.«01_k».proof.Proof.Mid.Tile
public import Idealize.ShloMosaic.Lib.Pipeline.ValueKit

/-! # What each grid point reads

The 8192 tokens are the two sequences of 4096 one after the other; a grid point takes 256 of them and the weights whole. -/

@[expose] public section

set_option maxRecDepth 16384

noncomputable section

namespace Cert.Kernel2Ideal.Blocks

open Cert.Kernel2Ideal Cert.Kernel2Ideal.Gen Idealize.ShloMosaic Idealize.ShloMosaic.TcCoe Cert.Mid

variable (m : (ℓ : Loc nD τ sig) → Buf (Elt Ideal) ℓ) (c : Dev nD) (t : Fin cfg0.N)

theorem idxTile : ∀ t : Fin cfg0.N, win0_0.index t = ![(grid0.coords t 0).val, 0] ∧ win0_1.index t = ![(grid0.coords t 0).val, 0]
    ∧ win0_8.index t = ![(grid0.coords t 0).val, 0] ∧ win0_9.index t = ![(grid0.coords t 0).val, 0, 0]
    ∧ win0_10.index t = ![(grid0.coords t 0).val, 0, 0] ∧ win0_11.index t = ![(grid0.coords t 0).val, 0]
    ∧ win0_12.index t = ![(grid0.coords t 0).val, 0] ∧ win0_13.index t = ![(grid0.coords t 0).val, 0]
    ∧ win0_14.index t = ![(grid0.coords t 0).val, 0] :=
  (by decide +kernel : ∀ t : Fin grid0.N, _)

theorem idxWhole : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- The token in row `r` of a grid point's tile. -/
def tokOf (i : grid0.Coords) (r : Fin 256) : Fin 8192 :=
  ⟨(i 0).val * 256 + r.val, by have : (i 0).val < 32 := (i 0).isLt; omega⟩

theorem entry_y (n : Fin 8192) (e : Fin 2560) : (V m c main_v14 : Vec Ideal S8192x2560 .bf16) (ix2 n e)
    = m ((c : Thread nD τ).loc main_arg0) (ix3 (seqOf n) (posOf n) e) := by
  unfold V
  after_results_simp
  pointwise
  rfl

theorem entry_x (n : Fin 8192) (e : Fin 2048) : (V m c main_v15 : Vec Ideal S8192x2048 .f32) (ix2 n e)
    = m ((c : Thread nD τ).loc main_arg1) (ix3 (seqOf n) (posOf n) e) := by
  unfold V
  after_results_simp
  pointwise
  rfl

theorem entry_out (a : Fin 2560) (e : Fin 2048) : (V m c main_v1 : Vec Ideal S2560x2048 .bf16) (ix2 a e)
    = m ((c : Thread nD τ).loc main_arg2) (ix3 0 a e) := by
  unfold V
  after_results_simp
  pointwise

theorem entry_post (e : Fin 2048) : (V m c main_v8 : Vec Ideal S1x2048 .f32) (ix2 0 e) = m ((c : Thread nD τ).loc main_arg3) (ix2 0 e) := by
  unfold V
  after_results_simp
  pointwise

theorem entry_kvn (e : Fin 2048) : (V m c main_v9 : Vec Ideal S1x2048 .f32) (ix2 0 e) = m ((c : Thread nD τ).loc main_arg4) (ix1 e) := by
  unfold V
  after_results_simp
  pointwise

theorem entry_pre (e : Fin 2048) : (V m c main_v12 : Vec Ideal S1x2048 .f32) (ix2 0 e) = m ((c : Thread nD τ).loc main_arg7) (ix2 1 e) := by
  unfold V
  after_results_simp
  pointwise

theorem entry_in (a : Fin 2048) (e : Fin 4096) : (V m c main_v5 : Vec Ideal S2048x4096 .bf16) (ix2 a e)
    = m ((c : Thread nD τ).loc main_arg8) (ix3 0 a e) := by
  unfold V
  after_results_simp
  pointwise

theorem entry_k (a : Fin 2048) (e : Fin 512) : (V m c main_v3 : Vec Ideal S2048x1024 .bf16) (ix2 a ⟨0 + e.val, by omega⟩)
    = m ((c : Thread nD τ).loc main_arg5) (ix2 a e) := by
  unfold V
  after_results_simp
  pointwise
  after_results_simp

theorem entry_v (a : Fin 2048) (e : Fin 512) : (V m c main_v3 : Vec Ideal S2048x1024 .bf16) (ix2 a ⟨512 + e.val, by omega⟩)
    = m ((c : Thread nD τ).loc main_arg6) (ix2 a e) := by
  unfold V
  after_results_simp
  pointwise
  after_results_simp

theorem tokens (r : Fin 256) (e : Fin 2560) : (iblk m c 0 t : Vec Ideal S256x2560 .bf16) (ix2 r e)
    = m ((c : Thread nD τ).loc main_arg0) (ix3 (seqOf (tokOf (grid0.coords t) r)) (posOf (tokOf (grid0.coords t) r)) e) := by
  rw [← entry_y m c]
  blk_ext! [iblk, idxTile t]
  rfl

theorem streams (r : Fin 256) (e : Fin 2048) : (iblk m c 1 t : Vec Ideal S256x2048 .f32) (ix2 r e)
    = m ((c : Thread nD τ).loc main_arg1) (ix3 (seqOf (tokOf (grid0.coords t) r)) (posOf (tokOf (grid0.coords t) r)) e) := by
  rw [← entry_x m c]
  blk_ext! [iblk, idxTile t]
  rfl

theorem outs (a : Fin 2560) (e : Fin 2048) : (iblk m c 2 t : Vec Ideal S2560x2048 .bf16) (ix2 a e)
    = m ((c : Thread nD τ).loc main_arg2) (ix3 0 a e) := by
  rw [← entry_out m c a e]
  blk_ext! [iblk, idxWhole t]

theorem posts (e : Fin 2048) : (iblk m c 3 t : Vec Ideal S1x2048 .f32) (ix2 0 e) = m ((c : Thread nD τ).loc main_arg3) (ix2 0 e) := by
  rw [← entry_post m c e]
  blk_ext! [iblk, idxWhole t]

theorem kvns (e : Fin 2048) : (iblk m c 4 t : Vec Ideal S1x2048 .f32) (ix2 0 e) = m ((c : Thread nD τ).loc main_arg4) (ix1 e) := by
  rw [← entry_kvn m c e]
  blk_ext! [iblk, idxWhole t]

theorem pres (e : Fin 2048) : (iblk m c 6 t : Vec Ideal S1x2048 .f32) (ix2 0 e) = m ((c : Thread nD τ).loc main_arg7) (ix2 1 e) := by
  rw [← entry_pre m c e]
  blk_ext! [iblk, idxWhole t]

theorem ins (a : Fin 2048) (e : Fin 4096) : (iblk m c 7 t : Vec Ideal S2048x4096 .bf16) (ix2 a e)
    = m ((c : Thread nD τ).loc main_arg8) (ix3 0 a e) := by
  rw [← entry_in m c a e]
  blk_ext! [iblk, idxWhole t]

theorem kvs (a : Fin 2048) (e : Fin 1024) : (iblk m c 5 t : Vec Ideal S2048x1024 .bf16) (ix2 a e)
    = (V m c main_v3 : Vec Ideal S2048x1024 .bf16) (ix2 a e) := by
  blk_ext! [iblk, idxWhole t]

end Cert.Kernel2Ideal.Blocks

end
-- ==== Proof.Mid.Ref.lean ====
module

public import proofs.«01_k».proof.Proof.Gen.Reference2Ideal.Read
public import proofs.«01_k».proof.Proof.Mid.Rows

/-! # The stage between the mixers as the reference computes it

Every result of the reference, entry by entry, in terms of one token's residual row. -/

@[expose] public section

set_option maxRecDepth 16384

noncomputable section

namespace Cert.Reference2Ideal.Plain

open Cert.Reference2Ideal Cert.Reference2Ideal.Read Idealize.ShloMosaic Idealize.ShloMosaic.TcCoe Cert.Mid

variable (x0 : Vec Ideal S2x4096x2560 .f32) (x1 : Vec Ideal S2x4096x2048 .f32) (x2 : Vec Ideal S1x2560x2048 .f32) (x3 x7 : Vec Ideal S2x2048 .f32)
  (x4 : Vec Ideal S2048 .f32) (x5 x6 : Vec Ideal S2048x512 .f32) (x8 : Vec Ideal S1x2048x4096 .f32)

/-- The residual row of the token at position `t` of sequence `b`. -/
def row (b : Fin 2) (t : Fin 4096) : Fin 2048 → EReal :=
  stream (fun a => x0 (ix3 b t a)) (fun a e => x2 (ix3 0 a e)) (fun e => x1 (ix3 b t e)) fun e => x3 (ix2 0 e)

theorem out_apply (b : Fin 2) (t : Fin 4096) (e : Fin 2048) :
    val_main_v1 (F := Ideal) x0 x2 (ix3 b t e) = mixed (fun a => x0 (ix3 b t a)) (fun a e => x2 (ix3 0 a e)) e := by
  unfold val_main_v1 val_main_v0 mixed
  pointwise

theorem stream_apply (b : Fin 2) (t : Fin 4096) (e : Fin 2048) :
    val_main_v17 (F := Ideal) x0 x1 x2 x3 (ix3 b t e) = row x0 x1 x2 x3 b t e := by
  unfold row stream normed
  simp only [← out_apply x0 x2 b t]
  unfold val_main_v17 val_main_v16 val_main_v15 val_main_v14 val_main_v13 val_main_v12 val_main_v11 val_main_v10 val_main_v9 val_main_v8
    val_main_v7 val_main_v6 val_main_v5 val_main_v4 val_main_v3 val_main_v2 val_main_cst val_main_cst_0 val_main_cst_1
  generalize val_main_v1 (F := Ideal) x0 x2 = P
  pointwise

theorem kvnorm_apply (b : Fin 2) (t : Fin 4096) (e : Fin 2048) :
    val_main_v30 (F := Ideal) x0 x1 x2 x3 x4 (ix3 b t e) = normed (row x0 x1 x2 x3 b t) e * x4 (ix1 e) := by
  unfold normed
  simp only [← stream_apply]
  unfold val_main_v30 val_main_v29 val_main_v28 val_main_v27 val_main_v26 val_main_v25 val_main_v24 val_main_v23 val_main_v22 val_main_v21
    val_main_v20 val_main_v19 val_main_v18 val_main_cst_2 val_main_cst_3 val_main_cst_4
  generalize val_main_v17 (F := Ideal) x0 x1 x2 x3 = P
  pointwise

theorem key_apply (b : Fin 2) (t : Fin 4096) (e : Fin 512) :
    val_main_v31 (F := Ideal) x0 x1 x2 x3 x4 x5 (ix3 b t e)
      = dotted (row x0 x1 x2 x3 b t) (fun a => x4 (ix1 a)) fun a => x5 (ix2 a e) := by
  unfold val_main_v31
  generalize h : val_main_v30 (F := Ideal) x0 x1 x2 x3 x4 = P
  pointwise
  subst h
  exact Finset.sum_congr rfl fun a _ => congrArg (· * _) (kvnorm_apply _ _ _ _ _ b t a)

theorem value_apply (b : Fin 2) (t : Fin 4096) (e : Fin 512) :
    val_main_v32 (F := Ideal) x0 x1 x2 x3 x4 x6 (ix3 b t e)
      = dotted (row x0 x1 x2 x3 b t) (fun a => x4 (ix1 a)) fun a => x6 (ix2 a e) := by
  unfold val_main_v32
  generalize h : val_main_v30 (F := Ideal) x0 x1 x2 x3 x4 = P
  pointwise
  subst h
  exact Finset.sum_congr rfl fun a _ => congrArg (· * _) (kvnorm_apply _ _ _ _ _ b t a)

theorem prenorm_apply (b : Fin 2) (t : Fin 4096) (e : Fin 2048) :
    val_main_v47 (F := Ideal) x0 x1 x2 x3 x7 (ix3 b t e) = normed (row x0 x1 x2 x3 b t) e * x7 (ix2 1 e) := by
  unfold normed
  simp only [← stream_apply]
  unfold val_main_v47 val_main_v46 val_main_v45 val_main_v44 val_main_v43 val_main_v42 val_main_v41 val_main_v40 val_main_v39 val_main_v38
    val_main_v37 val_main_v36 val_main_v35 val_main_v34 val_main_v33 val_main_cst_5 val_main_cst_6 val_main_cst_7
  generalize val_main_v17 (F := Ideal) x0 x1 x2 x3 = P
  pointwise

theorem proj_apply (b : Fin 2) (t : Fin 4096) (e : Fin 4096) :
    val_main_v49 (F := Ideal) x0 x1 x2 x3 x7 x8 (ix3 b t e)
      = dotted (row x0 x1 x2 x3 b t) (fun a => x7 (ix2 1 a)) fun a => x8 (ix3 0 a e) := by
  unfold val_main_v49 val_main_v48
  generalize h : val_main_v47 (F := Ideal) x0 x1 x2 x3 x7 = P
  pointwise
  subst h
  exact Finset.sum_congr rfl fun a _ => congrArg (· * _) (prenorm_apply _ _ _ _ _ b t a)

theorem flat_stream (n : Fin 8192) (e : Fin 2048) :
    val_main_v54 (F := Ideal) x0 x1 x2 x3 (ix2 n e) = row x0 x1 x2 x3 (seqOf n) (posOf n) e := by
  rw [← stream_apply]
  unfold val_main_v54
  generalize val_main_v17 (F := Ideal) x0 x1 x2 x3 = P
  pointwise
  rfl

theorem flat_keyHead (n : Fin 8192) (h : Fin 4) (e : Fin 128) :
    val_main_v55 (F := Ideal) x0 x1 x2 x3 x4 x5 (ix3 n h e) = dotted (row x0 x1 x2 x3 (seqOf n) (posOf n)) (fun a => x4 (ix1 a)) fun a => x5 (ix2 a ⟨128 * h.val + e.val, by omega⟩) := by
  rw [← key_apply]
  unfold val_main_v55
  generalize val_main_v31 (F := Ideal) x0 x1 x2 x3 x4 x5 = P
  pointwise
  exact congrArg P (congrArg (ix3 _ _) (Fin.ext (congrArg (· + e.val) (Nat.mul_comm _ _))))

theorem flat_valueHead (n : Fin 8192) (h : Fin 4) (e : Fin 128) :
    val_main_v56 (F := Ideal) x0 x1 x2 x3 x4 x6 (ix3 n h e) = dotted (row x0 x1 x2 x3 (seqOf n) (posOf n)) (fun a => x4 (ix1 a)) fun a => x6 (ix2 a ⟨128 * h.val + e.val, by omega⟩) := by
  rw [← value_apply]
  unfold val_main_v56
  generalize val_main_v32 (F := Ideal) x0 x1 x2 x3 x4 x6 = P
  pointwise
  exact congrArg P (congrArg (ix3 _ _) (Fin.ext (congrArg (· + e.val) (Nat.mul_comm _ _))))

theorem flat_key (n : Fin 8192) (e : Fin 512) :
    val_main_v58 (F := Ideal) x0 x1 x2 x3 x4 x5 (ix2 n e) = dotted (row x0 x1 x2 x3 (seqOf n) (posOf n)) (fun a => x4 (ix1 a)) fun a => x5 (ix2 a e) := by
  rw [← key_apply]
  unfold val_main_v58 val_main_v57
  generalize val_main_v31 (F := Ideal) x0 x1 x2 x3 x4 x5 = P
  pointwise
  rfl

theorem flat_value (n : Fin 8192) (e : Fin 512) :
    val_main_v60 (F := Ideal) x0 x1 x2 x3 x4 x6 (ix2 n e) = dotted (row x0 x1 x2 x3 (seqOf n) (posOf n)) (fun a => x4 (ix1 a)) fun a => x6 (ix2 a e) := by
  rw [← value_apply]
  unfold val_main_v60 val_main_v59
  generalize val_main_v32 (F := Ideal) x0 x1 x2 x3 x4 x6 = P
  pointwise
  rfl

theorem flat_query (n : Fin 8192) (e : Fin 2048) :
    val_main_v62 (F := Ideal) x0 x1 x2 x3 x7 x8 (ix2 n e) = (dotted (row x0 x1 x2 x3 (seqOf n) (posOf n)) (fun a => x7 (ix2 1 a)) fun a => x8 (ix3 0 a ⟨0 + e.val, by omega⟩)) * scale := by
  simp only [Nat.zero_add]
  rw [← proj_apply]
  unfold val_main_v62 val_main_v61 val_main_v53 val_main_v52 val_main_v50 val_main_cst_8 scale
  generalize val_main_v49 (F := Ideal) x0 x1 x2 x3 x7 x8 = P
  pointwise
  rfl

theorem flat_gate (n : Fin 8192) (e : Fin 2048) :
    val_main_v63 (F := Ideal) x0 x1 x2 x3 x7 x8 (ix2 n e) = dotted (row x0 x1 x2 x3 (seqOf n) (posOf n)) (fun a => x7 (ix2 1 a)) fun a => x8 (ix3 0 a ⟨2048 + e.val, by omega⟩) := by
  rw [← proj_apply]
  unfold val_main_v63 val_main_v51
  generalize val_main_v49 (F := Ideal) x0 x1 x2 x3 x7 x8 = P
  pointwise
  rfl

end Cert.Reference2Ideal.Plain

end
-- ==== Proof.Mid.Final.lean ====
module

public import proofs.«01_k».proof.Proof.Mid.Run
public import proofs.«01_k».proof.Proof.Mid.Blocks
public import proofs.«01_k».proof.Proof.Mid.Ref
public import proofs.«01_k».proof.Proof.Gen.Kernel2Ideal.Value

/-! # The seven result arrays

Every grid point writes the rows of its 256 tokens; the tiles cover the arrays, and each row is the reference's. -/

@[expose] public section

set_option maxRecDepth 16384

noncomputable section

namespace Cert.Kernel2Ideal.Final

open Cert.Kernel2Ideal Cert.Kernel2Ideal.Gen Cert.Kernel2Ideal.Tile Cert.Kernel2Ideal.Blocks Cert.Mid Idealize.ShloMosaic Idealize.ShloMosaic.TcCoe
open Cert.Reference2Ideal.Read
open Cert.Reference2Ideal.Plain (flat_stream flat_keyHead flat_valueHead flat_key flat_value flat_query flat_gate)

variable (m : (ℓ : Loc nD τ sig) → Buf (Elt Ideal) ℓ) (c : Dev nD) (t : Fin cfg0.N)

/-- The reference's residual row of the token in row `r` of the grid point's tile. -/
def plainRow (r : Fin 256) : Fin 2048 → EReal :=
  Cert.Reference2Ideal.Plain.row (m ((c : Thread nD τ).loc main_arg0)) (m ((c : Thread nD τ).loc main_arg1)) (m ((c : Thread nD τ).loc main_arg2)) (m ((c : Thread nD τ).loc main_arg3))
    (seqOf (tokOf (grid0.coords t) r)) (posOf (tokOf (grid0.coords t) r))

theorem row_eq (r : Fin 256) : row (iblk m c 0 t) (iblk m c 2 t) (iblk m c 1 t) (iblk m c 3 t) r = plainRow m c t r := by
  unfold Tile.row plainRow Cert.Reference2Ideal.Plain.row
  simp only [tokens m c t, outs m c t, streams m c t, posts m c t]

theorem key_eq (r : Fin 256) (e : Fin 512) : kvAt (iblk m c 0 t) (iblk m c 2 t) (iblk m c 1 t) (iblk m c 3 t) (iblk m c 4 t) (iblk m c 5 t) r
    ⟨0 + e.val, by omega⟩ = dotted (plainRow m c t r) (fun a => m ((c : Thread nD τ).loc main_arg4) (ix1 a))
      fun a => m ((c : Thread nD τ).loc main_arg5) (ix2 a e) := by
  unfold kvAt
  simp only [row_eq m c t, kvns m c t, kvs m c t, entry_k m c]

theorem value_eq (r : Fin 256) (e : Fin 512) : kvAt (iblk m c 0 t) (iblk m c 2 t) (iblk m c 1 t) (iblk m c 3 t) (iblk m c 4 t) (iblk m c 5 t) r
    ⟨512 + e.val, by omega⟩ = dotted (plainRow m c t r) (fun a => m ((c : Thread nD τ).loc main_arg4) (ix1 a))
      fun a => m ((c : Thread nD τ).loc main_arg6) (ix2 a e) := by
  unfold kvAt
  simp only [row_eq m c t, kvns m c t, kvs m c t, entry_v m c]

theorem proj_eq (r : Fin 256) (e : Fin 4096) : projAt (iblk m c 0 t) (iblk m c 2 t) (iblk m c 1 t) (iblk m c 3 t) (iblk m c 6 t) (iblk m c 7 t) r e
    = dotted (plainRow m c t r) (fun a => m ((c : Thread nD τ).loc main_arg7) (ix2 1 a))
      fun a => m ((c : Thread nD τ).loc main_arg8) (ix3 0 a e) := by
  unfold projAt
  simp only [row_eq m c t, pres m c t, ins m c t]

/-- Row `r` of the tile is row `256 t + r` of the array. -/
theorem place2 {n : ℕ} (i : Fin 2 → ℕ) (hi : i = ![(grid0.coords t 0).val, 0]) (r : Fin 256) (e : Fin n)
    (j : (⟨2, ![8192, n]⟩ : Shape).Idx) (h0 : (j 0).val = i 0 * 256 + 1 * r.val) (h1 : (j 1).val = i 1 * n + 1 * e.val) :
    ix2 (tokOf (grid0.coords t) r) e = j := by
  subst hi
  funext a
  fin_cases a <;> apply Fin.ext
  · exact (h0.trans (congrArg _ (Nat.one_mul _))).symm
  · refine (h1.trans ((congrArg₂ (· + ·) (Nat.zero_mul n) (Nat.one_mul _)).trans (Nat.zero_add _))).symm

theorem place3 (i : Fin 3 → ℕ) (hi : i = ![(grid0.coords t 0).val, 0, 0]) (r : Fin 256) (h : Fin 4) (e : Fin 128) (j : S8192x4x128.Idx)
    (h0 : (j 0).val = i 0 * 256 + 1 * r.val) (h1 : (j 1).val = i 1 * 4 + 1 * h.val) (h2 : (j 2).val = i 2 * 128 + 1 * e.val) :
    ix3 (tokOf (grid0.coords t) r) h e = j := by
  subst hi
  funext a
  fin_cases a <;> apply Fin.ext
  · exact (h0.trans (congrArg _ (Nat.one_mul _))).symm
  · exact (h1.trans ((congrArg _ (Nat.one_mul _)).trans (Nat.zero_add _))).symm
  · exact (h2.trans ((congrArg _ (Nat.one_mul _)).trans (Nat.zero_add _))).symm

/-- The reference's residual stream. -/
def plain8 : Vec Ideal S8192x2048 .f32 := val_main_v54 (F := Ideal) (m ((c : Thread nD τ).loc main_arg0)) (m ((c : Thread nD τ).loc main_arg1)) (m ((c : Thread nD τ).loc main_arg2)) (m ((c : Thread nD τ).loc main_arg3))

theorem point8 (r : Fin 256) (e : Fin 2048) : ((outsAt0 m c t).1 : Vec Ideal S256x2048 .f32) (ix2 r e) = plain8 m c (ix2 (tokOf (grid0.coords t) r) e) := by
  unfold outsAt0 out0_A_8
  dsimp only
  rw [View.read_writes_junk_eq_canon]
  refine (pieces8 _ _ _ _ _ _ _ _ _ _ _ _ _ _ _ _ _ _ _ _ _ _ _ _ _ _ _ _ _ _ _ _ _ _ _ _ _ _ _ _ _ _ r e).trans ?_
  exact (congrFun (row_eq m c t r) e).trans (flat_stream (m ((c : Thread nD τ).loc main_arg0)) (m ((c : Thread nD τ).loc main_arg1)) (m ((c : Thread nD τ).loc main_arg2)) (m ((c : Thread nD τ).loc main_arg3)) (tokOf (grid0.coords t) r) e).symm

theorem final8 : (dats m 0 c).arrAt 8 cfg0.N = plain8 m c := by
  refine (dats m 0 c).arrAt_eq_of_covers 8 (plain8 m c) (by decide +kernel) fun t hf y => ?_
  blk_simp
  rw [after0_8]
  idx_vars y
  exact (point8 m c t _ _).trans (congrArg (plain8 m c) (place2 t _ (idxTile t).2.2.1 _ _ _ rfl rfl))

/-- The reference's keys, head by head. -/
def plain9 : Vec Ideal S8192x4x128 .f32 := val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem point9 (r : Fin 256) (h : Fin 4) (e : Fin 128) : ((outsAt0 m c t).2.1 : Vec Ideal S256x4x128 .f32) (ix3 r h e) = plain9 m c (ix3 (tokOf (grid0.coords t) r) h e) := by
  unfold outsAt0 out0_A_9
  dsimp only
  rw [View.read_writes_junk_eq_canon]
  refine (pieces9 _ _ _ _ _ _ _ _ _ _ _ _ _ _ _ _ _ _ _ _ _ _ _ _ _ _ _ _ _ _ _ _ _ _ _ _ _ _ _ _ _ _ r h e).trans ?_
  exact ((congrArg (kvAt _ _ _ _ _ _ r) (Fin.ext (Nat.zero_add _).symm)).trans (key_eq m c t r ⟨128 * h.val + e.val, by omega⟩)).trans (flat_keyHead (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tokOf (grid0.coords t) r) h e).symm

theorem final9 : (dats m 0 c).arrAt 9 cfg0.N = plain9 m c := by
  refine (dats m 0 c).arrAt_eq_of_covers 9 (plain9 m c) (by decide +kernel) fun t hf y => ?_
  blk_simp
  rw [after0_9]
  idx_vars y
  exact (point9 m c t _ _ _).trans (congrArg (plain9 m c) (place3 t _ (idxTile t).2.2.2.1 _ _ _ _ rfl rfl rfl))

/-- The reference's values, head by head. -/
def plain10 : Vec Ideal S8192x4x128 .f32 := val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))

theorem point10 (r : Fin 256) (h : Fin 4) (e : Fin 128) : ((outsAt0 m c t).2.2.1 : Vec Ideal S256x4x128 .f32) (ix3 r h e) = plain10 m c (ix3 (tokOf (grid0.coords t) r) h e) := by
  unfold outsAt0 out0_A_10
  dsimp only
  rw [View.read_writes_junk_eq_canon]
  refine (pieces10 _ _ _ _ _ _ _ _ _ _ _ _ _ _ _ _ _ _ _ _ _ _ _ _ _ _ _ _ _ _ _ _ _ _ _ _ _ _ _ _ _ _ r h e).trans ?_
  exact (value_eq m c t r ⟨128 * h.val + e.val, by omega⟩).trans (flat_valueHead (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (tokOf (grid0.coords t) r) h e).symm

theorem final10 : (dats m 0 c).arrAt 10 cfg0.N = plain10 m c := by
  refine (dats m 0 c).arrAt_eq_of_covers 10 (plain10 m c) (by decide +kernel) fun t hf y => ?_
  blk_simp
  rw [after0_10]
  idx_vars y
  exact (point10 m c t _ _ _).trans (congrArg (plain10 m c) (place3 t _ (idxTile t).2.2.2.2.1 _ _ _ _ rfl rfl rfl))

/-- The reference's keys. -/
def plain11 : Vec Ideal S8192x512 .bf16 := val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem point11 (r : Fin 256) (e : Fin 512) : ((outsAt0 m c t).2.2.2.1 : Vec Ideal S256x512 .bf16) (ix2 r e) = plain11 m c (ix2 (tokOf (grid0.coords t) r) e) := by
  unfold outsAt0 out0_A_11
  dsimp only
  rw [View.read_writes_junk_eq_canon]
  refine (pieces11 _ _ _ _ _ _ _ _ _ _ _ _ _ _ _ _ _ _ _ _ _ _ _ _ _ _ _ _ _ _ _ _ _ _ _ _ _ _ _ _ _ _ r e).trans ?_
  exact (key_eq m c t r e).trans (flat_key (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tokOf (grid0.coords t) r) e).symm

theorem final11 : (dats m 0 c).arrAt 11 cfg0.N = plain11 m c := by
  refine (dats m 0 c).arrAt_eq_of_covers 11 (plain11 m c) (by decide +kernel) fun t hf y => ?_
  blk_simp
  rw [after0_11]
  idx_vars y
  exact (point11 m c t _ _).trans (congrArg (plain11 m c) (place2 t _ (idxTile t).2.2.2.2.2.1 _ _ _ rfl rfl))

/-- The reference's values. -/
def plain12 : Vec Ideal S8192x512 .bf16 := val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))

theorem point12 (r : Fin 256) (e : Fin 512) : ((outsAt0 m c t).2.2.2.2.1 : Vec Ideal S256x512 .bf16) (ix2 r e) = plain12 m c (ix2 (tokOf (grid0.coords t) r) e) := by
  unfold outsAt0 out0_A_12
  dsimp only
  rw [View.read_writes_junk_eq_canon]
  refine (pieces12 _ _ _ _ _ _ _ _ _ _ _ _ _ _ _ _ _ _ _ _ _ _ _ _ _ _ _ _ _ _ _ _ _ _ _ _ _ _ _ _ _ _ r e).trans ?_
  exact (value_eq m c t r e).trans (flat_value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (tokOf (grid0.coords t) r) e).symm

theorem final12 : (dats m 0 c).arrAt 12 cfg0.N = plain12 m c := by
  refine (dats m 0 c).arrAt_eq_of_covers 12 (plain12 m c) (by decide +kernel) fun t hf y => ?_
  blk_simp
  rw [after0_12]
  idx_vars y
  exact (point12 m c t _ _).trans (congrArg (plain12 m c) (place2 t _ (idxTile t).2.2.2.2.2.2.1 _ _ _ rfl rfl))

/-- The reference's scaled queries. -/
def plain13 : Vec Ideal S8192x2048 .bf16 := val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))

theorem point13 (r : Fin 256) (e : Fin 2048) : ((outsAt0 m c t).2.2.2.2.2.1 : Vec Ideal S256x2048 .bf16) (ix2 r e) = plain13 m c (ix2 (tokOf (grid0.coords t) r) e) := by
  unfold outsAt0 out0_A_13
  dsimp only
  rw [View.read_writes_junk_eq_canon]
  refine (pieces13 _ _ _ _ _ _ _ _ _ _ _ _ _ _ _ _ _ _ _ _ _ _ _ _ _ _ _ _ _ _ _ _ _ _ _ _ _ _ _ _ _ _ r e).trans ?_
  exact (congrArg (· * scale) (proj_eq m c t r ⟨0 + e.val, by omega⟩)).trans (flat_query (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (tokOf (grid0.coords t) r) e).symm

theorem final13 : (dats m 0 c).arrAt 13 cfg0.N = plain13 m c := by
  refine (dats m 0 c).arrAt_eq_of_covers 13 (plain13 m c) (by decide +kernel) fun t hf y => ?_
  blk_simp
  rw [after0_13]
  idx_vars y
  exact (point13 m c t _ _).trans (congrArg (plain13 m c) (place2 t _ (idxTile t).2.2.2.2.2.2.2.1 _ _ _ rfl rfl))

/-- The reference's gates. -/
def plain14 : Vec Ideal S8192x2048 .f32 := val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8))

theorem point14 (r : Fin 256) (e : Fin 2048) : ((outsAt0 m c t).2.2.2.2.2.2 : Vec Ideal S256x2048 .f32) (ix2 r e) = plain14 m c (ix2 (tokOf (grid0.coords t) r) e) := by
  unfold outsAt0 out0_A_14
  dsimp only
  rw [View.read_writes_junk_eq_canon]
  refine (pieces14 _ _ _ _ _ _ _ _ _ _ _ _ _ _ _ _ _ _ _ _ _ _ _ _ _ _ _ _ _ _ _ _ _ _ _ _ _ _ _ _ _ _ r e).trans ?_
  exact (proj_eq m c t r ⟨2048 + e.val, by omega⟩).trans (flat_gate (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (tokOf (grid0.coords t) r) e).symm

theorem final14 : (dats m 0 c).arrAt 14 cfg0.N = plain14 m c := by
  refine (dats m 0 c).arrAt_eq_of_covers 14 (plain14 m c) (by decide +kernel) fun t hf y => ?_
  blk_simp
  rw [after0_14]
  idx_vars y
  exact (point14 m c t _ _).trans (congrArg (plain14 m c) (place2 t _ (idxTile t).2.2.2.2.2.2.2.2 _ _ _ rfl rfl))

end Cert.Kernel2Ideal.Final

end
-- ==== Proof.Mid.Claims.lean ====
module

public import proofs.«01_k».proof.Defs
public import proofs.«01_k».proof.Proof.Mid.Final
public import proofs.«01_k».proof.Proof.Gen.Kernel2.Frame
public import proofs.«01_k».proof.Proof.Gen.Reference2Ideal.Run
public import Idealize.ShloMosaic.Lib.Claim

/-! # The claims about the stage between the mixers -/

@[expose] public section

noncomputable section

namespace Cert.MidClaims

open Idealize.ShloMosaic Idealize.ShloMosaic.TcCoe Idealize.SL.Sem Cert.Kernel2Ideal.Final

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

theorem preserves : Cert.preserves_Kernel2_Kernel2Ideal := trivial

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- Both programs start from the same arguments. -/
def Agree : Prop :=
  m' (c.tc.loc Cert.Reference2Ideal.main_arg0) = m (c.tc.loc Cert.Kernel2Ideal.main_arg0) ∧
  m' (c.tc.loc Cert.Reference2Ideal.main_arg1) = m (c.tc.loc Cert.Kernel2Ideal.main_arg1) ∧
  m' (c.tc.loc Cert.Reference2Ideal.main_arg2) = m (c.tc.loc Cert.Kernel2Ideal.main_arg2) ∧
  m' (c.tc.loc Cert.Reference2Ideal.main_arg3) = m (c.tc.loc Cert.Kernel2Ideal.main_arg3) ∧
  m' (c.tc.loc Cert.Reference2Ideal.main_arg4) = m (c.tc.loc Cert.Kernel2Ideal.main_arg4) ∧
  m' (c.tc.loc Cert.Reference2Ideal.main_arg5) = m (c.tc.loc Cert.Kernel2Ideal.main_arg5) ∧
  m' (c.tc.loc Cert.Reference2Ideal.main_arg6) = m (c.tc.loc Cert.Kernel2Ideal.main_arg6) ∧
  m' (c.tc.loc Cert.Reference2Ideal.main_arg7) = m (c.tc.loc Cert.Kernel2Ideal.main_arg7) ∧
  m' (c.tc.loc Cert.Reference2Ideal.main_arg8) = m (c.tc.loc Cert.Kernel2Ideal.main_arg8)

theorem same9 (h : Agree m m' c) :
    Cert.Reference2Ideal.Value.res_main_v55 m' c = (Cert.Kernel2Ideal.Gen.dats m 0 c).arrAt 9 Cert.Kernel2Ideal.cfg0.N := by
  obtain ⟨e0, e1, e2, e3, e4, e5, -, -, -⟩ := h
  rw [final9 m c, Cert.Reference2Ideal.Read.val_main_v55_eq, plain9, e0, e1, e2, e3, e4, e5]

theorem same10 (h : Agree m m' c) :
    Cert.Reference2Ideal.Value.res_main_v56 m' c = (Cert.Kernel2Ideal.Gen.dats m 0 c).arrAt 10 Cert.Kernel2Ideal.cfg0.N := by
  obtain ⟨e0, e1, e2, e3, e4, -, e6, -, -⟩ := h
  rw [final10 m c, Cert.Reference2Ideal.Read.val_main_v56_eq, plain10, e0, e1, e2, e3, e4, e6]

theorem same11 (h : Agree m m' c) :
    Cert.Reference2Ideal.Value.res_main_v58 m' c = (Cert.Kernel2Ideal.Gen.dats m 0 c).arrAt 11 Cert.Kernel2Ideal.cfg0.N := by
  obtain ⟨e0, e1, e2, e3, e4, e5, -, -, -⟩ := h
  rw [final11 m c, Cert.Reference2Ideal.Read.val_main_v58_eq, plain11, e0, e1, e2, e3, e4, e5]

theorem same12 (h : Agree m m' c) :
    Cert.Reference2Ideal.Value.res_main_v60 m' c = (Cert.Kernel2Ideal.Gen.dats m 0 c).arrAt 12 Cert.Kernel2Ideal.cfg0.N := by
  obtain ⟨e0, e1, e2, e3, e4, -, e6, -, -⟩ := h
  rw [final12 m c, Cert.Reference2Ideal.Read.val_main_v60_eq, plain12, e0, e1, e2, e3, e4, e6]

theorem same13 (h : Agree m m' c) :
    Cert.Reference2Ideal.Value.res_main_v62 m' c = (Cert.Kernel2Ideal.Gen.dats m 0 c).arrAt 13 Cert.Kernel2Ideal.cfg0.N := by
  obtain ⟨e0, e1, e2, e3, -, -, -, e7, e8⟩ := h
  rw [final13 m c, Cert.Reference2Ideal.Read.val_main_v62_eq, plain13, e0, e1, e2, e3, e7, e8]

theorem same14 (h : Agree m m' c) :
    Cert.Reference2Ideal.Value.res_main_v63 m' c = (Cert.Kernel2Ideal.Gen.dats m 0 c).arrAt 14 Cert.Kernel2Ideal.cfg0.N := by
  obtain ⟨e0, e1, e2, e3, -, -, -, e7, e8⟩ := h
  rw [final14 m c, Cert.Reference2Ideal.Read.val_main_v63_eq, plain14, e0, e1, e2, e3, e7, e8]

/-- All seven arrays are the reference's. -/
theorem algebraic : Cert.algebraic_Kernel2Ideal_Reference2Ideal := by
  pair_intro
  · run_from Cert.Kernel2Ideal.Value.run_blocks m g
  · run_from Cert.Reference2Ideal.Value.run m' g'
    · obtain ⟨e0, e1, e2, e3, -⟩ := hagree c
      rw [final8 m c, plain8, ← e0, ← e1, ← e2, ← e3]
      exact Cert.Reference2Ideal.Read.val_main_v54_eq _ _ _ _
    · exact same9 m m' c (hagree c)
    · exact same10 m m' c (hagree c)
    · exact same11 m m' c (hagree c)
    · exact same12 m m' c (hagree c)
    · exact same13 m m' c (hagree c)
    · exact same14 m m' c (hagree c)

end Cert.MidClaims

end
-- ==== Proof.Samp.Rows.lean ====
module

public import proofs.«01_k».proof.Proof.Mid.Rows

/-! # Four steps of the recurrence of one sequence

What the recurrent mixer makes of four tokens of one sequence in one block of 256 columns: the normalised rows, the
projections, the convolution over the kept rows, the two gates, the decay, and the four states. -/

@[expose] public section

noncomputable section

namespace Cert.Samp

open Idealize.ShloMosaic Cert.Mid

/-- The arguments of one sequence in one block of columns. -/
structure Blk where
  x : Fin 4 → Fin 2048 → EReal
  g : Fin 2048 → EReal
  wx : Fin 2048 → Fin 256 → EReal
  wg : Fin 2048 → Fin 256 → EReal
  cw : Fin 4 → Fin 256 → EReal
  cb : Fin 256 → EReal
  wr : Fin 256 → Fin 256 → EReal
  br : Fin 256 → EReal
  wi : Fin 256 → Fin 256 → EReal
  bi : Fin 256 → EReal
  lam : Fin 256 → EReal
  buf : Fin 3 → Fin 256 → EReal
  h : Fin 256 → EReal

/-- The logistic function. -/
def sigma (x : EReal) : EReal := Ideal.div 1 (1 + Ideal.exp (-x))

/-- The softplus function. -/
def soft (x : EReal) : EReal := max x 0 + Ideal.log1p (Ideal.exp (-(max x (-x))))

/-- The factor of the decay's exponent. -/
def eight : EReal := Ideal.ofBits FTy.f32 0xC1000000#32

/-- The size of the input beside a decay of logarithm `l`. -/
def damp (l : EReal) : EReal := Ideal.sqrt (-(Ideal.exp (Ideal.ofBits FTy.f32 0x40000000#32 * l) - 1))

namespace Blk

variable (s : Blk)

/-- A token's normalised row. -/
def unit (t : Fin 4) (e : Fin 2048) : EReal := normed (s.x t) e * s.g e
/-- The recurrent half of the projection. -/
def proj (t : Fin 4) (d : Fin 256) : EReal := ∑ a, s.unit t a * s.wx a d
/-- The gate's half of the projection. -/
def gate (t : Fin 4) (d : Fin 256) : EReal := ∑ a, s.unit t a * s.wg a d
/-- The three kept rows and the four new ones. -/
def pad (p : Fin 7) (d : Fin 256) : EReal := if h : p.val < 3 then s.buf ⟨p.val, h⟩ d else s.proj ⟨p.val - 3, by omega⟩ d
/-- The convolution with four taps. -/
def conv (t : Fin 4) (d : Fin 256) : EReal :=
  s.cb d + s.pad ⟨t.val, by omega⟩ d * s.cw 0 d + s.pad ⟨t.val + 1, by omega⟩ d * s.cw 1 d + s.pad ⟨t.val + 2, by omega⟩ d * s.cw 2 d
    + s.pad ⟨t.val + 3, by omega⟩ d * s.cw 3 d
/-- The recurrence gate. -/
def keep (t : Fin 4) (d : Fin 256) : EReal := sigma ((∑ a, s.conv t a * s.wr a d) + s.br d)
/-- The input gate. -/
def inp (t : Fin 4) (d : Fin 256) : EReal := sigma ((∑ a, s.conv t a * s.wi a d) + s.bi d)
/-- The logarithm of the decay. -/
def logA (t : Fin 4) (d : Fin 256) : EReal := eight * s.keep t d * soft (-s.lam d)
/-- What a step adds to the decayed state. -/
def push (t : Fin 4) (d : Fin 256) : EReal := damp (s.logA t d) * (s.inp t d * s.conv t d)
/-- One step of the recurrence. -/
def step (t : Fin 4) (d : Fin 256) (h : EReal) : EReal := Ideal.exp (s.logA t d) * h + s.push t d
/-- The state after one, two, three and four steps. -/
def state0 (d : Fin 256) : EReal := s.step 0 d (s.h d)
def state1 (d : Fin 256) : EReal := s.step 1 d (s.state0 d)
def state2 (d : Fin 256) : EReal := s.step 2 d (s.state1 d)
def state3 (d : Fin 256) : EReal := s.step 3 d (s.state2 d)
/-- The state after token `t`. -/
def state (t : Fin 4) (d : Fin 256) : EReal := (![s.state0 d, s.state1 d, s.state2 d, s.state3 d] : Fin 4 → EReal) t
/-- The mixer's result. -/
def out (t : Fin 4) (d : Fin 256) : EReal := s.state t d * (s.gate t d * sigma (s.gate t d))

end Blk

/-- A column of a block, as a column of the whole. -/
def colOf (n : Fin 10) (d : Fin 256) : Fin 2560 := ⟨n.val * 256 + d.val, by omega⟩
/-- The gate's column beside it. -/
def gateOf (n : Fin 10) (d : Fin 256) : Fin 5120 := ⟨2560 + (n.val * 256 + d.val), by omega⟩
/-- The same column of the recurrent half. -/
def wideOf (n : Fin 10) (d : Fin 256) : Fin 5120 := ⟨n.val * 256 + d.val, by omega⟩
/-- The block and the place in it of a column. -/
def blockOf (d : Fin 2560) : Fin 10 := ⟨d.val / 256, by omega⟩
def inBlock (d : Fin 2560) : Fin 256 := ⟨d.val % 256, by omega⟩

theorem colOf_eq (d : Fin 2560) : colOf (blockOf d) (inBlock d) = d := Fin.ext (by simp only [colOf, blockOf, inBlock]; omega)

/-- Rows are kept time before sequence. -/
def rowOf (t : Fin 4) (b : Fin 32) : Fin 128 := ⟨32 * t.val + b.val, by omega⟩
def keptOf (p : Fin 3) (b : Fin 32) : Fin 96 := ⟨32 * p.val + b.val, by omega⟩
def padOf (p : Fin 7) (b : Fin 32) : Fin 224 := ⟨32 * p.val + b.val, by omega⟩
def timeOf (r : Fin 128) : Fin 4 := ⟨r.val / 32, by omega⟩
def seqOfRow (r : Fin 128) : Fin 32 := ⟨r.val % 32, by omega⟩
def keptTime (r : Fin 96) : Fin 3 := ⟨r.val / 32, by omega⟩
def keptSeq (r : Fin 96) : Fin 32 := ⟨r.val % 32, by omega⟩

theorem rowOf_eq (r : Fin 128) : rowOf (timeOf r) (seqOfRow r) = r := Fin.ext (by simp only [rowOf, timeOf, seqOfRow]; omega)
theorem keptOf_eq (r : Fin 96) : keptOf (keptTime r) (keptSeq r) = r := Fin.ext (by simp only [keptOf, keptTime, keptSeq]; omega)

end Cert.Samp

end
-- ==== Proof.Samp.Damp.lean ====
module

public import proofs.«01_k».proof.Proof.Samp.Rows

/-! # The input's size, computed without a difference of near values

For a logarithm `l ≤ 0`, `√(1 − e^{2l})` is `m · (1/√m)` with `m = −tanh l · (e^l · e^l + 1)`, and is zero where `m` is. -/

@[expose] public section

noncomputable section

namespace Cert.Samp

open Idealize.ShloMosaic Cert.Mid

theorem bits_one : Ideal.ofBits .f32 0x3F800000#32 = 1 := by
  simp [Ideal.ofBits, Ideal.ieee, -EReal.coe_mul, ← EReal.coe_mul]; norm_num
theorem bits_two : Ideal.ofBits .f32 0x40000000#32 = ((2 : ℝ) : EReal) := by
  simp [Ideal.ofBits, Ideal.ieee, -EReal.coe_mul]; norm_num
theorem bits_eight : eight = ((-8 : ℝ) : EReal) := by
  simp [eight, Ideal.ofBits, Ideal.ieee, -EReal.coe_mul]; norm_num

/-- The kernel's form of the input's size. -/
def size (m : EReal) : EReal := if 0 < m then m * Ideal.rsqrt m else 0

theorem size_coe (r : ℝ) (h : 0 ≤ r) : size (r : EReal) = Ideal.sqrt (r : EReal) := by
  have hs : Ideal.sqrt (r : EReal) = if r < 0 then ⊥ else ((Real.sqrt r : ℝ) : EReal) := rfl
  have hr : Ideal.rsqrt (r : EReal) = if r < 0 then ⊥ else if r = 0 then ⊤ else (((Real.sqrt r)⁻¹ : ℝ) : EReal) := rfl
  rw [hs, if_neg (not_lt.mpr h), size]
  rcases h.eq_or_lt with rfl | hp
  · simp
  · rw [if_pos (EReal.coe_pos.mpr hp), hr, if_neg (not_lt.mpr h), if_neg hp.ne', ← EReal.coe_mul]
    refine congrArg _ ?_
    have : Real.sqrt r ≠ 0 := (Real.sqrt_pos.mpr hp).ne'
    field_simp
    exact (Real.sq_sqrt h).symm

theorem tanh_mul (r : ℝ) : -Real.tanh r * (Real.exp r * Real.exp r + 1) = -(Real.exp (2 * r) - 1) := by
  rw [Real.tanh_eq_sinh_div_cosh, Real.sinh_eq, Real.cosh_eq, two_mul, Real.exp_add, Real.exp_neg]
  have := Real.exp_pos r
  field_simp

theorem size_damp (l : EReal) (hl : l ≤ 0) :
    size (-Ideal.tanh l * (Ideal.exp l * Ideal.exp l + 1)) = damp l := by
  rw [damp, bits_two]
  induction l using EReal.rec with
  | bot =>
    have ht : Ideal.tanh ⊥ = -1 := rfl
    have he : Ideal.exp ⊥ = 0 := rfl
    rw [EReal.coe_mul_bot_of_pos (by norm_num : (0 : ℝ) < 2), ht, he]
    have h1 : (- -1 * (0 * 0 + 1) : EReal) = ((1 : ℝ) : EReal) := by simp
    have h2 : (-(0 - 1) : EReal) = ((1 : ℝ) : EReal) := by simp
    rw [h1, h2]
    exact size_coe 1 zero_le_one
  | top => exact absurd hl (by simp)
  | coe r =>
    have hr : r ≤ 0 := by exact_mod_cast hl
    have ht : Ideal.tanh (r : EReal) = ((Real.tanh r : ℝ) : EReal) := rfl
    have he : ∀ q : ℝ, Ideal.exp (q : EReal) = ((Real.exp q : ℝ) : EReal) := fun _ => rfl
    rw [← EReal.coe_mul, ht, he, he, ← EReal.coe_one, ← EReal.coe_neg, ← EReal.coe_mul, ← EReal.coe_add, ← EReal.coe_mul,
      ← EReal.coe_sub, ← EReal.coe_neg, tanh_mul]
    refine size_coe _ ?_
    have : Real.exp (2 * r) ≤ 1 := Real.exp_le_one_iff.mpr (by linarith)
    linarith

theorem exp_nonneg (x : EReal) : 0 ≤ Ideal.exp x := by
  induction x using EReal.rec with
  | bot => exact le_refl _
  | top => exact le_top
  | coe r => exact EReal.coe_nonneg.mpr (Real.exp_pos r).le

theorem sigma_nonneg (x : EReal) : 0 ≤ sigma x := by
  have h : (0 : EReal) ≤ 1 + Ideal.exp (-x) := add_nonneg zero_le_one (exp_nonneg _)
  have hp : (0 : EReal) < 1 + Ideal.exp (-x) := lt_of_lt_of_le zero_lt_one (le_add_of_nonneg_right (exp_nonneg _))
  rw [sigma, Ideal.div, if_neg hp.ne', one_mul]
  exact EReal.inv_nonneg_of_nonneg h

theorem log1p_nonneg (x : EReal) (h : 0 ≤ x) : 0 ≤ Ideal.log1p x := by
  induction x using EReal.rec with
  | bot => exact absurd h (by simp)
  | top =>
    have : Ideal.log1p ⊤ = ⊤ := by
      rw [Ideal.log1p, EReal.add_top_of_ne_bot (show (1 : EReal) ≠ ⊥ from EReal.coe_ne_bot 1)]; rfl
    rw [this]; exact le_top
  | coe r =>
    have hr : 0 ≤ r := EReal.coe_nonneg.mp h
    have hl : Ideal.log1p (r : EReal) = if 1 + r ≤ 0 then ⊥ else ((Real.log (1 + r) : ℝ) : EReal) := rfl
    rw [hl, if_neg (by linarith)]
    exact EReal.coe_nonneg.mpr (Real.log_nonneg (by linarith))

theorem soft_nonneg (x : EReal) : 0 ≤ soft x :=
  add_nonneg (le_max_right _ _) (log1p_nonneg _ (exp_nonneg _))

theorem logA_nonpos (s : Blk) (t : Fin 4) (d : Fin 256) : s.logA t d ≤ 0 := by
  rw [Blk.logA, bits_eight, EReal.coe_neg, neg_mul, neg_mul]
  exact EReal.neg_le_zero.mpr (mul_nonneg (mul_nonneg (EReal.coe_nonneg.mpr (by norm_num)) (sigma_nonneg _)) (soft_nonneg _))

end Cert.Samp

end
-- ==== Proof.Samp.Tile.lean ====
module

public import proofs.«01_k».proof.Proof.Gen.Kernel3Ideal.Skeleton
public import proofs.«01_k».proof.Proof.Samp.Damp

/-! # The values one grid point stores

Every value the body computes, entry by entry, in terms of one sequence and one block of columns. -/

@[expose] public section

set_option maxRecDepth 16384

noncomputable section

namespace Cert.Kernel3Ideal.Tile

open Cert.Kernel3Ideal Cert.Kernel3Ideal.Gen Idealize.ShloMosaic Idealize.ShloMosaic.TcCoe Cert.Mid Cert.Samp

variable (x : Vec Ideal S128x2048 .f32) (g : Vec Ideal S1x2048 .f32) (wx wg : Vec Ideal S2048x256 .bf16) (cw : Vec Ideal S4x256 .f32)
  (cb : Vec Ideal S1x256 .f32) (wr : Vec Ideal S1x256x256 .bf16) (br : Vec Ideal S1x256 .f32) (wi : Vec Ideal S1x256x256 .bf16)
  (bi lam : Vec Ideal S1x256 .f32) (buf : Vec Ideal S96x256 .f32) (h : Vec Ideal S32x256 .f32)

theorem pay2_apply (r : Fin 128) (e : Fin 2048) : k0_pay2 x g (ix2 r e) = normed (fun a => x (ix2 r a)) e * g (ix2 0 e) := by
  unfold k0_pay2 normed
  pointwise

theorem product (u : Vec Ideal S128x2048 .bf16) (r : Fin 128) (d : Fin 256) :
    k0_pay3 u wg (ix2 r d) = ∑ a, u (ix2 r a) * wg (ix2 a d) := by
  unfold k0_pay3
  pointwise

theorem kept_part (u : Vec Ideal S128x2048 .bf16) (i : Fin 96) (d : Fin 256) :
    k0_pay4 u wx buf (ix2 ⟨i.val, by omega⟩ d) = buf (ix2 i d) := by
  unfold k0_pay4
  pointwise

theorem new_part (u : Vec Ideal S128x2048 .bf16) (i : Fin 128) (d : Fin 256) :
    k0_pay4 u wx buf (ix2 ⟨96 + i.val, by omega⟩ d) = ∑ a, u (ix2 i a) * wx (ix2 a d) := by
  unfold k0_pay4
  pointwise

theorem taps (u : Vec Ideal S128x2048 .bf16) (w0 w1 w2 w3 : Vec Ideal S1x256 .f32) (t : Fin 4) (b : Fin 32) (d : Fin 256) :
    k0_pay7 (k0_pay5 u wx buf cb w0 w1 w2) (k0_pay6 u wx buf) w3 (ix2 (rowOf t b) d)
      = cb (ix2 0 d) + k0_pay4 u wx buf (ix2 (padOf ⟨t.val, by omega⟩ b) d) * w0 (ix2 0 d)
        + k0_pay4 u wx buf (ix2 (padOf ⟨t.val + 1, by omega⟩ b) d) * w1 (ix2 0 d)
        + k0_pay4 u wx buf (ix2 (padOf ⟨t.val + 2, by omega⟩ b) d) * w2 (ix2 0 d)
        + k0_pay4 u wx buf (ix2 (padOf ⟨t.val + 3, by omega⟩ b) d) * w3 (ix2 0 d) := by
  unfold k0_pay7 k0_pay5 k0_pay6
  generalize k0_pay4 u wx buf = P
  pointwise
  have at_ (p q : Fin 224) (hpq : p.val = q.val) : P (ix2 p d) = P (ix2 q d) := congrArg (fun z => P (ix2 z d)) (Fin.ext hpq)
  refine congrArg₂ (· + ·) (congrArg₂ (· + ·) (congrArg₂ (· + ·) (congrArg₂ (· + ·) rfl ?_) ?_) ?_) ?_ <;>
    exact congrArg (· * _) (at_ _ _ (by simp [rowOf, padOf]; try omega))

theorem saved (u : Vec Ideal S128x2048 .bf16) (p : Fin 3) (b : Fin 32) (d : Fin 256) :
    k0_pay8 (k0_pay4 u wx buf) (ix2 (keptOf p b) d) = k0_pay4 u wx buf (ix2 (padOf ⟨p.val + 4, by omega⟩ b) d) := by
  unfold k0_pay8
  generalize k0_pay4 u wx buf = P
  pointwise
  exact congrArg (fun z => P (ix2 z d)) (Fin.ext (by simp [keptOf, padOf]; omega))

theorem gate_r (v33 v34 : FVec Ideal S128x256 .f32) (w : Vec Ideal S1x256 .f32) (r : Fin 128) (d : Fin 256) :
    k0_pay11 v33 v34 w wr br (ix2 r d) = sigma ((∑ a, k0_pay7 v33 v34 w (ix2 r a) * wr (ix3 0 a d)) + br (ix2 0 d)) := by
  unfold k0_pay11 k0_pay9 sigma
  generalize k0_pay7 v33 v34 w = P
  pointwise
  simp only [bits_one, zero_sub]

theorem gate_i (v33 v34 : FVec Ideal S128x256 .f32) (w : Vec Ideal S1x256 .f32) (r : Fin 128) (d : Fin 256) :
    k0_pay12 v33 v34 w wi bi (ix2 r d) = sigma ((∑ a, k0_pay7 v33 v34 w (ix2 r a) * wi (ix3 0 a d)) + bi (ix2 0 d)) := by
  unfold k0_pay12 k0_pay9 sigma
  generalize k0_pay7 v33 v34 w = P
  pointwise
  simp only [bits_one, zero_sub]

theorem decay_log (R : FVec Ideal S128x256 .f32) (r : Fin 128) (d : Fin 256) :
    k0_pay13 (k0_pay10 lam) R (ix2 r d) = eight * R (ix2 r d) * soft (-lam (ix2 0 d)) := by
  unfold k0_pay13 k0_pay10 soft eight
  pointwise
  simp only [zero_sub]
  rfl

theorem decay (L : FVec Ideal S1x256 .f32) (R : FVec Ideal S128x256 .f32) (r : Fin 128) (d : Fin 256) :
    k0_pay14 L R (ix2 r d) = Ideal.exp (k0_pay13 L R (ix2 r d)) := by
  unfold k0_pay14
  pointwise

theorem pushed (C R I : FVec Ideal S128x256 .f32) (L : FVec Ideal S1x256 .f32) (r : Fin 128) (d : Fin 256) :
    k0_pay15 C L R I (ix2 r d)
      = size (-Ideal.tanh (k0_pay13 L R (ix2 r d)) * (Ideal.exp (k0_pay13 L R (ix2 r d)) * Ideal.exp (k0_pay13 L R (ix2 r d)) + 1))
        * (I (ix2 r d) * C (ix2 r d)) := by
  unfold k0_pay15 k0_pay14 size
  generalize k0_pay13 L R = P
  pointwise
  simp only [bits_one, zero_sub]

theorem first (C R I : FVec Ideal S128x256 .f32) (L : FVec Ideal S1x256 .f32) (b : Fin 32) (d : Fin 256) :
    k0_pay16 C L R I h (ix2 b d) = k0_pay14 L R (ix2 (rowOf 0 b) d) * h (ix2 b d) + k0_pay15 C L R I (ix2 (rowOf 0 b) d) := by
  unfold k0_pay16
  generalize k0_pay14 L R = P
  generalize k0_pay15 C L R I = Q
  pointwise
  have at_ (F : FVec Ideal S128x256 .f32) (p q : Fin 128) (hpq : p.val = q.val) : F (ix2 p d) = F (ix2 q d) :=
    congrArg (fun z => F (ix2 z d)) (Fin.ext hpq)
  exact congrArg₂ (· + ·) (congrArg (· * _) (at_ P _ _ (by simp [rowOf]))) (at_ Q _ _ (by simp [rowOf]))

theorem second (C R I : FVec Ideal S128x256 .f32) (L : FVec Ideal S1x256 .f32) (b : Fin 32) (d : Fin 256) :
    k0_pay17 C L R I h (ix2 b d)
      = k0_pay14 L R (ix2 (rowOf 1 b) d) * k0_pay16 C L R I h (ix2 b d) + k0_pay15 C L R I (ix2 (rowOf 1 b) d) := by
  unfold k0_pay17
  generalize k0_pay14 L R = P
  generalize k0_pay15 C L R I = Q
  generalize k0_pay16 C L R I h = H
  pointwise
  rfl

theorem third (C R I : FVec Ideal S128x256 .f32) (L : FVec Ideal S1x256 .f32) (b : Fin 32) (d : Fin 256) :
    k0_pay18 C L R I h (ix2 b d)
      = k0_pay14 L R (ix2 (rowOf 2 b) d) * k0_pay17 C L R I h (ix2 b d) + k0_pay15 C L R I (ix2 (rowOf 2 b) d) := by
  unfold k0_pay18
  generalize k0_pay14 L R = P
  generalize k0_pay15 C L R I = Q
  generalize k0_pay17 C L R I h = H
  pointwise
  rfl

theorem fourth (C R I : FVec Ideal S128x256 .f32) (L : FVec Ideal S1x256 .f32) (b : Fin 32) (d : Fin 256) :
    k0_pay19 C L R I h (ix2 b d)
      = k0_pay14 L R (ix2 (rowOf 3 b) d) * k0_pay18 C L R I h (ix2 b d) + k0_pay15 C L R I (ix2 (rowOf 3 b) d) := by
  unfold k0_pay19
  generalize k0_pay14 L R = P
  generalize k0_pay15 C L R I = Q
  generalize k0_pay18 C L R I h = H
  pointwise
  rfl

theorem stacked (G : FVec Ideal S128x256 .f32) (h0 h1 h2 h3 : FVec Ideal S32x256 .f32) (t : Fin 4) (b : Fin 32) (d : Fin 256) :
    k0_pay1 G h0 h1 h2 h3 (ix2 (rowOf t b) d)
      = (![h0 (ix2 b d), h1 (ix2 b d), h2 (ix2 b d), h3 (ix2 b d)] : Fin 4 → EReal) t
        * (G (ix2 (rowOf t b) d) * sigma (G (ix2 (rowOf t b) d))) := by
  unfold k0_pay1 sigma
  have at_ (F : FVec Ideal S32x256 .f32) (p q : Fin 32) (hpq : p.val = q.val) : F (ix2 p d) = F (ix2 q d) :=
    congrArg (fun z => F (ix2 z d)) (Fin.ext hpq)
  fin_cases t <;> pointwise <;> simp only [zero_sub] <;> refine congrArg (· * _) ?_
  · exact (dif_pos (show 32 * 0 + b.val < 32 by omega)).trans (at_ h0 _ _ (show 32 * 0 + b.val = b.val by omega))
  · exact (dif_neg (show ¬32 * 1 + b.val < 32 by omega)).trans ((dif_pos (show 32 * 1 + b.val - 32 < 32 by omega)).trans
      (at_ h1 _ _ (show 32 * 1 + b.val - 32 = b.val by omega)))
  · exact (dif_neg (show ¬32 * 2 + b.val < 32 by omega)).trans ((dif_neg (show ¬32 * 2 + b.val - 32 < 32 by omega)).trans
      ((dif_pos (show 32 * 2 + b.val - 32 - 32 < 32 by omega)).trans (at_ h2 _ _ (show 32 * 2 + b.val - 32 - 32 = b.val by omega))))
  · exact (dif_neg (show ¬32 * 3 + b.val < 32 by omega)).trans ((dif_neg (show ¬32 * 3 + b.val - 32 < 32 by omega)).trans
      ((dif_neg (show ¬32 * 3 + b.val - 32 - 32 < 32 by omega)).trans
        (at_ h3 _ _ (show 32 * 3 + b.val - 32 - 32 - 32 = b.val by omega))))

end Cert.Kernel3Ideal.Tile

end
-- ==== Proof.Samp.Chain.lean ====
module

public import proofs.«01_k».proof.Proof.Samp.Tile

/-! # What one grid point computes, from its arguments to its results -/

@[expose] public section

set_option maxRecDepth 16384

noncomputable section

namespace Cert.Kernel3Ideal.Tile

open Cert.Kernel3Ideal Cert.Kernel3Ideal.Gen Idealize.ShloMosaic Idealize.ShloMosaic.TcCoe Cert.Mid Cert.Samp

/-- The blocks of the arguments a grid point reads. -/
structure Args where
  x : Vec Ideal S128x2048 .f32
  g : Vec Ideal S1x2048 .f32
  wx : Vec Ideal S2048x256 .bf16
  wg : Vec Ideal S2048x256 .bf16
  cw : Vec Ideal S4x256 .f32
  cb : Vec Ideal S1x256 .f32
  wr : Vec Ideal S1x256x256 .bf16
  br : Vec Ideal S1x256 .f32
  wi : Vec Ideal S1x256x256 .bf16
  bi : Vec Ideal S1x256 .f32
  lam : Vec Ideal S1x256 .f32
  buf : Vec Ideal S96x256 .f32
  h : Vec Ideal S32x256 .f32

namespace Args

variable (p : Args)

/-- Sequence `b` of a grid point's arguments. -/
def blk (b : Fin 32) : Blk where
  x t e := p.x (ix2 (rowOf t b) e)
  g e := p.g (ix2 0 e)
  wx a d := p.wx (ix2 a d)
  wg a d := p.wg (ix2 a d)
  cw k d := p.cw (ix2 k d)
  cb d := p.cb (ix2 0 d)
  wr a d := p.wr (ix3 0 a d)
  br d := p.br (ix2 0 d)
  wi a d := p.wi (ix3 0 a d)
  bi d := p.bi (ix2 0 d)
  lam d := p.lam (ix2 0 d)
  buf k d := p.buf (ix2 (keptOf k b) d)
  h d := p.h (ix2 b d)

/-- The normalised rows. -/
def rows : Vec Ideal S128x2048 .bf16 := k0_pay2 p.x p.g
/-- One tap of the convolution. -/
def tap (k : Fin 4) : Vec Ideal S1x256 .f32 := fun j => p.cw (ix2 k (j 1))
/-- The first three taps summed, and the rows under the last. -/
def part : FVec Ideal S128x256 .f32 := k0_pay5 p.rows p.wx p.buf p.cb (p.tap 0) (p.tap 1) (p.tap 2)
def last : FVec Ideal S128x256 .f32 := k0_pay6 p.rows p.wx p.buf
/-- The convolution. -/
def conv : FVec Ideal S128x256 .f32 := k0_pay7 p.part p.last (p.tap 3)
/-- The two gates. -/
def keep : FVec Ideal S128x256 .f32 := k0_pay11 p.part p.last (p.tap 3) p.wr p.br
def inp : FVec Ideal S128x256 .f32 := k0_pay12 p.part p.last (p.tap 3) p.wi p.bi

variable (t : Fin 4) (b : Fin 32) (d : Fin 256)

theorem rows_eq (e : Fin 2048) : p.rows (ix2 (rowOf t b) e) = (p.blk b).unit t e := pay2_apply _ _ _ _

theorem pad_eq (k : Fin 7) : k0_pay4 p.rows p.wx p.buf (ix2 (padOf k b) d) = (p.blk b).pad k d := by
  unfold Blk.pad
  split
  · next hk => exact kept_part p.wx p.buf p.rows (keptOf ⟨k.val, hk⟩ b) d
  · next hk =>
    have h := new_part p.wx p.buf p.rows (rowOf ⟨k.val - 3, by omega⟩ b) d
    refine (congrArg (fun z => k0_pay4 p.rows p.wx p.buf (ix2 z d)) (Fin.ext ?_)).trans (h.trans ?_)
    · simp only [padOf, rowOf]; omega
    · exact Finset.sum_congr rfl fun a _ => congrArg (· * _) (p.rows_eq _ b a)

theorem conv_eq : p.conv (ix2 (rowOf t b) d) = (p.blk b).conv t d := by
  unfold conv part last
  rw [taps]
  simp only [pad_eq]
  rfl

theorem keep_eq : p.keep (ix2 (rowOf t b) d) = (p.blk b).keep t d := by
  unfold keep
  rw [gate_r]
  exact congrArg sigma (congrArg (· + _) (Finset.sum_congr rfl fun a _ => congrArg (· * _) (p.conv_eq t b a)))

theorem inp_eq : p.inp (ix2 (rowOf t b) d) = (p.blk b).inp t d := by
  unfold inp
  rw [gate_i]
  exact congrArg sigma (congrArg (· + _) (Finset.sum_congr rfl fun a _ => congrArg (· * _) (p.conv_eq t b a)))

theorem log_eq : k0_pay13 (k0_pay10 p.lam) p.keep (ix2 (rowOf t b) d) = (p.blk b).logA t d := by
  rw [decay_log, keep_eq]
  rfl

theorem decay_eq : k0_pay14 (k0_pay10 p.lam) p.keep (ix2 (rowOf t b) d) = Ideal.exp ((p.blk b).logA t d) := by
  rw [decay, log_eq]

theorem push_eq : k0_pay15 p.conv (k0_pay10 p.lam) p.keep p.inp (ix2 (rowOf t b) d) = (p.blk b).push t d := by
  rw [pushed, log_eq, size_damp _ (logA_nonpos _ _ _), inp_eq, conv_eq]
  rfl

theorem state0_eq : k0_pay16 p.conv (k0_pay10 p.lam) p.keep p.inp p.h (ix2 b d) = (p.blk b).state0 d := by
  rw [first, decay_eq, push_eq]
  rfl

theorem state1_eq : k0_pay17 p.conv (k0_pay10 p.lam) p.keep p.inp p.h (ix2 b d) = (p.blk b).state1 d := by
  rw [second, decay_eq, push_eq, state0_eq]
  rfl

theorem state2_eq : k0_pay18 p.conv (k0_pay10 p.lam) p.keep p.inp p.h (ix2 b d) = (p.blk b).state2 d := by
  rw [third, decay_eq, push_eq, state1_eq]
  rfl

theorem state3_eq : k0_pay19 p.conv (k0_pay10 p.lam) p.keep p.inp p.h (ix2 b d) = (p.blk b).state3 d := by
  rw [fourth, decay_eq, push_eq, state2_eq]
  rfl

theorem gate_eq : k0_pay3 p.rows p.wg (ix2 (rowOf t b) d) = (p.blk b).gate t d := by
  rw [product]
  exact Finset.sum_congr rfl fun a _ => congrArg (· * _) (p.rows_eq t b a)

/-- The stored result. -/
def res : FVec Ideal S128x256 .bf16 :=
  k0_pay1 (k0_pay3 p.rows p.wg) (k0_pay16 p.conv (k0_pay10 p.lam) p.keep p.inp p.h) (k0_pay17 p.conv (k0_pay10 p.lam) p.keep p.inp p.h)
    (k0_pay18 p.conv (k0_pay10 p.lam) p.keep p.inp p.h) (k0_pay19 p.conv (k0_pay10 p.lam) p.keep p.inp p.h)

theorem res_eq : p.res (ix2 (rowOf t b) d) = (p.blk b).out t d := by
  unfold res
  rw [stacked, state0_eq, state1_eq, state2_eq, state3_eq, gate_eq]
  rfl

theorem saved_eq (k : Fin 3) : k0_pay8 (k0_pay4 p.rows p.wx p.buf) (ix2 (keptOf k b) d) = (p.blk b).pad ⟨k.val + 4, by omega⟩ d := by
  rw [saved, pad_eq]

end Args

end Cert.Kernel3Ideal.Tile

end
-- ==== Proof.Samp.Run.lean ====
module

public import proofs.«01_k».proof.Proof.Gen.Kernel3Ideal.Frame
public import proofs.«01_k».proof.Proof.Samp.Chain

/-! # What one grid point leaves in its results and in the kept rows

The first grid point normalises the rows and keeps them; every later one reads the kept rows. Either way the results are the
same functions of the blocks. -/

@[expose] public section

set_option maxRecDepth 65536

noncomputable section

namespace Cert.Kernel3Ideal.Tile

open Cert.Kernel3Ideal Cert.Kernel3Ideal.Gen Idealize.ShloMosaic Idealize.ShloMosaic.TcCoe Cert.Mid Cert.Samp

theorem zero2 : (![0, 0] : Fin 2 → ℕ) = fun _ => 0 := by
  funext d
  fin_cases d <;> rfl

theorem zero3 : (![0, 0, 0] : Fin 3 → ℕ) = fun _ => 0 := by
  funext d
  fin_cases d <;> rfl

/-- A whole argument, read whole. -/
theorem read_all {S : Shape} {e : EltTy} (a : Memref sig .tc .vmem S e) (h : a.IsWhole) (x : Vec Ideal S e) {off : Fin S.rank → ℕ}
    (hz : off = fun _ => 0) (inb : ∀ d, off d + S.size d ≤ S.size d) :
    View.readAt (Elt Ideal) a.view (Rect.unit off S.size inb).toLoadRect (h.unread x) = x := by
  rw [View.readAt_eq_ld, h.read_unread, View.ld_unit_zero hz]

/-- One tap of the convolution. -/
theorem read_tap (a : Memref sig .tc .vmem S4x256 .f32) (h : a.IsWhole) (x : Vec Ideal S4x256 .f32) (n : ℕ) (hn : n < 4)
    (inb : ∀ d, (![n, 0] : Fin 2 → ℕ) d + S1x256.size d ≤ S4x256.size d) :
    View.readAt (Elt Ideal) a.view (Rect.unit (s := S4x256) ![n, 0] S1x256.size inb).toLoadRect (h.unread x)
      = fun j : S1x256.Idx => x (ix2 ⟨n, hn⟩ (j 1)) := by
  rw [View.readAt_eq_ld, h.read_unread]
  funext j
  refine congrArg x ?_
  funext d
  have h0 : (j 0).val = 0 := Nat.lt_one_iff.mp (j 0).isLt
  fin_cases d <;> exact Fin.ext (by simp [LoadRect.idx, Rect.unit]; try exact h0)

variable (c : Dev nD) (i : grid0.Coords) (arg1 : Memref sig .tc .vmem S128x2048 .f32) (harg1 : arg1.IsWhole) (arg2 : Memref sig .tc .vmem S1x2048 .f32) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x256 .f32) (harg8 : arg8.IsWhole) (arg9 : Memref sig .tc .vmem S1x256x256 .bf16) (harg9 : arg9.IsWhole) (arg10 : Memref sig .tc .vmem S1x256 .f32) (harg10 : arg10.IsWhole) (arg11 : Memref sig .tc .vmem S1x256 .f32) (harg11 : arg11.IsWhole) (arg12 : Memref sig .tc .vmem S96x256 .f32) (harg12 : arg12.IsWhole) (arg13 : Memref sig .tc .vmem S32x256 .f32) (harg13 : arg13.IsWhole) (arg14 : Memref sig .tc .vmem S128x256 .bf16) (harg14 : arg14.IsWhole) (arg15 : Memref sig .tc .vmem S96x256 .f32) (harg15 : arg15.IsWhole) (arg16 : Memref sig .tc .vmem S32x256 .f32) (harg16 : arg16.IsWhole) (arg17 : Memref sig .tc .vmem S128x2048 .bf16) (harg17 : arg17.IsWhole)
  (x0 : Vec Ideal S128x2048 .f32) (x1 : Vec Ideal S1x2048 .f32) (x2 : Vec Ideal S2048x256 .bf16) (x3 : Vec Ideal S2048x256 .bf16) (x4 : Vec Ideal S4x256 .f32) (x5 : Vec Ideal S1x256 .f32) (x6 : Vec Ideal S1x256x256 .bf16) (x7 : Vec Ideal S1x256 .f32) (x8 : Vec Ideal S1x256x256 .bf16) (x9 : Vec Ideal S1x256 .f32) (x10 : Vec Ideal S1x256 .f32) (x11 : Vec Ideal S96x256 .f32) (x12 : Vec Ideal S32x256 .f32)
  (p : Args) (hp : Args.mk x0 x1 x2 x3 x4 x5 x6 x7 x8 x9 x10 x11 x12 = p)

/-- The rows the first grid point keeps, read back. -/
theorem kept_rows : kernelRun0_A.sl.v3 (F := Ideal) c arg1 harg1 arg2 harg2 arg17 x0 x1 = k0_pay2 x0 x1 := by
  unfold kernelRun0_A.sl.v3 kernelRun0_A.sl.HS0_1
  refine (View.readCov_unit_zero _ zero2 _ _).trans ?_
  rw [read_all arg1 harg1 x0 zero2, read_all arg2 harg2 x1 zero2]

include hp in
theorem first13 (hc : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12
    = p.res := by
  subst hp
  unfold out0_A_13
  rw [View.read_writes_junk_eq_canon]
  unfold kernelRun0_A
  dsimp only
  rw [View.canon_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kept_rows c arg1 harg1 arg2 harg2 arg17 x0 x1, read_all arg3 harg3 x2 zero2, read_all arg4 harg4 x3 zero2, read_tap arg5 harg5 x4 0 (by omega), read_tap arg5 harg5 x4 1 (by omega), read_tap arg5 harg5 x4 2 (by omega), read_tap arg5 harg5 x4 3 (by omega), read_all arg6 harg6 x5 zero2, read_all arg7 harg7 x6 zero3, read_all arg8 harg8 x7 zero2, read_all arg9 harg9 x8 zero3, read_all arg10 harg10 x9 zero2, read_all arg11 harg11 x10 zero2, read_all arg12 harg12 x11 zero2, read_all arg13 harg13 x12 zero2]
  rfl

include hp in
theorem first14 (hc : cond0_0 i) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12
    = k0_pay8 (k0_pay4 p.rows p.wx p.buf) := by
  subst hp
  unfold out0_A_14
  rw [View.read_writes_junk_eq_canon]
  unfold kernelRun0_A
  dsimp only
  rw [View.canon_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kept_rows c arg1 harg1 arg2 harg2 arg17 x0 x1, read_all arg3 harg3 x2 zero2, read_all arg4 harg4 x3 zero2, read_tap arg5 harg5 x4 0 (by omega), read_tap arg5 harg5 x4 1 (by omega), read_tap arg5 harg5 x4 2 (by omega), read_tap arg5 harg5 x4 3 (by omega), read_all arg6 harg6 x5 zero2, read_all arg7 harg7 x6 zero3, read_all arg8 harg8 x7 zero2, read_all arg9 harg9 x8 zero3, read_all arg10 harg10 x9 zero2, read_all arg11 harg11 x10 zero2, read_all arg12 harg12 x11 zero2, read_all arg13 harg13 x12 zero2]
  rfl

include hp in
theorem first15 (hc : cond0_0 i) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12
    = k0_pay19 p.conv (k0_pay10 p.lam) p.keep p.inp p.h := by
  subst hp
  unfold out0_A_15
  rw [View.read_writes_junk_eq_canon]
  unfold kernelRun0_A
  dsimp only
  rw [View.canon_unit_zero zero2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kept_rows c arg1 harg1 arg2 harg2 arg17 x0 x1, read_all arg3 harg3 x2 zero2, read_all arg4 harg4 x3 zero2, read_tap arg5 harg5 x4 0 (by omega), read_tap arg5 harg5 x4 1 (by omega), read_tap arg5 harg5 x4 2 (by omega), read_tap arg5 harg5 x4 3 (by omega), read_all arg6 harg6 x5 zero2, read_all arg7 harg7 x6 zero3, read_all arg8 harg8 x7 zero2, read_all arg9 harg9 x8 zero3, read_all arg10 harg10 x9 zero2, read_all arg11 harg11 x10 zero2, read_all arg12 harg12 x11 zero2, read_all arg13 harg13 x12 zero2]
  rfl

/-- The first grid point keeps the normalised rows. -/
theorem firstKept (hc : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12 = k0_pay2 x0 x1 := by
  unfold sout0_A_0
  rw [View.read_writes_junk_eq_canon]
  unfold kernelRun0_A
  dsimp only
  unfold kernelRun0_A.sl.HS0_1
  rw [View.canon_unit_zero zero2, read_all arg1 harg1 x0 zero2, read_all arg2 harg2 x1 zero2]

include hp in
theorem later13 (hc : ¬cond0_0 i) (s : Vec Ideal S128x2048 .bf16) (hs : s = k0_pay2 x0 x1) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12 s
    = p.res := by
  subst hp hs
  unfold out0_B_13
  rw [View.read_writes_junk_eq_canon]
  unfold kernelRun0_B
  dsimp only
  rw [View.canon_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, read_all arg17 harg17 (k0_pay2 x0 x1) zero2, read_all arg3 harg3 x2 zero2, read_all arg4 harg4 x3 zero2, read_tap arg5 harg5 x4 0 (by omega), read_tap arg5 harg5 x4 1 (by omega), read_tap arg5 harg5 x4 2 (by omega), read_tap arg5 harg5 x4 3 (by omega), read_all arg6 harg6 x5 zero2, read_all arg7 harg7 x6 zero3, read_all arg8 harg8 x7 zero2, read_all arg9 harg9 x8 zero3, read_all arg10 harg10 x9 zero2, read_all arg11 harg11 x10 zero2, read_all arg12 harg12 x11 zero2, read_all arg13 harg13 x12 zero2]
  rfl

include hp in
theorem later14 (hc : ¬cond0_0 i) (s : Vec Ideal S128x2048 .bf16) (hs : s = k0_pay2 x0 x1) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12 s
    = k0_pay8 (k0_pay4 p.rows p.wx p.buf) := by
  subst hp hs
  unfold out0_B_14
  rw [View.read_writes_junk_eq_canon]
  unfold kernelRun0_B
  dsimp only
  rw [View.canon_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, read_all arg17 harg17 (k0_pay2 x0 x1) zero2, read_all arg3 harg3 x2 zero2, read_all arg4 harg4 x3 zero2, read_tap arg5 harg5 x4 0 (by omega), read_tap arg5 harg5 x4 1 (by omega), read_tap arg5 harg5 x4 2 (by omega), read_tap arg5 harg5 x4 3 (by omega), read_all arg6 harg6 x5 zero2, read_all arg7 harg7 x6 zero3, read_all arg8 harg8 x7 zero2, read_all arg9 harg9 x8 zero3, read_all arg10 harg10 x9 zero2, read_all arg11 harg11 x10 zero2, read_all arg12 harg12 x11 zero2, read_all arg13 harg13 x12 zero2]
  rfl

include hp in
theorem later15 (hc : ¬cond0_0 i) (s : Vec Ideal S128x2048 .bf16) (hs : s = k0_pay2 x0 x1) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12 s
    = k0_pay19 p.conv (k0_pay10 p.lam) p.keep p.inp p.h := by
  subst hp hs
  unfold out0_B_15
  rw [View.read_writes_junk_eq_canon]
  unfold kernelRun0_B
  dsimp only
  rw [View.canon_unit_zero zero2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, read_all arg17 harg17 (k0_pay2 x0 x1) zero2, read_all arg3 harg3 x2 zero2, read_all arg4 harg4 x3 zero2, read_tap arg5 harg5 x4 0 (by omega), read_tap arg5 harg5 x4 1 (by omega), read_tap arg5 harg5 x4 2 (by omega), read_tap arg5 harg5 x4 3 (by omega), read_all arg6 harg6 x5 zero2, read_all arg7 harg7 x6 zero3, read_all arg8 harg8 x7 zero2, read_all arg9 harg9 x8 zero3, read_all arg10 harg10 x9 zero2, read_all arg11 harg11 x10 zero2, read_all arg12 harg12 x11 zero2, read_all arg13 harg13 x12 zero2]
  rfl

/-- Every later one leaves them. -/
theorem laterKept (hc : ¬cond0_0 i) (s : Vec Ideal S128x2048 .bf16) : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 x11 x12 s = s := rfl

end Cert.Kernel3Ideal.Tile

end
-- ==== Proof.Samp.Blocks.lean ====
module

public import proofs.«01_k».proof.Proof.Gen.Kernel3Ideal.Frame
public import proofs.«01_k».proof.Proof.Samp.Chain
public import Idealize.ShloMosaic.Lib.Pipeline.ValueKit

/-! # What each grid point reads

A grid point takes the tokens whole and one block of 256 columns of everything else. -/

@[expose] public section

set_option maxRecDepth 16384

noncomputable section

namespace Cert.Kernel3Ideal.Blocks

open Cert.Kernel3Ideal Cert.Kernel3Ideal.Gen Idealize.ShloMosaic Idealize.ShloMosaic.TcCoe Cert.Mid Cert.Samp

variable (m : (ℓ : Loc nD τ sig) → Buf (Elt Ideal) ℓ) (c : Dev nD) (t : Fin cfg0.N)

theorem idxWhole : ∀ t : Fin cfg0.N, win0_0.index t = ![0, 0] ∧ win0_1.index t = ![0, 0] :=
  (by decide +kernel : ∀ t : Fin grid0.N, _)

theorem idxTile : ∀ t : Fin cfg0.N, win0_2.index t = ![0, (grid0.coords t 0).val] ∧ win0_3.index t = ![0, 10 + (grid0.coords t 0).val]
    ∧ win0_4.index t = ![0, (grid0.coords t 0).val] ∧ win0_5.index t = ![0, (grid0.coords t 0).val]
    ∧ win0_6.index t = ![(grid0.coords t 0).val, 0, 0] ∧ win0_7.index t = ![0, (grid0.coords t 0).val]
    ∧ win0_8.index t = ![(grid0.coords t 0).val, 0, 0] ∧ win0_9.index t = ![0, (grid0.coords t 0).val]
    ∧ win0_10.index t = ![0, (grid0.coords t 0).val] ∧ win0_11.index t = ![0, (grid0.coords t 0).val]
    ∧ win0_12.index t = ![0, (grid0.coords t 0).val] :=
  (by decide +kernel : ∀ t : Fin grid0.N, _)

theorem idxOut : ∀ t : Fin cfg0.N, win0_13.index t = ![0, (grid0.coords t 0).val] ∧ win0_14.index t = ![0, (grid0.coords t 0).val]
    ∧ win0_15.index t = ![0, (grid0.coords t 0).val] :=
  (by decide +kernel : ∀ t : Fin grid0.N, _)

/-- The block of columns of a grid point. -/
def blockAt (i : grid0.Coords) : Fin 10 := ⟨(i 0).val, (i 0).isLt⟩

theorem entry_x (s : Fin 4) (b : Fin 32) (e : Fin 2048) : (V m c main_v19 : Vec Ideal S128x2048 .f32) (ix2 (rowOf s b) e)
    = m ((c : Thread nD τ).loc main_arg0) (ix3 b s e) := by
  unfold V
  after_results_simp
  pointwise
  refine congrArg _ ?_
  funext d
  fin_cases d <;> exact Fin.ext (by simp [rowOf]; try omega)

theorem entry_buf (k : Fin 3) (b : Fin 32) (e : Fin 2560) : (V m c main_v22 : Vec Ideal S96x2560 .f32) (ix2 (keptOf k b) e)
    = m ((c : Thread nD τ).loc main_arg1) (ix4 b 0 k e) := by
  unfold V
  after_results_simp
  pointwise
  refine congrArg _ ?_
  funext d
  fin_cases d <;> exact Fin.ext (by simp [keptOf]; try omega)

theorem entry_h (b : Fin 32) (e : Fin 2560) : (V m c main_v23 : Vec Ideal S32x2560 .f32) (ix2 b e)
    = m ((c : Thread nD τ).loc main_arg2) (ix3 b 0 e) := by
  unfold V
  after_results_simp
  pointwise

theorem entry_g (e : Fin 2048) : (V m c main_v8 : Vec Ideal S1x2048 .f32) (ix2 0 e) = m ((c : Thread nD τ).loc main_arg3) (ix2 0 e) := by
  unfold V
  after_results_simp
  pointwise

theorem entry_in (a : Fin 2048) (e : Fin 5120) : (V m c main_v1 : Vec Ideal S2048x5120 .bf16) (ix2 a e)
    = m ((c : Thread nD τ).loc main_arg4) (ix3 0 a e) := by
  unfold V
  after_results_simp
  pointwise

theorem entry_cw (k : Fin 4) (e : Fin 2560) : (V m c main_v9 : Vec Ideal S4x2560 .f32) (ix2 k e)
    = m ((c : Thread nD τ).loc main_arg5) (ix3 0 k e) := by
  unfold V
  after_results_simp
  pointwise

theorem entry_cb (e : Fin 2560) : (V m c main_v11 : Vec Ideal S1x2560 .f32) (ix2 0 e) = m ((c : Thread nD τ).loc main_arg6) (ix2 0 e) := by
  unfold V
  after_results_simp
  pointwise

theorem entry_wr (n : Fin 10) (a d : Fin 256) : (V m c main_v3 : Vec Ideal S10x256x256 .bf16) (ix3 n a d)
    = m ((c : Thread nD τ).loc main_arg7) (ix4 0 n a d) := by
  unfold V
  after_results_simp
  pointwise

theorem entry_br (e : Fin 2560) : (V m c main_v13 : Vec Ideal S1x2560 .f32) (ix2 0 e) = m ((c : Thread nD τ).loc main_arg8) (ix2 0 e) := by
  unfold V
  after_results_simp
  pointwise

theorem entry_wi (n : Fin 10) (a d : Fin 256) : (V m c main_v5 : Vec Ideal S10x256x256 .bf16) (ix3 n a d)
    = m ((c : Thread nD τ).loc main_arg9) (ix4 0 n a d) := by
  unfold V
  after_results_simp
  pointwise

theorem entry_bi (e : Fin 2560) : (V m c main_v15 : Vec Ideal S1x2560 .f32) (ix2 0 e) = m ((c : Thread nD τ).loc main_arg10) (ix2 0 e) := by
  unfold V
  after_results_simp
  pointwise

theorem entry_lam (e : Fin 2560) : (V m c main_v17 : Vec Ideal S1x2560 .f32) (ix2 0 e) = m ((c : Thread nD τ).loc main_arg11) (ix2 0 e) := by
  unfold V
  after_results_simp
  pointwise

theorem xs (s : Fin 4) (b : Fin 32) (e : Fin 2048) : (iblk m c 0 t : Vec Ideal S128x2048 .f32) (ix2 (rowOf s b) e)
    = m ((c : Thread nD τ).loc main_arg0) (ix3 b s e) := by
  rw [← entry_x m c s b e]
  blk_ext! [iblk, idxWhole t]

theorem gs (e : Fin 2048) : (iblk m c 1 t : Vec Ideal S1x2048 .f32) (ix2 0 e) = m ((c : Thread nD τ).loc main_arg3) (ix2 0 e) := by
  rw [← entry_g m c e]
  blk_ext! [iblk, idxWhole t]

theorem wxs (a : Fin 2048) (d : Fin 256) : (iblk m c 2 t : Vec Ideal S2048x256 .bf16) (ix2 a d)
    = m ((c : Thread nD τ).loc main_arg4) (ix3 0 a (wideOf (blockAt (grid0.coords t)) d)) := by
  rw [← entry_in m c]
  blk_ext! [iblk, idxTile t]
  rfl

theorem wgs (a : Fin 2048) (d : Fin 256) : (iblk m c 3 t : Vec Ideal S2048x256 .bf16) (ix2 a d)
    = m ((c : Thread nD τ).loc main_arg4) (ix3 0 a (gateOf (blockAt (grid0.coords t)) d)) := by
  rw [← entry_in m c]
  blk_ext! [iblk, idxTile t]
  simp only [gateOf, blockAt]
  omega

theorem cws (k : Fin 4) (d : Fin 256) : (iblk m c 4 t : Vec Ideal S4x256 .f32) (ix2 k d)
    = m ((c : Thread nD τ).loc main_arg5) (ix3 0 k (colOf (blockAt (grid0.coords t)) d)) := by
  rw [← entry_cw m c]
  blk_ext! [iblk, idxTile t]
  rfl

theorem cbs (d : Fin 256) : (iblk m c 5 t : Vec Ideal S1x256 .f32) (ix2 0 d)
    = m ((c : Thread nD τ).loc main_arg6) (ix2 0 (colOf (blockAt (grid0.coords t)) d)) := by
  rw [← entry_cb m c]
  blk_ext! [iblk, idxTile t]
  rfl

theorem wrs (a d : Fin 256) : (iblk m c 6 t : Vec Ideal S1x256x256 .bf16) (ix3 0 a d)
    = m ((c : Thread nD τ).loc main_arg7) (ix4 0 (blockAt (grid0.coords t)) a d) := by
  rw [← entry_wr m c]
  blk_ext! [iblk, idxTile t]
  rfl

theorem brs (d : Fin 256) : (iblk m c 7 t : Vec Ideal S1x256 .f32) (ix2 0 d)
    = m ((c : Thread nD τ).loc main_arg8) (ix2 0 (colOf (blockAt (grid0.coords t)) d)) := by
  rw [← entry_br m c]
  blk_ext! [iblk, idxTile t]
  rfl

theorem wis (a d : Fin 256) : (iblk m c 8 t : Vec Ideal S1x256x256 .bf16) (ix3 0 a d)
    = m ((c : Thread nD τ).loc main_arg9) (ix4 0 (blockAt (grid0.coords t)) a d) := by
  rw [← entry_wi m c]
  blk_ext! [iblk, idxTile t]
  rfl

theorem bis (d : Fin 256) : (iblk m c 9 t : Vec Ideal S1x256 .f32) (ix2 0 d)
    = m ((c : Thread nD τ).loc main_arg10) (ix2 0 (colOf (blockAt (grid0.coords t)) d)) := by
  rw [← entry_bi m c]
  blk_ext! [iblk, idxTile t]
  rfl

theorem lams (d : Fin 256) : (iblk m c 10 t : Vec Ideal S1x256 .f32) (ix2 0 d)
    = m ((c : Thread nD τ).loc main_arg11) (ix2 0 (colOf (blockAt (grid0.coords t)) d)) := by
  rw [← entry_lam m c]
  blk_ext! [iblk, idxTile t]
  rfl

theorem bufs (k : Fin 3) (b : Fin 32) (d : Fin 256) : (iblk m c 11 t : Vec Ideal S96x256 .f32) (ix2 (keptOf k b) d)
    = m ((c : Thread nD τ).loc main_arg1) (ix4 b 0 k (colOf (blockAt (grid0.coords t)) d)) := by
  rw [← entry_buf m c]
  blk_ext! [iblk, idxTile t]
  rfl

theorem hs (b : Fin 32) (d : Fin 256) : (iblk m c 12 t : Vec Ideal S32x256 .f32) (ix2 b d)
    = m ((c : Thread nD τ).loc main_arg2) (ix3 b 0 (colOf (blockAt (grid0.coords t)) d)) := by
  rw [← entry_h m c]
  blk_ext! [iblk, idxTile t]
  rfl

/-- The tokens and their normalisation's weights are the same at every grid point. -/
theorem same_x (t' : Fin cfg0.N) : (iblk m c 0 t : Vec Ideal S128x2048 .f32) = iblk m c 0 t' := by
  funext j
  idx_vars j
  rw [← rowOf_eq j0, xs m c t, xs m c t']

theorem same_g (t' : Fin cfg0.N) : (iblk m c 1 t : Vec Ideal S1x2048 .f32) = iblk m c 1 t' := by
  funext j
  idx_vars j
  obtain rfl : j0 = 0 := Fin.ext (Nat.lt_one_iff.mp j0.isLt)
  rw [gs m c t, gs m c t']

/-- The blocks a grid point reads. -/
def args : Tile.Args where
  x := iblk m c 0 t
  g := iblk m c 1 t
  wx := iblk m c 2 t
  wg := iblk m c 3 t
  cw := iblk m c 4 t
  cb := iblk m c 5 t
  wr := iblk m c 6 t
  br := iblk m c 7 t
  wi := iblk m c 8 t
  bi := iblk m c 9 t
  lam := iblk m c 10 t
  buf := iblk m c 11 t
  h := iblk m c 12 t

end Cert.Kernel3Ideal.Blocks

end
-- ==== Proof.Samp.Ref.lean ====
module

public import proofs.«01_k».proof.Proof.Gen.Reference3Ideal.Read
public import proofs.«01_k».proof.Proof.Samp.Damp

/-! # The four steps as the reference computes them

Every result of the reference, entry by entry, in terms of one sequence and one block of columns. -/

@[expose] public section

set_option maxRecDepth 16384

noncomputable section

namespace Cert.Reference3Ideal.Plain

open Cert.Reference3Ideal Cert.Reference3Ideal.Read Idealize.ShloMosaic Idealize.ShloMosaic.TcCoe Cert.Mid Cert.Samp

/-- The reference's arguments. -/
structure Args where
  x0 : Vec Ideal S32x4x2048 .f32
  x1 : Vec Ideal S32x1x3x2560 .f32
  x2 : Vec Ideal S32x1x2560 .f32
  x3 : Vec Ideal S2x2048 .f32
  x4 : Vec Ideal S1x2048x5120 .f32
  x5 : Vec Ideal S1x4x2560 .f32
  x6 : Vec Ideal S1x2560 .f32
  x7 : Vec Ideal S1x10x256x256 .f32
  x8 : Vec Ideal S1x2560 .f32
  x9 : Vec Ideal S1x10x256x256 .f32
  x10 : Vec Ideal S1x2560 .f32
  x11 : Vec Ideal S1x2560 .f32

namespace Args

variable (p : Args)

/-- Sequence `b` and block `n` of the arguments. -/
def blk (b : Fin 32) (n : Fin 10) : Blk where
  x t e := p.x0 (ix3 b t e)
  g e := p.x3 (ix2 0 e)
  wx a d := p.x4 (ix3 0 a (wideOf n d))
  wg a d := p.x4 (ix3 0 a (gateOf n d))
  cw k d := p.x5 (ix3 0 k (colOf n d))
  cb d := p.x6 (ix2 0 (colOf n d))
  wr a d := p.x7 (ix4 0 n a d)
  br d := p.x8 (ix2 0 (colOf n d))
  wi a d := p.x9 (ix4 0 n a d)
  bi d := p.x10 (ix2 0 (colOf n d))
  lam d := p.x11 (ix2 0 (colOf n d))
  buf k d := p.x1 (ix4 b 0 k (colOf n d))
  h d := p.x2 (ix3 b 0 (colOf n d))

variable (b : Fin 32) (t : Fin 4) (n : Fin 10) (d : Fin 256)

theorem unit_eq (e : Fin 2048) : val_main_v14 (F := Ideal) p.x0 p.x3 (ix3 b t e) = (p.blk b n).unit t e := by
  show _ = normed (fun e => p.x0 (ix3 b t e)) e * p.x3 (ix2 0 e)
  unfold normed val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise

theorem dot_eq (e : Fin 5120) : val_main_v16 (F := Ideal) p.x0 p.x3 p.x4 (ix3 b t e) = ∑ a, (p.blk b n).unit t a * p.x4 (ix3 0 a e) := by
  unfold val_main_v16 val_main_v15
  generalize h : val_main_v14 (F := Ideal) p.x0 p.x3 = P
  pointwise
  subst h
  exact Finset.sum_congr rfl fun a _ => congrArg (· * _) (p.unit_eq b t n a)

theorem proj_eq : val_main_v17 (F := Ideal) p.x0 p.x3 p.x4 (ix3 b t (colOf n d)) = (p.blk b n).proj t d := by
  refine Eq.trans ?_ (p.dot_eq b t n (wideOf n d))
  unfold val_main_v17
  generalize val_main_v16 (F := Ideal) p.x0 p.x3 p.x4 = P
  pointwise
  rfl

theorem gate_eq : val_main_v18 (F := Ideal) p.x0 p.x3 p.x4 (ix3 b t (colOf n d)) = (p.blk b n).gate t d := by
  refine Eq.trans ?_ (p.dot_eq b t n (gateOf n d))
  unfold val_main_v18
  generalize val_main_v16 (F := Ideal) p.x0 p.x3 p.x4 = P
  pointwise
  rfl

theorem pad_eq (k : Fin 7) : val_main_v20 (F := Ideal) p.x0 p.x1 p.x3 p.x4 (ix3 b k (colOf n d)) = (p.blk b n).pad k d := by
  unfold Blk.pad
  simp only [← proj_eq]
  unfold val_main_v20 val_main_v19
  generalize val_main_v17 (F := Ideal) p.x0 p.x3 p.x4 = P
  pointwise
  rfl

theorem conv_eq : val_main_v51 (F := Ideal) p.x0 p.x1 p.x3 p.x4 p.x5 p.x6 (ix3 b t (colOf n d)) = (p.blk b n).conv t d := by
  unfold Blk.conv
  simp only [← pad_eq]
  unfold val_main_v51 val_main_v50 val_main_v49 val_main_v48 val_main_v47 val_main_v46 val_main_v45 val_main_v44 val_main_v43 val_main_v42
    val_main_v41 val_main_v40 val_main_v39 val_main_v38 val_main_v37 val_main_v36 val_main_v35 val_main_v34 val_main_v33 val_main_v32
    val_main_v31 val_main_v30 val_main_v29 val_main_v28 val_main_v27 val_main_v26 val_main_v25 val_main_v24 val_main_v23 val_main_v22
    val_main_v21
  generalize val_main_v20 (F := Ideal) p.x0 p.x1 p.x3 p.x4 = P
  pointwise
  have at_ (i j : Fin 7) (hij : i.val = j.val) : P (ix3 b i (colOf n d)) = P (ix3 b j (colOf n d)) :=
    congrArg (fun z => P (ix3 b z (colOf n d))) (Fin.ext hij)
  refine congrArg₂ (· + ·) (congrArg₂ (· + ·) (congrArg₂ (· + ·) (congrArg₂ (· + ·) rfl ?_) ?_) ?_) ?_ <;>
    exact congrArg (· * _) (at_ _ _ (by simp; try omega))

theorem logit_r : val_main_v57 (F := Ideal) p.x0 p.x1 p.x3 p.x4 p.x5 p.x6 p.x7 (ix3 b t (colOf n d))
    = ∑ a, (p.blk b n).conv t a * (p.blk b n).wr a d := by
  simp only [← conv_eq]
  unfold val_main_v57 val_main_v56 val_main_v55 val_main_v54 val_main_v53
  generalize val_main_v51 (F := Ideal) p.x0 p.x1 p.x3 p.x4 p.x5 p.x6 = P
  pointwise
  have hn : (colOf n d).val / 256 = n.val := by simp only [colOf]; omega
  have hd : (colOf n d).val % 256 = d.val := by simp only [colOf]; omega
  refine Finset.sum_congr rfl fun a _ => (mul_comm _ _).trans (congrArg₂ (· * ·) ?_ ?_)
  · exact congrArg (fun z => P (ix3 b t z)) (Fin.ext (congrArg (· * 256 + a.val) hn))
  · exact congrArg₂ (fun z w => p.x7 (ix4 0 z a w)) (Fin.ext hn) (Fin.ext hd)

theorem keep_eq : val_main_v67 (F := Ideal) p.x0 p.x1 p.x3 p.x4 p.x5 p.x6 p.x7 p.x8 (ix3 b t (colOf n d)) = (p.blk b n).keep t d := by
  unfold Blk.keep sigma
  rw [← logit_r]
  unfold val_main_v67 val_main_v66 val_main_v65 val_main_v64 val_main_v63 val_main_v62 val_main_v61 val_main_v60 val_main_v59 val_main_v58
    val_main_cst_2 val_main_cst_3
  generalize val_main_v57 (F := Ideal) p.x0 p.x1 p.x3 p.x4 p.x5 p.x6 p.x7 = P
  pointwise
  rfl

theorem soft_eq : val_main_v86 (F := Ideal) p.x11 (ix1 (colOf n d)) = soft (-(p.blk b n).lam d) := by
  unfold soft val_main_v86 val_main_call0_v11 val_main_call0_v10 val_main_call0_v9 val_main_call0_v8 val_main_call0_v7 val_main_call0_v6
    val_main_call0_v5 val_main_call0_v4 val_main_call0_v3 val_main_call0_v2 val_main_call0_v1 val_main_call0_v0 val_main_call0_cst
    val_main_v85 val_main_v84
  pointwise
  exact if_neg (fun h => h rfl)

theorem logit_i : val_main_v71 (F := Ideal) p.x0 p.x1 p.x3 p.x4 p.x5 p.x6 p.x9 (ix3 b t (colOf n d))
    = ∑ a, (p.blk b n).conv t a * (p.blk b n).wi a d := by
  simp only [← conv_eq]
  unfold val_main_v71 val_main_v70 val_main_v69 val_main_v68 val_main_v53
  generalize val_main_v51 (F := Ideal) p.x0 p.x1 p.x3 p.x4 p.x5 p.x6 = P
  pointwise
  have hn : (colOf n d).val / 256 = n.val := by simp only [colOf]; omega
  have hd : (colOf n d).val % 256 = d.val := by simp only [colOf]; omega
  refine Finset.sum_congr rfl fun a _ => (mul_comm _ _).trans (congrArg₂ (· * ·) ?_ ?_)
  · exact congrArg (fun z => P (ix3 b t z)) (Fin.ext (congrArg (· * 256 + a.val) hn))
  · exact congrArg₂ (fun z w => p.x9 (ix4 0 z a w)) (Fin.ext hn) (Fin.ext hd)

theorem inp_eq : val_main_v81 (F := Ideal) p.x0 p.x1 p.x3 p.x4 p.x5 p.x6 p.x9 p.x10 (ix3 b t (colOf n d)) = (p.blk b n).inp t d := by
  unfold Blk.inp sigma
  rw [← logit_i]
  unfold val_main_v81 val_main_v80 val_main_v79 val_main_v78 val_main_v77 val_main_v76 val_main_v75 val_main_v74 val_main_v73 val_main_v72
    val_main_cst_4 val_main_cst_5
  generalize val_main_v71 (F := Ideal) p.x0 p.x1 p.x3 p.x4 p.x5 p.x6 p.x9 = P
  pointwise
  rfl

theorem log_eq : val_main_v89 (F := Ideal) p.x0 p.x1 p.x3 p.x4 p.x5 p.x6 p.x7 p.x8 p.x11 (ix3 b t (colOf n d)) = (p.blk b n).logA t d := by
  unfold Blk.logA eight
  rw [← keep_eq, ← soft_eq]
  unfold val_main_v89 val_main_v88 val_main_v87 val_main_v83 val_main_v82 val_main_cst_6
  generalize val_main_v67 (F := Ideal) p.x0 p.x1 p.x3 p.x4 p.x5 p.x6 p.x7 p.x8 = P
  generalize val_main_v86 (F := Ideal) p.x11 = Q
  pointwise

theorem decay_eq : val_main_v90 (F := Ideal) p.x0 p.x1 p.x3 p.x4 p.x5 p.x6 p.x7 p.x8 p.x11 (ix3 b t (colOf n d))
    = Ideal.exp ((p.blk b n).logA t d) := by
  rw [← log_eq]
  unfold val_main_v90
  generalize val_main_v89 (F := Ideal) p.x0 p.x1 p.x3 p.x4 p.x5 p.x6 p.x7 p.x8 p.x11 = P
  pointwise

theorem push_eq : val_main_v97 (F := Ideal) p.x0 p.x1 p.x3 p.x4 p.x5 p.x6 p.x7 p.x8 p.x9 p.x10 p.x11 (ix3 b t (colOf n d))
    = (p.blk b n).push t d := by
  unfold Blk.push damp
  rw [← log_eq, ← inp_eq, ← conv_eq]
  unfold val_main_v97 val_main_v96 val_main_v95 val_main_v94 val_main_v93 val_main_v92 val_main_v91 val_main_cst_7
  generalize val_main_v89 (F := Ideal) p.x0 p.x1 p.x3 p.x4 p.x5 p.x6 p.x7 p.x8 p.x11 = P
  generalize val_main_v81 (F := Ideal) p.x0 p.x1 p.x3 p.x4 p.x5 p.x6 p.x9 p.x10 = Q
  generalize val_main_v51 (F := Ideal) p.x0 p.x1 p.x3 p.x4 p.x5 p.x6 = C
  pointwise

theorem state0_eq : val_main_v104 (F := Ideal) p.x0 p.x1 p.x2 p.x3 p.x4 p.x5 p.x6 p.x7 p.x8 p.x9 p.x10 p.x11 (ix2 b (colOf n d))
    = (p.blk b n).state0 d := by
  unfold Blk.state0 Blk.step
  rw [← decay_eq, ← push_eq]
  unfold val_main_v104 val_main_v103 val_main_v102 val_main_v101 val_main_v100 val_main_v99 val_main_v98
  generalize val_main_v90 (F := Ideal) p.x0 p.x1 p.x3 p.x4 p.x5 p.x6 p.x7 p.x8 p.x11 = P
  generalize val_main_v97 (F := Ideal) p.x0 p.x1 p.x3 p.x4 p.x5 p.x6 p.x7 p.x8 p.x9 p.x10 p.x11 = Q
  pointwise
  rfl

theorem state1_eq : val_main_v110 (F := Ideal) p.x0 p.x1 p.x2 p.x3 p.x4 p.x5 p.x6 p.x7 p.x8 p.x9 p.x10 p.x11 (ix2 b (colOf n d))
    = (p.blk b n).state1 d := by
  unfold Blk.state1 Blk.step
  rw [← decay_eq, ← push_eq, ← state0_eq]
  unfold val_main_v110 val_main_v109 val_main_v108 val_main_v107 val_main_v106 val_main_v105
  generalize val_main_v90 (F := Ideal) p.x0 p.x1 p.x3 p.x4 p.x5 p.x6 p.x7 p.x8 p.x11 = P
  generalize val_main_v97 (F := Ideal) p.x0 p.x1 p.x3 p.x4 p.x5 p.x6 p.x7 p.x8 p.x9 p.x10 p.x11 = Q
  generalize val_main_v104 (F := Ideal) p.x0 p.x1 p.x2 p.x3 p.x4 p.x5 p.x6 p.x7 p.x8 p.x9 p.x10 p.x11 = H
  pointwise

theorem state2_eq : val_main_v116 (F := Ideal) p.x0 p.x1 p.x2 p.x3 p.x4 p.x5 p.x6 p.x7 p.x8 p.x9 p.x10 p.x11 (ix2 b (colOf n d))
    = (p.blk b n).state2 d := by
  unfold Blk.state2 Blk.step
  rw [← decay_eq, ← push_eq, ← state1_eq]
  unfold val_main_v116 val_main_v115 val_main_v114 val_main_v113 val_main_v112 val_main_v111
  generalize val_main_v90 (F := Ideal) p.x0 p.x1 p.x3 p.x4 p.x5 p.x6 p.x7 p.x8 p.x11 = P
  generalize val_main_v97 (F := Ideal) p.x0 p.x1 p.x3 p.x4 p.x5 p.x6 p.x7 p.x8 p.x9 p.x10 p.x11 = Q
  generalize val_main_v110 (F := Ideal) p.x0 p.x1 p.x2 p.x3 p.x4 p.x5 p.x6 p.x7 p.x8 p.x9 p.x10 p.x11 = H
  pointwise

theorem state3_eq : val_main_v122 (F := Ideal) p.x0 p.x1 p.x2 p.x3 p.x4 p.x5 p.x6 p.x7 p.x8 p.x9 p.x10 p.x11 (ix2 b (colOf n d))
    = (p.blk b n).state3 d := by
  unfold Blk.state3 Blk.step
  rw [← decay_eq, ← push_eq, ← state2_eq]
  unfold val_main_v122 val_main_v121 val_main_v120 val_main_v119 val_main_v118 val_main_v117
  generalize val_main_v90 (F := Ideal) p.x0 p.x1 p.x3 p.x4 p.x5 p.x6 p.x7 p.x8 p.x11 = P
  generalize val_main_v97 (F := Ideal) p.x0 p.x1 p.x3 p.x4 p.x5 p.x6 p.x7 p.x8 p.x9 p.x10 p.x11 = Q
  generalize val_main_v116 (F := Ideal) p.x0 p.x1 p.x2 p.x3 p.x4 p.x5 p.x6 p.x7 p.x8 p.x9 p.x10 p.x11 = H
  pointwise

theorem stack_eq : val_main_v127 (F := Ideal) p.x0 p.x1 p.x2 p.x3 p.x4 p.x5 p.x6 p.x7 p.x8 p.x9 p.x10 p.x11 (ix3 b t (colOf n d))
    = (p.blk b n).state t d := by
  unfold Blk.state
  rw [← state0_eq, ← state1_eq, ← state2_eq, ← state3_eq]
  unfold val_main_v127 val_main_v126 val_main_v125 val_main_v124 val_main_v123
  generalize val_main_v104 (F := Ideal) p.x0 p.x1 p.x2 p.x3 p.x4 p.x5 p.x6 p.x7 p.x8 p.x9 p.x10 p.x11 = H0
  generalize val_main_v110 (F := Ideal) p.x0 p.x1 p.x2 p.x3 p.x4 p.x5 p.x6 p.x7 p.x8 p.x9 p.x10 p.x11 = H1
  generalize val_main_v116 (F := Ideal) p.x0 p.x1 p.x2 p.x3 p.x4 p.x5 p.x6 p.x7 p.x8 p.x9 p.x10 p.x11 = H2
  generalize val_main_v122 (F := Ideal) p.x0 p.x1 p.x2 p.x3 p.x4 p.x5 p.x6 p.x7 p.x8 p.x9 p.x10 p.x11 = H3
  fin_cases t <;> pointwise <;> rfl

theorem gated_eq : val_main_v128 (F := Ideal) p.x0 p.x3 p.x4 (ix3 b t (colOf n d)) = (p.blk b n).gate t d * sigma ((p.blk b n).gate t d) := by
  unfold sigma
  rw [← gate_eq]
  unfold val_main_v128 val_main_call1_v5 val_main_call1_v4 val_main_call1_v3 val_main_call1_v2 val_main_call1_v1 val_main_call1_v0
    val_main_call1_cst val_main_call1_cst_0
  generalize val_main_v18 (F := Ideal) p.x0 p.x3 p.x4 = P
  pointwise

theorem out_eq : val_main_v132 (F := Ideal) p.x0 p.x1 p.x2 p.x3 p.x4 p.x5 p.x6 p.x7 p.x8 p.x9 p.x10 p.x11 (ix2 (rowOf t b) (colOf n d))
    = (p.blk b n).out t d := by
  unfold Blk.out
  rw [← gated_eq, ← stack_eq]
  unfold val_main_v132 val_main_v131 val_main_v130 val_main_v129
  generalize val_main_v127 (F := Ideal) p.x0 p.x1 p.x2 p.x3 p.x4 p.x5 p.x6 p.x7 p.x8 p.x9 p.x10 p.x11 = P
  generalize val_main_v128 (F := Ideal) p.x0 p.x3 p.x4 = Q
  pointwise
  have ht : (rowOf t b).val / 32 = t.val := by simp only [rowOf]; omega
  have hb : (rowOf t b).val % 32 = b.val := by simp only [rowOf]; omega
  have at_ (F : FVec Ideal S32x4x2560 .f32) (b' : Fin 32) (t' : Fin 4) (h1 : b'.val = b.val) (h2 : t'.val = t.val) :
      F (ix3 b' t' (colOf n d)) = F (ix3 b t (colOf n d)) := congrArg₂ (fun z w => F (ix3 z w (colOf n d))) (Fin.ext h1) (Fin.ext h2)
  exact congrArg₂ (· * ·) (at_ P _ _ hb ht) (at_ Q _ _ hb ht)

theorem saved_eq (k : Fin 3) : val_main_v134 (F := Ideal) p.x0 p.x1 p.x3 p.x4 (ix2 (keptOf k b) (colOf n d))
    = (p.blk b n).pad ⟨k.val + 4, by omega⟩ d := by
  rw [← pad_eq]
  unfold val_main_v134 val_main_v133 val_main_v52
  generalize val_main_v20 (F := Ideal) p.x0 p.x1 p.x3 p.x4 = P
  pointwise
  have ht : (keptOf k b).val / 32 = k.val := by simp only [keptOf]; omega
  have hb : (keptOf k b).val % 32 = b.val := by simp only [keptOf]; omega
  exact congrArg₂ (fun z w => P (ix3 z w (colOf n d))) (Fin.ext hb) (Fin.ext (by simp [ht]; try omega))

end Args

end Cert.Reference3Ideal.Plain

end
-- ==== Proof.Samp.Final.lean ====
module

public import proofs.«01_k».proof.Proof.Samp.Run
public import proofs.«01_k».proof.Proof.Samp.Blocks
public import proofs.«01_k».proof.Proof.Samp.Ref
public import proofs.«01_k».proof.Proof.Gen.Kernel3Ideal.Value

/-! # The three result arrays

Every grid point writes its 256 columns of the mixer's result, of the kept convolution rows and of the last state; the tiles
cover the arrays, and each entry is the reference's. -/

@[expose] public section

set_option maxRecDepth 16384

noncomputable section

namespace Cert.Kernel3Ideal.Final

open Cert.Kernel3Ideal Cert.Kernel3Ideal.Gen Cert.Kernel3Ideal.Tile Cert.Kernel3Ideal.Blocks Cert.Mid Cert.Samp Idealize.ShloMosaic Idealize.ShloMosaic.TcCoe
open Cert.Reference3Ideal.Read

variable (m : (ℓ : Loc nD τ sig) → Buf (Elt Ideal) ℓ) (c : Dev nD) (t : Fin cfg0.N)

/-- The arguments, as the reference takes them. -/
def given : Cert.Reference3Ideal.Plain.Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)

/-- A grid point reads one block of the arguments. -/
theorem blk_eq (b : Fin 32) : (args m c t).blk b = (given m c).blk b (blockAt (grid0.coords t)) := by
  unfold Tile.Args.blk Cert.Reference3Ideal.Plain.Args.blk args given
  simp only [xs m c t, gs m c t, wxs m c t, wgs m c t, cws m c t, cbs m c t, wrs m c t, brs m c t, wis m c t, bis m c t, lams m c t,
    bufs m c t, hs m c t]

/-- The normalised rows are the same at every grid point. -/
theorem same_rows (t' : Fin cfg0.N) : (args m c t).rows = (args m c t').rows :=
  congrArg₂ k0_pay2 (same_x m c t t') (same_g m c t t')

/-- After every grid point the kept rows are the normalised ones. -/
theorem kept (n : ℕ) (hn : n < cfg0.N) : (outsAt0 m c n hn).2.2.2 = (args m c ⟨n, hn⟩).rows := by
  induction n with
  | zero =>
    refine (congrArg (fun z => z.2.2.2) (outsAt0_A m c ⟨0, hn⟩ rfl)).trans ?_
    dsimp only
    exact firstKept ..
  | succ n ih =>
    by_cases h0 : (n + 1) % 10 = 0
    · refine (congrArg (fun z => z.2.2.2) (outsAt0_A m c ⟨n + 1, hn⟩ h0)).trans ?_
      dsimp only
      exact firstKept ..
    · refine (congrArg (fun z => z.2.2.2) (outsAt0_B m c ⟨n + 1, hn⟩ h0)).trans ?_
      dsimp only
      exact (laterKept ..).trans <| (ih (Nat.lt_of_succ_lt hn)).trans (same_rows m c _ _)

/-- What a grid point past the first reads of the kept rows. -/
theorem carried : (outsAt0 m c (t.val - 1) (Nat.lt_of_le_of_lt (Nat.sub_le _ _) t.isLt)).2.2.2 = (args m c t).rows :=
  (kept m c _ _).trans (same_rows m c _ _)

/-- Column `d` of the tile is column `256 n + d` of the array. -/
theorem place {r : ℕ} (i : Fin 2 → ℕ) (hi : i = ![0, (grid0.coords t 0).val]) (a : Fin r) (d : Fin 256)
    (j : (⟨2, ![r, 2560]⟩ : Shape).Idx) (h0 : (j 0).val = i 0 * r + 1 * a.val) (h1 : (j 1).val = i 1 * 256 + 1 * d.val) :
    ix2 a (colOf (blockAt (grid0.coords t)) d) = j := by
  subst hi
  funext k
  fin_cases k <;> apply Fin.ext
  · exact (h0.trans ((congrArg₂ (· + ·) (Nat.zero_mul r) (Nat.one_mul _)).trans (Nat.zero_add _))).symm
  · exact (h1.trans (congrArg _ (Nat.one_mul _))).symm

/-- The mixer's result, as the reference computes it. -/
def plain13 : Vec Ideal S128x2560 .bf16 := val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem tile13 : (outsAt0 m c t.val t.isLt).1 = (args m c t).res := by
  by_cases h0 : t.val % 10 = 0
  · refine (congrArg (fun z => z.1) (outsAt0_A m c t h0)).trans ?_
    dsimp only
    exact first13 (p := args m c t) (hp := rfl) ..
  · refine (congrArg (fun z => z.1) (outsAt0_B m c t h0)).trans ?_
    dsimp only
    exact later13 (p := args m c t) (hp := rfl) (hs := carried m c t) ..

theorem point13 (r : Fin 128) (d : Fin 256) : ((outsAt0 m c t.val t.isLt).1 : Vec Ideal S128x256 .bf16) (ix2 r d)
    = plain13 m c (ix2 r (colOf (blockAt (grid0.coords t)) d)) := by
  rw [← rowOf_eq r, tile13]
  exact ((args m c t).res_eq _ _ _).trans ((congrArg (fun s : Blk => s.out _ d) (blk_eq m c t _)).trans ((given m c).out_eq _ _ _ d).symm)

theorem final13 : (dats m 0 c).arrAt 13 cfg0.N = plain13 m c := by
  refine (dats m 0 c).arrAt_eq_of_covers 13 (plain13 m c) (by decide +kernel) fun t hf y => ?_
  blk_simp
  rw [after0_13]
  idx_vars y
  exact (point13 m c t _ _).trans (congrArg (plain13 m c) (place t _ (idxOut t).1 _ _ _ rfl rfl))

/-- The kept convolution rows, as the reference computes them. -/
def plain14 : Vec Ideal S96x2560 .f32 := val_main_v134 (F := Ideal) (m ((c : Thread nD τ).loc main_arg0)) (m ((c : Thread nD τ).loc main_arg1)) (m ((c : Thread nD τ).loc main_arg3)) (m ((c : Thread nD τ).loc main_arg4))

theorem tile14 : (outsAt0 m c t.val t.isLt).2.1 = k0_pay8 (k0_pay4 (args m c t).rows (args m c t).wx (args m c t).buf) := by
  by_cases h0 : t.val % 10 = 0
  · refine (congrArg (fun z => z.2.1) (outsAt0_A m c t h0)).trans ?_
    dsimp only
    exact first14 (p := args m c t) (hp := rfl) ..
  · refine (congrArg (fun z => z.2.1) (outsAt0_B m c t h0)).trans ?_
    dsimp only
    exact later14 (p := args m c t) (hp := rfl) (hs := carried m c t) ..

theorem point14 (r : Fin 96) (d : Fin 256) : ((outsAt0 m c t.val t.isLt).2.1 : Vec Ideal S96x256 .f32) (ix2 r d)
    = plain14 m c (ix2 r (colOf (blockAt (grid0.coords t)) d)) := by
  rw [← keptOf_eq r, tile14]
  exact ((args m c t).saved_eq _ _ _).trans ((congrArg (fun s : Blk => s.pad _ d) (blk_eq m c t _)).trans ((given m c).saved_eq _ _ d _).symm)

theorem final14 : (dats m 0 c).arrAt 14 cfg0.N = plain14 m c := by
  refine (dats m 0 c).arrAt_eq_of_covers 14 (plain14 m c) (by decide +kernel) fun t hf y => ?_
  blk_simp
  rw [after0_14]
  idx_vars y
  exact (point14 m c t _ _).trans (congrArg (plain14 m c) (place t _ (idxOut t).2.1 _ _ _ rfl rfl))

/-- The last state, as the reference computes it. -/
def plain15 : Vec Ideal S32x2560 .f32 := val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem tile15 : (outsAt0 m c t.val t.isLt).2.2.1 = k0_pay19 (args m c t).conv (k0_pay10 (args m c t).lam) (args m c t).keep (args m c t).inp (args m c t).h := by
  by_cases h0 : t.val % 10 = 0
  · refine (congrArg (fun z => z.2.2.1) (outsAt0_A m c t h0)).trans ?_
    dsimp only
    exact first15 (p := args m c t) (hp := rfl) ..
  · refine (congrArg (fun z => z.2.2.1) (outsAt0_B m c t h0)).trans ?_
    dsimp only
    exact later15 (p := args m c t) (hp := rfl) (hs := carried m c t) ..

theorem point15 (b : Fin 32) (d : Fin 256) : ((outsAt0 m c t.val t.isLt).2.2.1 : Vec Ideal S32x256 .f32) (ix2 b d)
    = plain15 m c (ix2 b (colOf (blockAt (grid0.coords t)) d)) := by
  rw [tile15]
  exact ((args m c t).state3_eq _ _).trans ((congrArg (fun s : Blk => s.state3 d) (blk_eq m c t _)).trans ((given m c).state3_eq _ _ d).symm)

theorem final15 : (dats m 0 c).arrAt 15 cfg0.N = plain15 m c := by
  refine (dats m 0 c).arrAt_eq_of_covers 15 (plain15 m c) (by decide +kernel) fun t hf y => ?_
  blk_simp
  rw [after0_15]
  idx_vars y
  exact (point15 m c t _ _).trans (congrArg (plain15 m c) (place t _ (idxOut t).2.2 _ _ _ rfl rfl))

end Cert.Kernel3Ideal.Final

end
-- ==== Proof.Samp.Claims.lean ====
module

public import proofs.«01_k».proof.Defs
public import proofs.«01_k».proof.Proof.Samp.Final
public import proofs.«01_k».proof.Proof.Gen.Kernel3.Frame
public import proofs.«01_k».proof.Proof.Gen.Reference3Ideal.Run
public import Idealize.ShloMosaic.Lib.Claim

/-! # The claims about the recurrence of the sample group -/

@[expose] public section

noncomputable section

namespace Cert.SampClaims

open Idealize.ShloMosaic Idealize.ShloMosaic.TcCoe Idealize.SL.Sem Cert.Kernel3Ideal.Final

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The reference's run, its results named. -/
theorem plain_run (m' : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m', fun _ => 0, ρ⟩ fun r =>
      ∀ c : Dev Cert.Reference3Ideal.nD,
      r.2.mem (c.tc.loc Cert.Reference3Ideal.main_v132) = Cert.Reference3Ideal.Read.val_main_v132 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9)) (m' (c.tc.loc Cert.Reference3Ideal.main_arg10)) (m' (c.tc.loc Cert.Reference3Ideal.main_arg11)) ∧
      r.2.mem (c.tc.loc Cert.Reference3Ideal.main_v134) = Cert.Reference3Ideal.Read.val_main_v134 (F := Ideal) (m' (c.tc.loc Cert.Reference3Ideal.main_arg0)) (m' (c.tc.loc Cert.Reference3Ideal.main_arg1)) (m' (c.tc.loc Cert.Reference3Ideal.main_arg3)) (m' (c.tc.loc Cert.Reference3Ideal.main_arg4)) ∧
      r.2.mem (c.tc.loc Cert.Reference3Ideal.main_v122) = Cert.Reference3Ideal.Read.val_main_v122 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9)) (m' (c.tc.loc Cert.Reference3Ideal.main_arg10)) (m' (c.tc.loc Cert.Reference3Ideal.main_arg11)) ∧
      r.2.mem (c.tc.loc Cert.Reference3Ideal.main_arg0) = m' (c.tc.loc Cert.Reference3Ideal.main_arg0) ∧
      r.2.mem (c.tc.loc Cert.Reference3Ideal.main_arg1) = m' (c.tc.loc Cert.Reference3Ideal.main_arg1) ∧
      r.2.mem (c.tc.loc Cert.Reference3Ideal.main_arg2) = m' (c.tc.loc Cert.Reference3Ideal.main_arg2) ∧
      r.2.mem (c.tc.loc Cert.Reference3Ideal.main_arg3) = m' (c.tc.loc Cert.Reference3Ideal.main_arg3) ∧
      r.2.mem (c.tc.loc Cert.Reference3Ideal.main_arg4) = m' (c.tc.loc Cert.Reference3Ideal.main_arg4) ∧
      r.2.mem (c.tc.loc Cert.Reference3Ideal.main_arg5) = m' (c.tc.loc Cert.Reference3Ideal.main_arg5) ∧
      r.2.mem (c.tc.loc Cert.Reference3Ideal.main_arg6) = m' (c.tc.loc Cert.Reference3Ideal.main_arg6) ∧
      r.2.mem (c.tc.loc Cert.Reference3Ideal.main_arg7) = m' (c.tc.loc Cert.Reference3Ideal.main_arg7) ∧
      r.2.mem (c.tc.loc Cert.Reference3Ideal.main_arg8) = m' (c.tc.loc Cert.Reference3Ideal.main_arg8) ∧
      r.2.mem (c.tc.loc Cert.Reference3Ideal.main_arg9) = m' (c.tc.loc Cert.Reference3Ideal.main_arg9) ∧
      r.2.mem (c.tc.loc Cert.Reference3Ideal.main_arg10) = m' (c.tc.loc Cert.Reference3Ideal.main_arg10) ∧
      r.2.mem (c.tc.loc Cert.Reference3Ideal.main_arg11) = m' (c.tc.loc Cert.Reference3Ideal.main_arg11) :=
  (θ_run Cert.Reference3Ideal.defs _ _).mono (fun _ h c =>
      ⟨(h c).1.trans (Cert.Reference3Ideal.Read.val_main_v132_eq (StableHlo.launchContents m' c)),
        (h c).2.1.trans (Cert.Reference3Ideal.Read.val_main_v134_eq (StableHlo.launchContents m' c)),
        (h c).2.2.1.trans (Cert.Reference3Ideal.Read.val_main_v122_eq (StableHlo.launchContents m' c)), (h c).2.2.2⟩)
    (Cert.Reference3Ideal.Value.run (F := Ideal) m' ρ)

theorem preserves : Cert.preserves_Kernel3_Kernel3Ideal := trivial

/-- All three arrays are the reference's. -/
theorem algebraic : Cert.algebraic_Kernel3Ideal_Reference3Ideal := by
  pair_intro
  · run_from Cert.Kernel3Ideal.Value.run_blocks m g
  · run_from plain_run m' g'
    · exact (final13 m c).symm
    · exact (final14 m c).symm
    · exact (final15 m c).symm

end Cert.SampClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Frames
public import proofs.«01_k».proof.Proof.Value
public import proofs.«01_k».proof.Proof.Mid.Claims
public import proofs.«01_k».proof.Proof.Samp.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, AttnClaims.finiteFacts, AttnClaims.frame_p, AttnClaims.frame_pi, AttnClaims.frame_pi_finite,
    AttnClaims.frame_ri, AttnClaims.frame_ri_finite, MidClaims.frame_p, MidClaims.frame_pi, MidClaims.frame_ri, SampClaims.frame_p, SampClaims.frame_pi, SampClaims.frame_ri, AttnClaims.preserves,
    AttnClaims.algebraic, MidClaims.preserves, MidClaims.algebraic, SampClaims.preserves, SampClaims.algebraic⟩

end Cert.Proof

end
